-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v39_0)) (v1 : (c : Dev Cert.KernelIdeal.nD) → Buf (Elt Ideal) ((c.tc : Thread Cert.KernelIdeal.nD Cert.KernelIdeal.τ).loc Cert.KernelIdeal.main_v39_1)) (v2 : (c : Dev Cert.KernelIdeal.nD) → Buf (Elt Ideal) ((c.tc : Thread Cert.KernelIdeal.nD Cert.KernelIdeal.τ).loc Cert.KernelIdeal.main_v39_2)) (v3 : (c : Dev Cert.KernelIdeal.nD) → Buf (Elt Ideal) ((c.tc : Thread Cert.KernelIdeal.nD Cert.KernelIdeal.τ).loc Cert.KernelIdeal.main_v39_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_v39_1) = v1 c
          ∧ r.2.mem ((c.tc : Thread Cert.KernelIdeal.nD Cert.KernelIdeal.τ).loc Cert.KernelIdeal.main_v39_2) = v2 c
          ∧ r.2.mem ((c.tc : Thread Cert.KernelIdeal.nD Cert.KernelIdeal.τ).loc Cert.KernelIdeal.main_v39_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_v105) = v2 c
          ∧ r.2.mem ((c.tc : Thread Cert.ReferenceIdeal.nD Cert.ReferenceIdeal.τ).loc Cert.ReferenceIdeal.main_v106) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v31) = v0 c
          ∧ r.2.mem ((c.tc : Thread Cert.Reference8Ideal.nD Cert.Reference8Ideal.τ).loc Cert.Reference8Ideal.main_v32) = v1 c
          ∧ r.2.mem ((c.tc : Thread Cert.Reference8Ideal.nD Cert.Reference8Ideal.τ).loc Cert.Reference8Ideal.main_v34) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_finite.lean ====
abbrev S8192x512 : Shape := ⟨2, ![8192, 512]⟩
abbrev S8x8192 : Shape := ⟨2, ![8, 8192]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  bcast_S_S8x8192 : S_.BroadcastsInDim S8x8192 (![] : Fin 0 → Fin S8x8192.rank)

variable [Facts]

def fn {F : FTy → Type} [FloatOps F] (main_arg0 : FVec F S8192x512 .bf16) (main_arg1 : FVec F S8192x512 .bf16) (main_arg2 : FVec F S8192x512 .bf16) (main_arg3 : FVec F S8x8192 .f32) (main_arg4 : FVec F S8192x512 .bf16) : IVec S8192x512 1 × IVec S8192x512 1 × IVec S8192x512 1 × IVec S8x8192 1 × IVec S8192x512 1 :=
  let main_v0 : FVec F S8192x512 .f32 := (extf .f32 · bitsLt_bf16_f32) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S8192x512 .f32 := (extf .f32 · bitsLt_bf16_f32) main_arg1
  let main_v5 : FVec F S8192x512 .f32 := Host.absf main_v4
  let main_cst_0 : FVec F S_ .f32 := constant S_ .f32 0x7F800000#32
  let main_v6 : FVec F S8192x512 .f32 := broadcastInDim S8192x512 ![] bcast_S_S8192x512 main_cst_0
  let main_v7 : IVec S8192x512 1 := cmpf .olt main_v5 main_v6
  let main_v8 : FVec F S8192x512 .f32 := (extf .f32 · bitsLt_bf16_f32) main_arg2
  let main_v9 : FVec F S8192x512 .f32 := Host.absf main_v8
  let main_cst_1 : FVec F S_ .f32 := constant S_ .f32 0x7F800000#32
  let main_v10 : FVec F S8192x512 .f32 := broadcastInDim S8192x512 ![] bcast_S_S8192x512 main_cst_1
  let main_v11 : IVec S8192x512 1 := cmpf .olt main_v9 main_v10
  let main_v12 : FVec F S8x8192 .f32 := Host.absf main_arg3
  let main_cst_2 : FVec F S_ .f32 := constant S_ .f32 0x7F800000#32
  let main_v13 : FVec F S8x8192 .f32 := broadcastInDim S8x8192 ![] bcast_S_S8x8192 main_cst_2
  let main_v14 : IVec S8x8192 1 := cmpf .olt main_v12 main_v13
  let main_v15 : FVec F S8192x512 .f32 := (extf .f32 · bitsLt_bf16_f32) main_arg4
  let main_v16 : FVec F S8192x512 .f32 := Host.absf main_v15
  let main_cst_3 : FVec F S_ .f32 := constant S_ .f32 0x7F800000#32
  let main_v17 : FVec F S8192x512 .f32 := broadcastInDim S8192x512 ![] bcast_S_S8192x512 main_cst_3
  let main_v18 : IVec S8192x512 1 := cmpf .olt main_v16 main_v17
  (main_v3, main_v7, main_v11, main_v14, main_v18)
-- ==== Kernel.lean ====
abbrev S8192x512 : Shape := ⟨2, ![8192, 512]⟩
abbrev S8x8192 : Shape := ⟨2, ![8, 8192]⟩
abbrev S136 : Shape := ⟨1, ![136]⟩
abbrev S8192x8x64 : Shape := ⟨3, ![8192, 8, 64]⟩
abbrev S8x8192x64 : Shape := ⟨3, ![8, 8192, 64]⟩
abbrev S8x8192x8192 : Shape := ⟨3, ![8, 8192, 8192]⟩
abbrev S_ : Shape := ⟨0, ![]⟩
abbrev S8x8192x1 : Shape := ⟨3, ![8, 8192, 1]⟩
abbrev S8x1x8192 : Shape := ⟨3, ![8, 1, 8192]⟩
abbrev S1x512x64 : Shape := ⟨3, ![1, 512, 64]⟩
abbrev S1 : Shape := ⟨1, ![1]⟩
abbrev S1x512x1 : Shape := ⟨3, ![1, 512, 1]⟩
abbrev S1x1x512 : Shape := ⟨3, ![1, 1, 512]⟩
abbrev S1x8192x64 : Shape := ⟨3, ![1, 8192, 64]⟩
abbrev S512x64 : Shape := ⟨2, ![512, 64]⟩
abbrev S1x512 : Shape := ⟨2, ![1, 512]⟩
abbrev S8192x64 : Shape := ⟨2, ![8192, 64]⟩
abbrev S512x1 : Shape := ⟨2, ![512, 1]⟩
abbrev S512x512 : Shape := ⟨2, ![512, 512]⟩
abbrev S512 : Shape := ⟨1, ![512]⟩

abbrev nBuf : Space → Nat
  | .hbm => 52
  | .vmem => 27
  | .smem => 2
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8x8192, .f32⟩
  | .hbm, ⟨4, _⟩ => ⟨S8192x512, .bf16⟩
  | .hbm, ⟨5, _⟩ => ⟨S8192x8x64, .bf16⟩
  | .hbm, ⟨6, _⟩ => ⟨S8x8192x64, .bf16⟩
  | .hbm, ⟨7, _⟩ => ⟨S8192x8x64, .bf16⟩
  | .hbm, ⟨8, _⟩ => ⟨S8x8192x64, .bf16⟩
  | .hbm, ⟨9, _⟩ => ⟨S8192x8x64, .bf16⟩
  | .hbm, ⟨10, _⟩ => ⟨S8x8192x64, .bf16⟩
  | .hbm, ⟨11, _⟩ => ⟨S8x8192x64, .f32⟩
  | .hbm, ⟨12, _⟩ => ⟨S8x8192x64, .f32⟩
  | .hbm, ⟨13, _⟩ => ⟨S8x8192x64, .f32⟩
  | .hbm, ⟨14, _⟩ => ⟨S8x8192x8192, .f32⟩
  | .hbm, ⟨15, _⟩ => ⟨S_, .f32⟩
  | .hbm, ⟨16, _⟩ => ⟨S8x8192x8192, .f32⟩
  | .hbm, ⟨17, _⟩ => ⟨S8x8192x8192, .f32⟩
  | .hbm, ⟨18, _⟩ => ⟨S8x8192x1, .f32⟩
  | .hbm, ⟨19, _⟩ => ⟨S8x8192x8192, .f32⟩
  | .hbm, ⟨20, _⟩ => ⟨S8x8192x8192, .f32⟩
  | .hbm, ⟨21, _⟩ => ⟨S8x1x8192, .f32⟩
  | .hbm, ⟨22, _⟩ => ⟨S8x8192x8192, .f32⟩
  | .hbm, ⟨23, _⟩ => ⟨S8x8192x8192, .f32⟩
  | .hbm, ⟨24, _⟩ => ⟨S8x8192x8192, .i32⟩
  | .hbm, ⟨25, _⟩ => ⟨S8x8192x8192, .i32⟩
  | .hbm, ⟨26, _⟩ => ⟨S8x8192x8192, .i1⟩
  | .hbm, ⟨27, _⟩ => ⟨S_, .f32⟩
  | .hbm, ⟨28, _⟩ => ⟨S8x8192x8192, .f32⟩
  | .hbm, ⟨29, _⟩ => ⟨S8x8192x8192, .f32⟩
  | .hbm, ⟨30, _⟩ => ⟨S_, .f32⟩
  | .hbm, ⟨31, _⟩ => ⟨S8x8192, .f32⟩
  | .hbm, ⟨32, _⟩ => ⟨S8x8192x1, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S_, .f32⟩
  | .hbm, ⟨37, _⟩ => ⟨S8x8192, .f32⟩
  | .hbm, ⟨38, _⟩ => ⟨S8x8192x1, .f32⟩
  | .hbm, ⟨39, _⟩ => ⟨S8x8192x8192, .f32⟩
  | .hbm, ⟨40, _⟩ => ⟨S8x8192x8192, .f32⟩
  | .hbm, ⟨41, _⟩ => ⟨S8x8192x64, .f32⟩
  | .hbm, ⟨42, _⟩ => ⟨S8x8192x1, .f32⟩
  | .hbm, ⟨43, _⟩ => ⟨S8x8192x1, .f32⟩
  | .hbm, ⟨44, _⟩ => ⟨S8x8192x1, .f32⟩
  | .hbm, ⟨45, _⟩ => ⟨S8x1x8192, .f32⟩
  | .hbm, ⟨46, _⟩ => ⟨S8192x8x64, .bf16⟩
  | .hbm, ⟨47, _⟩ => ⟨S8x8192x64, .bf16⟩
  | .hbm, ⟨48, _⟩ => ⟨S8x8192x64, .f32⟩
  | .hbm, ⟨49, _⟩ => ⟨S8x8192x64, .f32⟩
  | .hbm, ⟨50, _⟩ => ⟨S8x8192x64, .f32⟩
  | .hbm, ⟨51, _⟩ => ⟨S8x1x8192, .f32⟩
  | .local _ .vmem, ⟨0, _⟩ => ⟨S1x512x64, .bf16⟩
  | .local _ .vmem, ⟨1, _⟩ => ⟨S1x512x64, .bf16⟩
  | .local _ .vmem, ⟨2, _⟩ => ⟨S1x512x64, .bf16⟩
  | .local _ .vmem, ⟨3, _⟩ => ⟨S1x512x64, .bf16⟩
  | .local _ .vmem, ⟨4, _⟩ => ⟨S1x512x64, .bf16⟩
  | .local _ .vmem, ⟨5, _⟩ => ⟨S1x512x64, .bf16⟩
  | .local _ .vmem, ⟨6, _⟩ => ⟨S1x512x1, .f32⟩
  | .local _ .vmem, ⟨7, _⟩ => ⟨S1x512x1, .f32⟩
  | .local _ .vmem, ⟨8, _⟩ => ⟨S1x1x512, .f32⟩
  | .local _ .vmem, ⟨9, _⟩ => ⟨S1x1x512, .f32⟩
  | .local _ .vmem, ⟨10, _⟩ => ⟨S1x512x64, .f32⟩
  | .local _ .vmem, ⟨11, _⟩ => ⟨S1x512x64, .f32⟩
  | .local _ .vmem, ⟨12, _⟩ => ⟨S1x512x1, .f32⟩
  | .local _ .vmem, ⟨13, _⟩ => ⟨S1x512x1, .f32⟩
  | .local _ .vmem, ⟨14, _⟩ => ⟨S1x512x64, .bf16⟩
  | .local _ .vmem, ⟨15, _⟩ => ⟨S1x512x64, .bf16⟩
  | .local _ .vmem, ⟨16, _⟩ => ⟨S1x8192x64, .f32⟩
  | .local _ .vmem, ⟨17, _⟩ => ⟨S1x8192x64, .f32⟩
  | .local _ .vmem, ⟨18, _⟩ => ⟨S1x512x64, .f32⟩
  | .local _ .vmem, ⟨19, _⟩ => ⟨S1x512x64, .f32⟩
  | .local _ .vmem, ⟨20, _⟩ => ⟨S1x512x64, .f32⟩
  | .local _ .vmem, ⟨21, _⟩ => ⟨S1x512x64, .f32⟩
  | .local _ .vmem, ⟨22, _⟩ => ⟨S1x1x512, .f32⟩
  | .local _ .vmem, ⟨23, _⟩ => ⟨S1x1x512, .f32⟩
  | .local _ .vmem, ⟨24, _⟩ => ⟨S512x64, .f32⟩
  | .local _ .vmem, ⟨25, _⟩ => ⟨S512x64, .f32⟩
  | .local _ .vmem, ⟨26, _⟩ => ⟨S1x512, .f32⟩
  | .local _ .smem, ⟨0, _⟩ => ⟨S136, .i32⟩
  | .local _ .smem, ⟨1, _⟩ => ⟨S136, .i32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39_0 : Ref sig .tc := ⟨.hbm, 48, rfl⟩
abbrev main_v39_1 : Ref sig .tc := ⟨.hbm, 49, rfl⟩
abbrev main_v39_2 : Ref sig .tc := ⟨.hbm, 50, rfl⟩
abbrev main_v39_3 : Ref sig .tc := ⟨.hbm, 51, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 136], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c512_i32 : BitVec 32 := 512#32
  let v76 : BitVec 32 := Scalar.muli v1 c512_i32
  v76
def k0_cond3 (v1 : BitVec 32) (v3 : BitVec 32) : BitVec 1 :=
  let v10 : BitVec 1 := Scalar.cmpi .sgt v1 v3
  let v11 : BitVec 32 := Scalar.extui v10
  let c0_i32_2 : BitVec 32 := 0#32
  let v12 : BitVec 1 := Scalar.cmpi .ne v11 c0_i32_2
  v12

def k0_off2 (v1 : BitVec 32) : Fin 3 → Nat :=
  let c0_47 : Index := 0#32
  let c512_i32 : BitVec 32 := 512#32
  let v76 : BitVec 32 := Scalar.muli v1 c512_i32
  let v77 : BitVec 32 := v76
  let v78 : Index := Scalar.indexCast v77
  let c0_48 : Index := 0#32
  ![0, v78.toNat, 0]
def k0_mult2 (v1 : BitVec 32) : BitVec 32 :=
  let c512_i32 : BitVec 32 := 512#32
  let v81 : BitVec 32 := Scalar.muli v1 c512_i32
  v81
def k0_cond4 (v1 : BitVec 32) (v3 : BitVec 32) : BitVec 1 :=
  let v13 : BitVec 1 := Scalar.cmpi .eq v1 v3
  let v14 : BitVec 32 := Scalar.extui v13
  let c0_i32_3 : BitVec 32 := 0#32
  let v15 : BitVec 1 := Scalar.cmpi .ne v14 c0_i32_3
  v15

def k0_off3 (v1 : BitVec 32) : Fin 3 → Nat :=
  let c0_48 : Index := 0#32
  let c512_i32 : BitVec 32 := 512#32
  let v81 : BitVec 32 := Scalar.muli v1 c512_i32
  let v82 : BitVec 32 := v81
  let v83 : Index := Scalar.indexCast v82
  let c0_49 : Index := 0#32
  ![0, v83.toNat, 0]

def k0_chk1 (v1 : BitVec 32) (v3 : BitVec 32) : Prop :=
  (∀ (k0_h3 : k0_cond3 v1 v3 = 1#1), 512 ∣ (k0_mult1 v1).toNat) ∧
  (∀ (k0_h3 : k0_cond3 v1 v3 = 1#1), ∀ a, (k0_off2 v1) a + S1x512x64.size a ≤ S1x8192x64.size a) ∧
  (∀ (k0_h4 : k0_cond4 v1 v3 = 1#1), 512 ∣ (k0_mult2 v1).toNat) ∧
  (∀ (k0_h4 : k0_cond4 v1 v3 = 1#1), ∀ a, (k0_off3 v1) a + S1x512x64.size a ≤ S1x8192x64.size a)
theorem k0_mult1_dvd : ∀ (v1 : BitVec 32) (v3 : BitVec 32) (k0_hw1 : k0_chk1 v1 v3), ∀ (k0_h3 : k0_cond3 v1 v3 = 1#1), 512 ∣ (k0_mult1 v1).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ a, (k0_off2 v1) a + S1x512x64.size a ≤ S1x8192x64.size a := fun v1 v3 k0_hw1 k0_h3 => k0_hw1.2.1 k0_h3
theorem k0_mult2_dvd : ∀ (v1 : BitVec 32) (v3 : BitVec 32) (k0_hw1 : k0_chk1 v1 v3), ∀ (k0_h4 : k0_cond4 v1 v3 = 1#1), 512 ∣ (k0_mult2 v1).toNat := fun v1 v3 k0_hw1 k0_h4 => k0_hw1.2.2.1 k0_h4
theorem k0_off3_inb : ∀ (v1 : BitVec 32) (v3 : BitVec 32) (k0_hw1 : k0_chk1 v1 v3), ∀ (k0_h4 : k0_cond4 v1 v3 = 1#1), ∀ a, (k0_off3 v1) a + S1x512x64.size a ≤ S1x8192x64.size a := fun v1 v3 k0_hw1 k0_h4 => k0_hw1.2.2.2 k0_h4

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def k0_cond5 (v1 : BitVec 32) : BitVec 1 :=
  let c15_i32 : BitVec 32 := 15#32
  let v16 : BitVec 1 := Scalar.cmpi .eq v1 c15_i32
  let v17 : BitVec 32 := Scalar.extui v16
  let c0_i32_4 : BitVec 32 := 0#32
  let v18 : BitVec 1 := Scalar.cmpi .ne v17 c0_i32_4
  v18

def cc0_transform_0 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_4 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, c0_i32.toNat, v1.toNat]

def cc0_transform_5 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_6 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_7 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_10 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_11 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, c0_i32.toNat, v1.toNat]

abbrev stage0_0 : Fin 2 → Memref sig .tc .vmem S1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8192x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S8192x512 : Shape := ⟨2, ![8192, 512]⟩
abbrev S8x8192 : Shape := ⟨2, ![8, 8192]⟩
abbrev S8192x8x64 : Shape := ⟨3, ![8192, 8, 64]⟩
abbrev S8192 : Shape := ⟨1, ![8192]⟩
abbrev S8x8192x8192 : Shape := ⟨3, ![8, 8192, 8192]⟩
abbrev S_ : Shape := ⟨0, ![]⟩
abbrev S8x8192x1 : Shape := ⟨3, ![8, 8192, 1]⟩
abbrev S8x1x8192 : Shape := ⟨3, ![8, 1, 8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩
abbrev S8x8192x64 : Shape := ⟨3, ![8, 8192, 64]⟩

abbrev nBuf : Space → Nat
  | .hbm => 138
  | .vmem => 0
  | .smem => 0
  | _ => 0

abbrev hbmTy0_0 (i : Nat) : BufTy := match i % 128 with
  | 0 => ⟨S8192x512, .bf16⟩
  | 1 => ⟨S8192x512, .bf16⟩
  | 2 => ⟨S8192x512, .bf16⟩
  | 3 => ⟨S8x8192, .f32⟩
  | 4 => ⟨S8192x512, .bf16⟩
  | 5 => ⟨S8192x512, .f32⟩
  | 6 => ⟨S8192x8x64, .f32⟩
  | 7 => ⟨S8192x512, .f32⟩
  | 8 => ⟨S8192x8x64, .f32⟩
  | 9 => ⟨S8192x512, .f32⟩
  | 10 => ⟨S8192x8x64, .f32⟩
  | 11 => ⟨S8192, .i32⟩
  | 12 => ⟨S8x8192x8192, .f32⟩
  | 13 => ⟨S_, .f32⟩
  | 14 => ⟨S8x8192x8192, .f32⟩
  | 15 => ⟨S8x8192x8192, .f32⟩
  | 16 => ⟨S8x8192x1, .f32⟩
  | 17 => ⟨S8x8192x8192, .f32⟩
  | 18 => ⟨S8x8192x8192, .f32⟩
  | 19 => ⟨S8x1x8192, .f32⟩
  | 20 => ⟨S8x8192x8192, .f32⟩
  | 21 => ⟨S8x8192x8192, .f32⟩
  | 22 => ⟨S1x8192, .i32⟩
  | 23 => ⟨S8192x1, .i32⟩
  | 24 => ⟨S8192x8192, .i32⟩
  | 25 => ⟨S8192x8192, .i32⟩
  | 26 => ⟨S8192x8192, .i1⟩
  | 27 => ⟨S_, .f32⟩
  | 28 => ⟨S_, .f32⟩
  | 29 => ⟨S8x8192x8192, .i1⟩
  | 30 => ⟨S8x8192x8192, .f32⟩
  | 31 => ⟨S8x8192x8192, .f32⟩
  | 32 => ⟨S_, .f32⟩
  | 33 => ⟨S8x8192x8192, .f32⟩
  | 34 => ⟨S_, .f32⟩
  | 35 => ⟨S8x8192, .f32⟩
  | 36 => ⟨S8x8192x1, .f32⟩
  | 37 => ⟨S8x8192x8192, .f32⟩
  | 38 => ⟨S8x8192x8192, .i1⟩
  | 39 => ⟨S8x8192x8192, .f32⟩
  | 40 => ⟨S_, .f32⟩
  | 41 => ⟨S8x8192, .f32⟩
  | 42 => ⟨S_, .f32⟩
  | 43 => ⟨S8x8192, .f32⟩
  | 44 => ⟨S8x8192, .f32⟩
  | 45 => ⟨S_, .f32⟩
  | 46 => ⟨S8x8192, .f32⟩
  | 47 => ⟨S8x8192, .i1⟩
  | 48 => ⟨S_, .f32⟩
  | 49 => ⟨S8x8192, .f32⟩
  | 50 => ⟨S8x8192, .i1⟩
  | 51 => ⟨S_, .f32⟩
  | 52 => ⟨S8x8192, .f32⟩
  | 53 => ⟨S_, .f32⟩
  | 54 => ⟨S8x8192, .f32⟩
  | 55 => ⟨S_, .f32⟩
  | 56 => ⟨S8x8192, .f32⟩
  | 57 => ⟨S8x8192, .f32⟩
  | 58 => ⟨S8x8192, .f32⟩
  | 59 => ⟨S8x8192x1, .f32⟩
  | 60 => ⟨S8x8192x8192, .f32⟩
  | 61 => ⟨S8x8192x8192, .f32⟩
  | 62 => ⟨S8x8192x8192, .f32⟩
  | 63 => ⟨S_, .f32⟩
  | 64 => ⟨S8x8192, .f32⟩
  | 65 => ⟨S8x8192x1, .f32⟩
  | 66 => ⟨S8x8192x8192, .f32⟩
  | 67 => ⟨S8x8192x8192, .f32⟩
  | 68 => ⟨S8x8192x1, .f32⟩
  | 69 => ⟨S_, .f32⟩
  | 70 => ⟨S8x8192x1, .f32⟩
  | 71 => ⟨S8x8192x1, .f32⟩
  | 72 => ⟨S8x8192x8192, .bf16⟩
  | 73 => ⟨S8x8192x8192, .f32⟩
  | 74 => ⟨S8x64x8192, .f32⟩
  | 75 => ⟨S8192x8x64, .f32⟩
  | 76 => ⟨S8192x8x64, .bf16⟩
  | 77 => ⟨S8192x512, .bf16⟩
  | 78 => ⟨S8192x8x64, .bf16⟩
  | 79 => ⟨S8192x8x64, .f32⟩
  | 80 => ⟨S8x64x8192, .f32⟩
  | 81 => ⟨S8x8192x8192, .f32⟩
  | 82 => ⟨S8x64x8192, .f32⟩
  | 83 => ⟨S8192x8x64, .f32⟩
  | 84 => ⟨S8x8192x8192, .bf16⟩
  | 85 => ⟨S8x8192x8192, .f32⟩
  | 86 => ⟨S8x8192x8192, .f32⟩
  | 87 => ⟨S8x8192x8192, .f32⟩
  | 88 => ⟨S8x8192x8192, .f32⟩
  | 89 => ⟨S_, .f32⟩
  | 90 => ⟨S8x8192, .f32⟩
  | 91 => ⟨S8x8192x1, .f32⟩
  | 92 => ⟨S8x8192x1, .f32⟩
  | 93 => ⟨S8x8192x8192, .f32⟩
  | 94 => ⟨S8x8192x8192, .f32⟩
  | 95 => ⟨S_, .f32⟩
  | 96 => ⟨S8x8192, .f32⟩
  | 97 => ⟨S8x8192x8192, .f32⟩
  | 98 => ⟨S8x8192x8192, .f32⟩
  | 99 => ⟨S8x8192x8192, .f32⟩
  | 100 => ⟨S_, .f32⟩
  | 101 => ⟨S8x8192x8192, .f32⟩
  | 102 => ⟨S8x8192x8192, .f32⟩
  | 103 => ⟨S8x8192x8192, .f32⟩
  | 104 => ⟨S_, .f32⟩
  | 105 => ⟨S8x8192, .f32⟩
  | 106 => ⟨S8x1x8192, .f32⟩
  | 107 => ⟨S_, .f32⟩
  | 108 => ⟨S8x8192, .f32⟩
  | 109 => ⟨S_, .f32⟩
  | 110 => ⟨S8x8192, .f32⟩
  | 111 => ⟨S8x8192x1, .f32⟩
  | 112 => ⟨S_, .f32⟩
  | 113 => ⟨S8x8192, .f32⟩
  | 114 => ⟨S8x8192, .f32⟩
  | 115 => ⟨S_, .f32⟩
  | 116 => ⟨S8x8192x8192, .f32⟩
  | 117 => ⟨S8x8192x8192, .f32⟩
  | 118 => ⟨S8x8192x64, .f32⟩
  | 119 => ⟨S8192x8x64, .f32⟩
  | 120 => ⟨S8x8192x64, .f32⟩
  | 121 => ⟨S8192x8x64, .f32⟩
  | 122 => ⟨S8192x512, .f32⟩
  | 123 => ⟨S8192x512, .bf16⟩
  | 124 => ⟨S8192x512, .f32⟩
  | 125 => ⟨S8192x512, .bf16⟩
  | 126 => ⟨S8192x512, .f32⟩
  | 127 => ⟨S8192x512, .bf16⟩
  | _ => ⟨S8192x512, .bf16⟩

abbrev hbmTy0_1 (i : Nat) : BufTy := match i % 128 with
  | 0 => ⟨S8192x512, .f32⟩
  | 1 => ⟨S8192x8x64, .f32⟩
  | 2 => ⟨S8x8192x64, .f32⟩
  | 3 => ⟨S8192x512, .f32⟩
  | 4 => ⟨S8192x8x64, .f32⟩
  | 5 => ⟨S8x8192x64, .f32⟩
  | 6 => ⟨S8192x512, .f32⟩
  | 7 => ⟨S8192x8x64, .f32⟩
  | 8 => ⟨S8x8192x64, .f32⟩
  | 9 => ⟨S8x1x8192, .f32⟩
  | _ => ⟨S8192x512, .bf16⟩

abbrev hbmTy (i : Nat) : BufTy := match i / 128 with
  | 0 => hbmTy0_0 i
  | 1 => hbmTy0_1 i
  | _ => ⟨S8192x512, .bf16⟩

abbrev bufTy : (tb : Table) → Fin (tcTables nBuf tb) → BufTy
  | .hbm, ⟨i, _⟩ => hbmTy i
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_call0_v0 : Ref sig .tc := ⟨.hbm, 28, rfl⟩
abbrev main_v21_1 : Ref sig .tc := ⟨.hbm, 29, rfl⟩
abbrev main_call0_v2 : Ref sig .tc := ⟨.hbm, 30, rfl⟩
abbrev main_v21_0 : Ref sig .tc := ⟨.hbm, 31, rfl⟩
abbrev main_call0_cst : Ref sig .tc := ⟨.hbm, 32, rfl⟩
abbrev main_v21_2 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_11 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_12 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_call1_cst : Ref sig .tc := ⟨.hbm, 100, rfl⟩
abbrev main_call1_v0 : Ref sig .tc := ⟨.hbm, 101, rfl⟩
abbrev main_v76 : Ref sig .tc := ⟨.hbm, 102, rfl⟩
abbrev main_v77 : Ref sig .tc := ⟨.hbm, 103, rfl⟩
abbrev main_cst_13 : Ref sig .tc := ⟨.hbm, 104, rfl⟩
abbrev main_v78 : Ref sig .tc := ⟨.hbm, 105, rfl⟩
abbrev main_v79 : Ref sig .tc := ⟨.hbm, 106, rfl⟩
abbrev main_cst_14 : Ref sig .tc := ⟨.hbm, 107, rfl⟩
abbrev main_v80 : Ref sig .tc := ⟨.hbm, 108, rfl⟩
abbrev main_cst_15 : Ref sig .tc := ⟨.hbm, 109, rfl⟩
abbrev main_v81 : Ref sig .tc := ⟨.hbm, 110, rfl⟩
abbrev main_v82 : Ref sig .tc := ⟨.hbm, 111, rfl⟩
abbrev main_cst_16 : Ref sig .tc := ⟨.hbm, 112, rfl⟩
abbrev main_v83 : Ref sig .tc := ⟨.hbm, 113, rfl⟩
abbrev main_v84 : Ref sig .tc := ⟨.hbm, 114, rfl⟩
abbrev main_cst_17 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩

abbrev nD : Nat := 1
abbrev τ : Topo := Topo.v7x

variable {F : FTy → Type} [FloatOps F]
-- ==== Kernel2.lean ====
abbrev S8192x1024 : Shape := ⟨2, ![8192, 1024]⟩
abbrev S8192x5632 : Shape := ⟨2, ![8192, 5632]⟩
abbrev S1024x5632 : Shape := ⟨2, ![1024, 5632]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S8192x5632 : Shape := ⟨2, ![8192, 5632]⟩
abbrev S1024x5632 : Shape := ⟨2, ![1024, 5632]⟩
abbrev S8192x1024 : Shape := ⟨2, ![8192, 1024]⟩
abbrev S1024x2816 : Shape := ⟨2, ![1024, 2816]⟩
abbrev S512x2816 : Shape := ⟨2, ![512, 2816]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S512x2816, .bf16⟩
  | .local _ .vmem, ⟨3, _⟩ => ⟨S512x2816, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x5632 : Shape := ⟨2, ![8192, 5632]⟩
abbrev S1024x5632 : Shape := ⟨2, ![1024, 5632]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S_, .f32⟩
  | .hbm, ⟨3, _⟩ => ⟨S8192x1024, .f32⟩
  | .hbm, ⟨4, _⟩ => ⟨S1024x5632, .f32⟩
  | .hbm, ⟨5, _⟩ => ⟨S8192x5632, .f32⟩
  | .hbm, ⟨6, _⟩ => ⟨S8192x5632, .f32⟩
  | .hbm, ⟨7, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8192x1024 : Shape := ⟨2, ![8192, 1024]⟩
abbrev S8192x4608 : Shape := ⟨2, ![8192, 4608]⟩
abbrev S1024x4608 : Shape := ⟨2, ![1024, 4608]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4608, .bf16⟩
  | .hbm, ⟨2, _⟩ => ⟨S1024x4608, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 9, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S8192x4608 : Shape := ⟨2, ![8192, 4608]⟩
abbrev S_ : Shape := ⟨0, ![]⟩
abbrev S1024x4608 : Shape := ⟨2, ![1024, 4608]⟩
abbrev S4608x1024 : Shape := ⟨2, ![4608, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4608, .bf16⟩
  | .hbm, ⟨2, _⟩ => ⟨S_, .f32⟩
  | .hbm, ⟨3, _⟩ => ⟨S1024x4608, .f32⟩
  | .hbm, ⟨4, _⟩ => ⟨S8192x1024, .f32⟩
  | .hbm, ⟨5, _⟩ => ⟨S8192x4608, .f32⟩
  | .hbm, ⟨6, _⟩ => ⟨S8192x4608, .f32⟩
  | .hbm, ⟨7, _⟩ => ⟨S4608x1024, .f32⟩
  | .hbm, ⟨8, _⟩ => ⟨S1024x4608, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x4608 : Shape := ⟨2, ![8192, 4608]⟩
abbrev S1024x4608 : Shape := ⟨2, ![1024, 4608]⟩
abbrev S8192x1024 : Shape := ⟨2, ![8192, 1024]⟩
abbrev S1024x1536 : Shape := ⟨2, ![1024, 1536]⟩
abbrev S512x1536 : Shape := ⟨2, ![512, 1536]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4608, .bf16⟩
  | .hbm, ⟨1, _⟩ => ⟨S1024x4608, .bf16⟩
  | .hbm, ⟨2, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S512x1536, .bf16⟩
  | .local _ .vmem, ⟨3, _⟩ => ⟨S512x1536, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x4608 : Shape := ⟨2, ![8192, 4608]⟩
abbrev S1024x4608 : Shape := ⟨2, ![1024, 4608]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x4608, .bf16⟩
  | .hbm, ⟨1, _⟩ => ⟨S1024x4608, .bf16⟩
  | .hbm, ⟨2, _⟩ => ⟨S_, .f32⟩
  | .hbm, ⟨3, _⟩ => ⟨S8192x1024, .f32⟩
  | .hbm, ⟨4, _⟩ => ⟨S1024x4608, .f32⟩
  | .hbm, ⟨5, _⟩ => ⟨S8192x4608, .f32⟩
  | .hbm, ⟨6, _⟩ => ⟨S8192x4608, .f32⟩
  | .hbm, ⟨7, _⟩ => ⟨S8192x1024, .f32⟩
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S8192x2816 : Shape := ⟨2, ![8192, 2816]⟩
abbrev S8192x1024 : Shape := ⟨2, ![8192, 1024]⟩
abbrev S2816x1024 : Shape := ⟨2, ![2816, 1024]⟩
abbrev S2048x256 : Shape := ⟨2, ![2048, 256]⟩
abbrev S2048x512 : Shape := ⟨2, ![2048, 512]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x256, .bf16⟩
  | .local _ .vmem, ⟨1, _⟩ => ⟨S2048x256, .bf16⟩
  | .local _ .vmem, ⟨2, _⟩ => ⟨S2048x512, .bf16⟩
  | .local _ .vmem, ⟨3, _⟩ => ⟨S2048x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S8192x2816, .f32⟩
  | .hbm, ⟨8, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x1024 : Shape := ⟨2, ![8192, 1024]⟩
abbrev S8192x3072 : Shape := ⟨2, ![8192, 3072]⟩
abbrev S8192x2048 : Shape := ⟨2, ![8192, 2048]⟩
abbrev S256x1024 : Shape := ⟨2, ![256, 1024]⟩
abbrev S256x2048 : Shape := ⟨2, ![256, 2048]⟩

abbrev nBuf : Space → Nat
  | .hbm => 7
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S8192x1024, .f32⟩
  | .hbm, ⟨3, _⟩ => ⟨S8192x1024, .f32⟩
  | .hbm, ⟨4, _⟩ => ⟨S8192x1024, .bf16⟩
  | .hbm, ⟨5, _⟩ => ⟨S8192x1024, .bf16⟩
  | .hbm, ⟨6, _⟩ => ⟨S8192x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x2048, .bf16⟩
  | .local _ .vmem, ⟨15, _⟩ => ⟨S256x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S8192x1024 : Shape := ⟨2, ![8192, 1024]⟩
abbrev S8192x3072 : Shape := ⟨2, ![8192, 3072]⟩
abbrev S_ : Shape := ⟨0, ![]⟩
abbrev S8192x2048 : Shape := ⟨2, ![8192, 2048]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | .hbm, ⟨42, _⟩ => ⟨S8192x1024, .bf16⟩
  | .hbm, ⟨43, _⟩ => ⟨S8192x2048, .f32⟩
  | .hbm, ⟨44, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Kernel9.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel10.lean ====
abbrev S8192x1024 : Shape := ⟨2, ![8192, 1024]⟩
abbrev S1024x1536 : Shape := ⟨2, ![1024, 1536]⟩
abbrev S8192x1536 : Shape := ⟨2, ![8192, 1536]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x1536 : Shape := ⟨2, ![1024, 1536]⟩
abbrev S8192x1536 : Shape := ⟨2, ![8192, 1536]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1024, .f32⟩
  | .hbm, ⟨3, _⟩ => ⟨S1024x1536, .f32⟩
  | .hbm, ⟨4, _⟩ => ⟨S8192x1536, .f32⟩
  | .hbm, ⟨5, _⟩ => ⟨S8192x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S8192x1024 : Shape := ⟨2, ![8192, 1024]⟩
abbrev S8192x512 : Shape := ⟨2, ![8192, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S_, .f32⟩
  | .hbm, ⟨3, _⟩ => ⟨S1024x512, .f32⟩
  | .hbm, ⟨4, _⟩ => ⟨S8192x1024, .f32⟩
  | .hbm, ⟨5, _⟩ => ⟨S8192x512, .f32⟩
  | .hbm, ⟨6, _⟩ => ⟨S8192x512, .f32⟩
  | .hbm, ⟨7, _⟩ => ⟨S512x1024, .f32⟩
  | .hbm, ⟨8, _⟩ => ⟨S1024x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S_, .f32⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S8192x512, .f32⟩
  | .hbm, ⟨8, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S_, .f32⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S8192x1024 : Shape := ⟨2, ![8192, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S8192x512 : Shape := ⟨2, ![8192, 512]⟩
abbrev S1024x512 : Shape := ⟨2, ![1024, 512]⟩
abbrev S8192x1024 : Shape := ⟨2, ![8192, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S1024x512, .bf16⟩
  | .hbm, ⟨2, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x512 : Shape := ⟨2, ![8192, 512]⟩
abbrev S1024x512 : Shape := ⟨2, ![1024, 512]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S1024x512, .bf16⟩
  | .hbm, ⟨2, _⟩ => ⟨S_, .f32⟩
  | .hbm, ⟨3, _⟩ => ⟨S8192x1024, .f32⟩
  | .hbm, ⟨4, _⟩ => ⟨S1024x512, .f32⟩
  | .hbm, ⟨5, _⟩ => ⟨S8192x512, .f32⟩
  | .hbm, ⟨6, _⟩ => ⟨S8192x512, .f32⟩
  | .hbm, ⟨7, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel20.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x512, .f32⟩
  | .hbm, ⟨3, _⟩ => ⟨S512x1024, .f32⟩
  | .hbm, ⟨4, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel21.lean ====
abbrev S8192x1024 : Shape := ⟨2, ![8192, 1024]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel22.lean ====
abbrev S8192x1024 : Shape := ⟨2, ![8192, 1024]⟩
abbrev S1024x512 : Shape := ⟨2, ![1024, 512]⟩
abbrev S8192x512 : Shape := ⟨2, ![8192, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S8192x1024 : Shape := ⟨2, ![8192, 1024]⟩
abbrev S1024x512 : Shape := ⟨2, ![1024, 512]⟩
abbrev S8192x512 : Shape := ⟨2, ![8192, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S8192x1024, .f32⟩
  | .hbm, ⟨3, _⟩ => ⟨S1024x512, .f32⟩
  | .hbm, ⟨4, _⟩ => ⟨S8192x512, .f32⟩
  | .hbm, ⟨5, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Fox.Tables.lean ====
/- The two prefetched tables of the attention's backward call and the grid point's tile pair.
   Table 0 holds the query tile and table 1 the key tile of each of the 136 steps of a head: the pairs
   (i, j) with j ≤ i, key tile by key tile. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import Idealize.ShloMosaic.Lib.WordCmp

@[expose] public section

set_option maxRecDepth 16384

noncomputable section

namespace Cert.Fox

open Idealize.ShloMosaic Idealize.ShloMosaic.TcCoe Idealize.ShloMosaic.Tactic
open Cert.KernelIdeal Cert.KernelIdeal.Gen

variable {F : FTy → Type} [FloatOps F]

/-- The tables' contents: the two literals the host code writes. -/
def tabs : pre0.Contents (Elt F) := fun
  | 0 => fun i => lit0 (S136.rowMajor i)
  | 1 => fun i => lit1 (S136.rowMajor i)
  | ⟨_ + 2, h⟩ => absurd h (Nat.not_lt.2 (Nat.le_add_left _ _))

/-- Step of the head at a grid point, as a table index. -/
abbrev stp (i : grid0.Coords) : Fin 136 := i 1

theorem lit0_lt : ∀ n : Fin 136, (lit0 n).toNat < 16 := by decide +kernel
theorem lit1_lt : ∀ n : Fin 136, (lit1 n).toNat < 16 := by decide +kernel

omit [FloatOps F] in
theorem at_0 (i : grid0.Coords) (hin : ∀ a, (k0_off1 i) a + S1.size a ≤ S136.size a) (h1 : S1.numel = 1) :
    (tabs (F := F)).at 0 (Rect.unit (s := S136) ![(Scalar.indexCast (BitVec.ofNat 32 (i 1).val) : Index).toNat] S1.size hin) h1
      = lit0 (stp i) := by
  have he : (k0_off1 i) 0 = (i 1).val := by rw [k0_off1_eq]; rfl
  show lit0 (S136.rowMajor _) = _
  congr 1
  apply Fin.ext
  refine (Shape.rowMajor_val_one _).trans ?_
  show (k0_off1 i) 0 + 1 * 0 = _
  rw [he, Nat.mul_zero, Nat.add_zero]

omit [FloatOps F] in
theorem at_1 (i : grid0.Coords) (hin : ∀ a, (k0_off1 i) a + S1.size a ≤ S136.size a) (h1 : S1.numel = 1) :
    (tabs (F := F)).at 1 (Rect.unit (s := S136) ![(Scalar.indexCast (BitVec.ofNat 32 (i 1).val) : Index).toNat] S1.size hin) h1
      = lit1 (stp i) := by
  have he : (k0_off1 i) 0 = (i 1).val := by rw [k0_off1_eq]; rfl
  show lit1 (S136.rowMajor _) = _
  congr 1
  apply Fin.ext
  refine (Shape.rowMajor_val_one _).trans ?_
  show (k0_off1 i) 0 + 1 * 0 = _
  rw [he, Nat.mul_zero, Nat.add_zero]

theorem tr_qi (i : grid0.Coords) : cc0_transform_0 (F := F) k0_off1_inb numel1_S1 tabs i = ![(i 0).val, (lit0 (stp i)).toNat, 0] := by
  have h0 : (BitVec.ofNat 32 (i 0).val).toNat = (i 0).val := by
    have : (i 0).val < 8 := (i 0).isLt
    rw [BitVec.toNat_ofNat]; omega
  unfold cc0_transform_0
  dsimp only
  rw [at_0, h0]; rfl

theorem tr_kj (i : grid0.Coords) : cc0_transform_1 (F := F) k0_off1_inb numel1_S1 tabs i = ![(i 0).val, (lit1 (stp i)).toNat, 0] := by
  have h0 : (BitVec.ofNat 32 (i 0).val).toNat = (i 0).val := by
    have : (i 0).val < 8 := (i 0).isLt
    rw [BitVec.toNat_ofNat]; omega
  unfold cc0_transform_1
  dsimp only
  rw [at_1, h0]; rfl

theorem tr_kjr (i : grid0.Coords) : cc0_transform_4 (F := F) k0_off1_inb numel1_S1 tabs i = ![(i 0).val, 0, (lit1 (stp i)).toNat] := by
  have h0 : (BitVec.ofNat 32 (i 0).val).toNat = (i 0).val := by
    have : (i 0).val < 8 := (i 0).isLt
    rw [BitVec.toNat_ofNat]; omega
  unfold cc0_transform_4
  dsimp only
  rw [at_1, h0]; rfl

theorem inb_qi (i : grid0.Coords) (c : ℕ) (hc : c = 64 ∨ c = 1) :
    ∀ a : Fin 3, ((![(i 0).val, (lit0 (stp i)).toNat, 0] : Fin 3 → ℕ) a + 1) * (![1, 512, c] : Fin 3 → ℕ) a ≤ (![8, 8192, c] : Fin 3 → ℕ) a := by
  have h0 : (i 0).val < 8 := (i 0).isLt
  have h1 := lit0_lt (stp i)
  intro a
  fin_cases a
  · show ((i 0).val + 1) * 1 ≤ 8; omega
  · show ((lit0 (stp i)).toNat + 1) * 512 ≤ 8192; omega
  · show (0 + 1) * c ≤ c; omega

theorem inb_kj (i : grid0.Coords) :
    ∀ a : Fin 3, ((![(i 0).val, (lit1 (stp i)).toNat, 0] : Fin 3 → ℕ) a + 1) * (![1, 512, 64] : Fin 3 → ℕ) a ≤ (![8, 8192, 64] : Fin 3 → ℕ) a := by
  have h0 : (i 0).val < 8 := (i 0).isLt
  have h1 := lit1_lt (stp i)
  intro a
  fin_cases a
  · show ((i 0).val + 1) * 1 ≤ 8; omega
  · show ((lit1 (stp i)).toNat + 1) * 512 ≤ 8192; omega
  · show (0 + 1) * 64 ≤ 64; omega

theorem inb_kjr (i : grid0.Coords) :
    ∀ a : Fin 3, ((![(i 0).val, 0, (lit1 (stp i)).toNat] : Fin 3 → ℕ) a + 1) * (![1, 1, 512] : Fin 3 → ℕ) a ≤ (![8, 1, 8192] : Fin 3 → ℕ) a := by
  have h0 : (i 0).val < 8 := (i 0).isLt
  have h1 := lit1_lt (stp i)
  intro a
  fin_cases a
  · show ((i 0).val + 1) * 1 ≤ 8; omega
  · show (0 + 1) * 1 ≤ 1; omega
  · show ((lit1 (stp i)).toNat + 1) * 512 ≤ 8192; omega

theorem ok_tabs : ok0 (F := F) tabs := by
  have hq : ∀ i : grid0.Coords, ∀ a, (cc0_transform_0 (F := F) k0_off1_inb numel1_S1 tabs i a + 1) * S1x512x64.size a ≤ S8x8192x64.size a := by
    intro i a; rw [tr_qi]; exact inb_qi i 64 (.inl rfl) a
  have hq1 : ∀ i : grid0.Coords, ∀ a, (cc0_transform_0 (F := F) k0_off1_inb numel1_S1 tabs i a + 1) * S1x512x1.size a ≤ S8x8192x1.size a := by
    intro i a; rw [tr_qi]; exact inb_qi i 1 (.inr rfl) a
  have hk : ∀ i : grid0.Coords, ∀ a, (cc0_transform_1 (F := F) k0_off1_inb numel1_S1 tabs i a + 1) * S1x512x64.size a ≤ S8x8192x64.size a := by
    intro i a; rw [tr_kj]; exact inb_kj i a
  have hr : ∀ i : grid0.Coords, ∀ a, (cc0_transform_4 (F := F) k0_off1_inb numel1_S1 tabs i a + 1) * S1x1x512.size a ≤ S8x1x8192.size a := by
    intro i a; rw [tr_kjr]; exact inb_kjr i a
  unfold ok0
  refine ⟨fun i => ⟨hq i, .inr ?_⟩, fun i => ⟨hk i, .inr ?_⟩, fun i => ⟨hk i, .inr ?_⟩, fun i => ⟨hq1 i, .inl rfl⟩,
    fun i => ⟨hr i, .inl rfl⟩, fun i => ⟨hq i, .inl rfl⟩, fun i => ⟨hq1 i, .inl rfl⟩, fun i => ⟨hq i, .inr ?_⟩,
    fun i => ⟨hk i, .inl rfl⟩, fun i => ⟨hk i, .inl rfl⟩, fun i => ⟨hr i, .inl rfl⟩⟩ <;>
  exact Affine.block_words_dvd (by decide) (by decide)

/-! ## The body's conditions along the steps of a head -/

/-- The condition of the conditional that clears the key tile's three accumulators. -/
abbrev condD (v1 v3 : BitVec 32) : BitVec 1 :=
  Scalar.cmpi .ne (Scalar.extui (Scalar.cmpi .eq v1 v3) : BitVec 32) 0#32

/-- A step's pair lies under the diagonal or on it, and the body branches accordingly. -/
theorem lit_cases : ∀ n : Fin 136,
    (k0_cond3 (lit0 n) (lit1 n) = 1#1 ∧ ¬k0_cond4 (lit0 n) (lit1 n) = 1#1 ∧ ¬condD (lit0 n) (lit1 n) = 1#1)
      ∨ (¬k0_cond3 (lit0 n) (lit1 n) = 1#1 ∧ k0_cond4 (lit0 n) (lit1 n) = 1#1 ∧ condD (lit0 n) (lit1 n) = 1#1) := by
  decide +kernel

/-- The body's side condition: the query tile's rows are inside the block. -/
theorem lit_chk : ∀ n : Fin 136, k0_chk1 (lit0 n) (lit1 n) := by decide +kernel

end Cert.Fox

end
-- ==== Proof.Fox.Body.lean ====
/- The body of the attention's backward call at one grid point, as a step on what it carries: the query
   gradient of the head and the three accumulators of the key tile. One theorem per way through the body's
   conditionals. -/
module

public import proofs.«01_k».proof.Proof.Fox.Tables
public import Idealize.ShloMosaic.Lib.Ring
public import Idealize.ShloMosaic.Lib.VecWindow

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The eight input blocks of a grid point: queries, keys, values, the decay along the query rows and along the
    key columns, the forward result, its log-sum-exp, and the cotangent. -/
structure Blk (F : FTy → Type) [FloatOps F] where
  q : Vec F S1x512x64 .bf16
  k : Vec F S1x512x64 .bf16
  v : Vec F S1x512x64 .bf16
  cq : Vec F S1x512x1 .f32
  ck : Vec F S1x1x512 .f32
  o : Vec F S1x512x64 .f32
  l : Vec F S1x512x1 .f32
  g : Vec F S1x512x64 .bf16

/-- What is carried from grid point to grid point. -/
structure Acc (F : FTy → Type) [FloatOps F] where
  dq : Vec F S1x8192x64 .f32
  dk : Vec F S512x64 .f32
  dv : Vec F S512x64 .f32
  dc : Vec F S1x512 .f32

/-- The three blocks of a key tile as written out. -/
structure Out (F : FTy → Type) [FloatOps F] where
  dk : Vec F S1x512x64 .f32
  dv : Vec F S1x512x64 .f32
  dc : Vec F S1x1x512 .f32

/-- The step at a pair under the diagonal, `w` the query tile. -/
def offStep (w : BitVec 32) (hin : ∀ a, (k0_off2 w) a + S1x512x64.size a ≤ S1x8192x64.size a) (b : Blk F) (a : Acc F) : Acc F where
  dq := VecWindow.put a.dq (k0_off2 w) S1x512x64.size
    (k0_pay5 (k0_pay21 (k0_pay11 b.k) (k0_pay12 b.g) (k0_pay13 b.q b.k b.cq b.ck b.l) (k0_pay14 b.g b.o) b.v
      (VecWindow.window a.dq (k0_off2 w) S1x512x64.size hin)))
  dk := k0_pay20 (k0_pay10 b.q) (k0_pay12 b.g) (k0_pay13 b.q b.k b.cq b.ck b.l) (k0_pay14 b.g b.o) b.v a.dk
  dv := k0_pay16 (k0_pay15 b.q b.k b.g b.cq b.ck b.l a.dv)
  dc := k0_pay18 (k0_pay12 b.g) (k0_pay13 b.q b.k b.cq b.ck b.l) (k0_pay14 b.g b.o) b.v a.dc

/-- The step at a pair on the diagonal: the key tile's accumulators start from zero. -/
def diagStep (w : BitVec 32) (hin : ∀ a, (k0_off3 w) a + S1x512x64.size a ≤ S1x8192x64.size a) (b : Blk F) (a : Acc F) : Acc F where
  dq := VecWindow.put a.dq (k0_off3 w) S1x512x64.size
    (k0_pay6 (k0_pay32 (VecWindow.window a.dq (k0_off3 w) S1x512x64.size hin))
      (k0_pay33 (k0_pay23 b.k) (k0_pay24 b.g) (k0_pay25 b.q b.k b.cq b.ck b.l) (k0_pay26 b.g b.o) b.v))
  dk := k0_pay31 (k0_pay22 b.q) (k0_pay24 b.g) (k0_pay25 b.q b.k b.cq b.ck b.l) (k0_pay26 b.g b.o) b.v k0_pay2
  dv := k0_pay27 (k0_pay24 b.g) (k0_pay25 b.q b.k b.cq b.ck b.l) k0_pay3
  dc := k0_pay29 (k0_pay24 b.g) (k0_pay25 b.q b.k b.cq b.ck b.l) (k0_pay26 b.g b.o) b.v k0_pay4

/-- The state at the head of a head's steps: a zero query gradient. -/
def start (a : Acc F) : Acc F := { a with dq := k0_pay1 }

/-- The key tile's blocks as the body writes them out after its last pair. -/
def Acc.out (a : Acc F) : Out F := ⟨k0_pay7 a.dk, k0_pay8 a.dv, k0_pay9 a.dc⟩

omit [FloatOps F] in
theorem tbl0 (i : grid0.Coords) (hin) : (((Memref.whole main_c).access (Rect.unit (s := S136) (k0_off1 i) S1.size hin) : View sig .tc _ _ _).read (Elt F) (tabs (F := F) 0)) (Shape.Idx.first (s := S1) (numel1_S1.symm ▸ Nat.one_pos)) = lit0 (stp i) :=
  at_0 i hin numel1_S1

omit [FloatOps F] in
theorem tbl1 (i : grid0.Coords) (hin) : (((Memref.whole main_c_0).access (Rect.unit (s := S136) (k0_off1 i) S1.size hin) : View sig .tc _ _ _).read (Elt F) (tabs (F := F) 1)) (Shape.Idx.first (s := S1) (numel1_S1.symm ▸ Nat.one_pos)) = lit1 (stp i) :=
  at_1 i hin numel1_S1

section Run

variable (c : Dev nD) (i : grid0.Coords) (s : PosShare TreeShare)
  (arg4 : Memref sig .tc .vmem S1x512x64 .bf16) (harg4 : arg4.IsWhole)
  (arg5 : Memref sig .tc .vmem S1x512x64 .bf16) (harg5 : arg5.IsWhole)
  (arg6 : Memref sig .tc .vmem S1x512x64 .bf16) (harg6 : arg6.IsWhole)
  (arg7 : Memref sig .tc .vmem S1x512x1 .f32) (harg7 : arg7.IsWhole)
  (arg8 : Memref sig .tc .vmem S1x1x512 .f32) (harg8 : arg8.IsWhole)
  (arg9 : Memref sig .tc .vmem S1x512x64 .f32) (harg9 : arg9.IsWhole)
  (arg10 : Memref sig .tc .vmem S1x512x1 .f32) (harg10 : arg10.IsWhole)
  (arg11 : Memref sig .tc .vmem S1x512x64 .bf16) (harg11 : arg11.IsWhole)
  (arg12 : Memref sig .tc .vmem S1x8192x64 .f32) (harg12 : arg12.IsWhole)
  (arg13 : Memref sig .tc .vmem S1x512x64 .f32) (harg13 : arg13.IsWhole)
  (arg14 : Memref sig .tc .vmem S1x512x64 .f32) (harg14 : arg14.IsWhole)
  (arg15 : Memref sig .tc .vmem S1x1x512 .f32) (harg15 : arg15.IsWhole)
  (arg16 : Memref sig .tc .vmem S512x64 .f32) (harg16 : arg16.IsWhole)
  (arg17 : Memref sig .tc .vmem S512x64 .f32) (harg17 : arg17.IsWhole)
  (arg18 : Memref sig .tc .vmem S1x512 .f32) (harg18 : arg18.IsWhole)

/-- The two tables, at share `s`. -/
def tblHeld : sProp 𝕄 :=
  iprop((((c : Thread nD τ).loc main_c) ↦{s} tabs (F := F) 0) ∗ (((c : Thread nD τ).loc main_c_0) ↦{s} tabs (F := F) 1))

/-- The input blocks' buffers. -/
def insHeld (b : Blk F) : sProp 𝕄 :=
  iprop(owns (c : Thread nD τ) arg4 fullShare b.q ∗ owns (c : Thread nD τ) arg5 fullShare b.k ∗ owns (c : Thread nD τ) arg6 fullShare b.v ∗ owns (c : Thread nD τ) arg7 fullShare b.cq ∗ owns (c : Thread nD τ) arg8 fullShare b.ck ∗ owns (c : Thread nD τ) arg9 fullShare b.o ∗ owns (c : Thread nD τ) arg10 fullShare b.l ∗ owns (c : Thread nD τ) arg11 fullShare b.g)

/-- The carried buffers. -/
def accHeld (a : Acc F) : sProp 𝕄 :=
  iprop(owns (c : Thread nD τ) arg12 fullShare a.dq ∗ owns (c : Thread nD τ) arg16 fullShare a.dk ∗ owns (c : Thread nD τ) arg17 fullShare a.dv ∗ owns (c : Thread nD τ) arg18 fullShare a.dc)

/-- The key tile's output buffers. -/
def outHeld (o : Out F) : sProp 𝕄 :=
  iprop(owns (c : Thread nD τ) arg13 fullShare o.dk ∗ owns (c : Thread nD τ) arg14 fullShare o.dv ∗ owns (c : Thread nD τ) arg15 fullShare o.dc)

set_option maxHeartbeats 1000000 in
/-- A pair under the diagonal, not the last of its key tile. -/
theorem run_off (h1 : ¬k0_cond1 i = 1#1)
    (h2 : ¬condD (lit0 (stp i)) (lit1 (stp i)) = 1#1)
    (h3 : k0_cond3 (lit0 (stp i)) (lit1 (stp i)) = 1#1)
    (h4 : ¬k0_cond4 (lit0 (stp i)) (lit1 (stp i)) = 1#1)
    (h5 : ¬k0_cond5 (lit0 (stp i)) = 1#1)
    (hw : k0_chk1 (lit0 (stp i)) (lit1 (stp i))) (b : Blk F) (a : Acc F) (x : Out F) (E : Set ℕ) (K : PUnit → sProp 𝕄) :
    iprop(tblHeld c s ∗ insHeld c arg4 arg5 arg6 arg7 arg8 arg9 arg10 arg11 b ∗ accHeld c arg12 arg16 arg17 arg18 a ∗ outHeld c arg13 arg14 arg15 x
        ∗ (iprop(tblHeld c s ∗ insHeld c arg4 arg5 arg6 arg7 arg8 arg9 arg10 arg11 b ∗ accHeld c arg12 arg16 arg17 arg18 (offStep (lit0 (stp i)) (k0_off2_inb _ _ hw h3) b a)
            ∗ outHeld c arg13 arg14 arg15 x) -∗ K ⟨⟩))
      ⊢ wp frame (wpE (defs₀ (F := F)) Variants.none c none) E (cc0_fox_bwd i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  obtain ⟨bq, bk, bv, bcq, bck, bo, bl, bg⟩ := b
  obtain ⟨adq, adk, adv, adc⟩ := a
  obtain ⟨xdk, xdv, xdc⟩ := x
  simp only [cc0_fox_bwd_eq_skeleton]; unfold cc0_fox_bwd_skel
  simp only [k0_part1_eq_skeleton, k0_part2_eq_skeleton, k0_part3_eq_skeleton, k0_part4_eq_skeleton]
  unfold tblHeld insHeld accHeld outHeld owns smemLoad smemLoadElt
  simp only [Prog.bind_op, Prog.bind_ret]
  iintro ⟨⟨HT0, HT1⟩, ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨⟨%f12, %hf12, H12⟩, ⟨%f16, %hf16, H16⟩, ⟨%f17, %hf17, H17⟩, ⟨%f18, %hf18, H18⟩⟩, ⟨⟨%f13, %hf13, H13⟩, ⟨%f14, %hf14, H14⟩, ⟨%f15, %hf15, H15⟩⟩, Hk⟩
  iapply (wp_load_rect Variants.none (c : Thread nD τ) none E (m := Memref.whole main_c) (r := Rect.unit (s := S136) (k0_off1 i) S1.size (k0_off1_inb i)) (S := Finset.univ) (q := s) (f := tabs (F := F) 0) (Finset.subset_univ _)) $$ HT0
  iintro HT0
  iapply (wp_load_rect Variants.none (c : Thread nD τ) none E (m := Memref.whole main_c_0) (r := Rect.unit (s := S136) (k0_off1 i) S1.size (k0_off1_inb i)) (S := Finset.univ) (q := s) (f := tabs (F := F) 1) (Finset.subset_univ _)) $$ HT1
  iintro HT1
  rw [tbl0, tbl1]
  subst hf4 hf5 hf6 hf7 hf8 hf9 hf10 hf11 hf12 hf13 hf14 hf15 hf16 hf17 hf18
  sl_exec (disch := first | sl_exact hw | sl_exact h1 | sl_exact h2 | sl_exact h3 | sl_exact h4 | sl_exact h5)
  sl_step

  iapply Hk
  isplitl [HT0 HT1]
  · isplitl [HT0]; · iexact HT0
    iexact HT1
  isplitl [H4 H5 H6 H7 H8 H9 H10 H11]
  · isplitl [H4]
    · iexists _; isplitr; rotate_left; · iexact H4
      ipureintro; rfl
    isplitl [H5]
    · iexists _; isplitr; rotate_left; · iexact H5
      ipureintro; rfl
    isplitl [H6]
    · iexists _; isplitr; rotate_left; · iexact H6
      ipureintro; rfl
    isplitl [H7]
    · iexists _; isplitr; rotate_left; · iexact H7
      ipureintro; rfl
    isplitl [H8]
    · iexists _; isplitr; rotate_left; · iexact H8
      ipureintro; rfl
    isplitl [H9]
    · iexists _; isplitr; rotate_left; · iexact H9
      ipureintro; rfl
    isplitl [H10]
    · iexists _; isplitr; rotate_left; · iexact H10
      ipureintro; rfl
    iexists _; isplitr; rotate_left; · iexact H11
    ipureintro; rfl
  isplitl [H12 H16 H17 H18]
  · isplitl [H12]
    · iexists _; isplitr; rotate_left; · iexact H12
      ipureintro; delta run_off.sl.r run_off.sl.r_1 run_off.sl.r_2 run_off.sl.r_3 run_off.sl.r_4 run_off.sl.r_5 run_off.sl.r_6; simp only [View.readAt_full (s := S1x512x64), View.readAt_full (s := S1x512x1), View.readAt_full (s := S1x1x512), View.readAt_full (s := S512x64), View.readAt_full (s := S1x512), View.read_writes_cons_put _ _ _ _ _ rfl, View.readAt_unit (s := S1x8192x64) (size := S1x512x64.size) arg12.view _ _ rfl (k0_off2_inb _ _ hw h3), View.writes_nil]; rfl
    isplitl [H16]
    · iexists _; isplitr; rotate_left; · iexact H16
      ipureintro; delta run_off.sl.r run_off.sl.r_2 run_off.sl.r_3 run_off.sl.r_4; simp only [View.readAt_full (s := S1x512x64), View.readAt_full (s := S1x512x1), View.readAt_full (s := S1x1x512), View.readAt_full (s := S512x64), View.readAt_full (s := S1x512), View.readCov_full (s := S512x64), View.readCov_full (s := S1x512), View.readAt_writes_full (s := S512x64), View.readAt_writes_full (s := S1x512), View.read_writes_full (s := S1x512x64), View.read_writes_full (s := S1x1x512), View.read_writes_full (s := S512x64), View.read_writes_full (s := S1x512)]; rfl
    isplitl [H17]
    · iexists _; isplitr; rotate_left; · iexact H17
      ipureintro; delta run_off.sl.r_5; simp only [View.readAt_full (s := S1x512x64), View.readAt_full (s := S1x512x1), View.readAt_full (s := S1x1x512), View.readAt_full (s := S512x64), View.readAt_full (s := S1x512), View.readCov_full (s := S512x64), View.readCov_full (s := S1x512), View.readAt_writes_full (s := S512x64), View.readAt_writes_full (s := S1x512), View.read_writes_full (s := S1x512x64), View.read_writes_full (s := S1x1x512), View.read_writes_full (s := S512x64), View.read_writes_full (s := S1x512)]; rfl
    iexists _; isplitr; rotate_left; · iexact H18
    ipureintro; delta run_off.sl.r_2 run_off.sl.r_3 run_off.sl.r_4; simp only [View.readAt_full (s := S1x512x64), View.readAt_full (s := S1x512x1), View.readAt_full (s := S1x1x512), View.readAt_full (s := S512x64), View.readAt_full (s := S1x512), View.readCov_full (s := S512x64), View.readCov_full (s := S1x512), View.readAt_writes_full (s := S512x64), View.readAt_writes_full (s := S1x512), View.read_writes_full (s := S1x512x64), View.read_writes_full (s := S1x1x512), View.read_writes_full (s := S512x64), View.read_writes_full (s := S1x512)]; rfl
  isplitl [H13]
  · iexists _; isplitr; rotate_left; · iexact H13
    ipureintro; rfl
  isplitl [H14]
  · iexists _; isplitr; rotate_left; · iexact H14
    ipureintro; rfl
  iexists _; isplitr; rotate_left; · iexact H15
  ipureintro; rfl

set_option maxHeartbeats 1000000 in
/-- The last pair of a key tile, under the diagonal: its three blocks are written out. -/
theorem run_off_last (h1 : ¬k0_cond1 i = 1#1)
    (h2 : ¬condD (lit0 (stp i)) (lit1 (stp i)) = 1#1)
    (h3 : k0_cond3 (lit0 (stp i)) (lit1 (stp i)) = 1#1)
    (h4 : ¬k0_cond4 (lit0 (stp i)) (lit1 (stp i)) = 1#1)
    (h5 : k0_cond5 (lit0 (stp i)) = 1#1)
    (hw : k0_chk1 (lit0 (stp i)) (lit1 (stp i))) (b : Blk F) (a : Acc F) (x : Out F) (E : Set ℕ) (K : PUnit → sProp 𝕄) :
    iprop(tblHeld c s ∗ insHeld c arg4 arg5 arg6 arg7 arg8 arg9 arg10 arg11 b ∗ accHeld c arg12 arg16 arg17 arg18 a ∗ outHeld c arg13 arg14 arg15 x
        ∗ (iprop(tblHeld c s ∗ insHeld c arg4 arg5 arg6 arg7 arg8 arg9 arg10 arg11 b ∗ accHeld c arg12 arg16 arg17 arg18 (offStep (lit0 (stp i)) (k0_off2_inb _ _ hw h3) b a)
            ∗ outHeld c arg13 arg14 arg15 (offStep (lit0 (stp i)) (k0_off2_inb _ _ hw h3) b a).out) -∗ K ⟨⟩))
      ⊢ wp frame (wpE (defs₀ (F := F)) Variants.none c none) E (cc0_fox_bwd i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  obtain ⟨bq, bk, bv, bcq, bck, bo, bl, bg⟩ := b
  obtain ⟨adq, adk, adv, adc⟩ := a
  obtain ⟨xdk, xdv, xdc⟩ := x
  simp only [cc0_fox_bwd_eq_skeleton]; unfold cc0_fox_bwd_skel
  simp only [k0_part1_eq_skeleton, k0_part2_eq_skeleton, k0_part3_eq_skeleton, k0_part4_eq_skeleton]
  unfold tblHeld insHeld accHeld outHeld owns smemLoad smemLoadElt
  simp only [Prog.bind_op, Prog.bind_ret]
  iintro ⟨⟨HT0, HT1⟩, ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨⟨%f12, %hf12, H12⟩, ⟨%f16, %hf16, H16⟩, ⟨%f17, %hf17, H17⟩, ⟨%f18, %hf18, H18⟩⟩, ⟨⟨%f13, %hf13, H13⟩, ⟨%f14, %hf14, H14⟩, ⟨%f15, %hf15, H15⟩⟩, Hk⟩
  iapply (wp_load_rect Variants.none (c : Thread nD τ) none E (m := Memref.whole main_c) (r := Rect.unit (s := S136) (k0_off1 i) S1.size (k0_off1_inb i)) (S := Finset.univ) (q := s) (f := tabs (F := F) 0) (Finset.subset_univ _)) $$ HT0
  iintro HT0
  iapply (wp_load_rect Variants.none (c : Thread nD τ) none E (m := Memref.whole main_c_0) (r := Rect.unit (s := S136) (k0_off1 i) S1.size (k0_off1_inb i)) (S := Finset.univ) (q := s) (f := tabs (F := F) 1) (Finset.subset_univ _)) $$ HT1
  iintro HT1
  rw [tbl0, tbl1]
  subst hf4 hf5 hf6 hf7 hf8 hf9 hf10 hf11 hf12 hf13 hf14 hf15 hf16 hf17 hf18
  sl_exec (disch := first | sl_exact hw | sl_exact h1 | sl_exact h2 | sl_exact h3 | sl_exact h4 | sl_exact h5)
  sl_step

  iapply Hk
  isplitl [HT0 HT1]
  · isplitl [HT0]; · iexact HT0
    iexact HT1
  isplitl [H4 H5 H6 H7 H8 H9 H10 H11]
  · isplitl [H4]
    · iexists _; isplitr; rotate_left; · iexact H4
      ipureintro; rfl
    isplitl [H5]
    · iexists _; isplitr; rotate_left; · iexact H5
      ipureintro; rfl
    isplitl [H6]
    · iexists _; isplitr; rotate_left; · iexact H6
      ipureintro; rfl
    isplitl [H7]
    · iexists _; isplitr; rotate_left; · iexact H7
      ipureintro; rfl
    isplitl [H8]
    · iexists _; isplitr; rotate_left; · iexact H8
      ipureintro; rfl
    isplitl [H9]
    · iexists _; isplitr; rotate_left; · iexact H9
      ipureintro; rfl
    isplitl [H10]
    · iexists _; isplitr; rotate_left; · iexact H10
      ipureintro; rfl
    iexists _; isplitr; rotate_left; · iexact H11
    ipureintro; rfl
  isplitl [H12 H16 H17 H18]
  · isplitl [H12]
    · iexists _; isplitr; rotate_left; · iexact H12
      ipureintro; delta run_off_last.sl.r run_off_last.sl.r_1 run_off_last.sl.r_2 run_off_last.sl.r_3 run_off_last.sl.r_4 run_off_last.sl.r_5 run_off_last.sl.r_6; simp only [View.readAt_full (s := S1x512x64), View.readAt_full (s := S1x512x1), View.readAt_full (s := S1x1x512), View.readAt_full (s := S512x64), View.readAt_full (s := S1x512), View.read_writes_cons_put _ _ _ _ _ rfl, View.readAt_unit (s := S1x8192x64) (size := S1x512x64.size) arg12.view _ _ rfl (k0_off2_inb _ _ hw h3), View.writes_nil]; rfl
    isplitl [H16]
    · iexists _; isplitr; rotate_left; · iexact H16
      ipureintro; delta run_off_last.sl.r run_off_last.sl.r_1 run_off_last.sl.r_2 run_off_last.sl.r_3 run_off_last.sl.r_4 run_off_last.sl.r_5 run_off_last.sl.r_6 run_off_last.sl.H16_1; simp only [View.readAt_full (s := S1x512x64), View.readAt_full (s := S1x512x1), View.readAt_full (s := S1x1x512), View.readAt_full (s := S512x64), View.readAt_full (s := S1x512), View.readCov_full (s := S512x64), View.readCov_full (s := S1x512), View.readAt_writes_full (s := S512x64), View.readAt_writes_full (s := S1x512), View.read_writes_full (s := S1x512x64), View.read_writes_full (s := S1x1x512), View.read_writes_full (s := S512x64), View.read_writes_full (s := S1x512)]; rfl
    isplitl [H17]
    · iexists _; isplitr; rotate_left; · iexact H17
      ipureintro; delta run_off_last.sl.r run_off_last.sl.r_1 run_off_last.sl.r_2 run_off_last.sl.r_3 run_off_last.sl.r_4 run_off_last.sl.r_5 run_off_last.sl.r_6 run_off_last.sl.H17_1; simp only [View.readAt_full (s := S1x512x64), View.readAt_full (s := S1x512x1), View.readAt_full (s := S1x1x512), View.readAt_full (s := S512x64), View.readAt_full (s := S1x512), View.readCov_full (s := S512x64), View.readCov_full (s := S1x512), View.readAt_writes_full (s := S512x64), View.readAt_writes_full (s := S1x512), View.read_writes_full (s := S1x512x64), View.read_writes_full (s := S1x1x512), View.read_writes_full (s := S512x64), View.read_writes_full (s := S1x512)]; rfl
    iexists _; isplitr; rotate_left; · iexact H18
    ipureintro; delta run_off_last.sl.r run_off_last.sl.r_1 run_off_last.sl.r_2 run_off_last.sl.r_3 run_off_last.sl.r_4 run_off_last.sl.r_5 run_off_last.sl.r_6 run_off_last.sl.H18_1; simp only [View.readAt_full (s := S1x512x64), View.readAt_full (s := S1x512x1), View.readAt_full (s := S1x1x512), View.readAt_full (s := S512x64), View.readAt_full (s := S1x512), View.readCov_full (s := S512x64), View.readCov_full (s := S1x512), View.readAt_writes_full (s := S512x64), View.readAt_writes_full (s := S1x512), View.read_writes_full (s := S1x512x64), View.read_writes_full (s := S1x1x512), View.read_writes_full (s := S512x64), View.read_writes_full (s := S1x512)]; rfl
  isplitl [H13]
  · iexists _; isplitr; rotate_left; · iexact H13
    ipureintro; delta run_off_last.sl.r run_off_last.sl.r_1 run_off_last.sl.r_2 run_off_last.sl.r_3 run_off_last.sl.r_4 run_off_last.sl.r_5 run_off_last.sl.r_6 run_off_last.sl.H16_1 run_off_last.sl.v19; simp only [View.readAt_full (s := S1x512x64), View.readAt_full (s := S1x512x1), View.readAt_full (s := S1x1x512), View.readAt_full (s := S512x64), View.readAt_full (s := S1x512), View.readCov_full (s := S512x64), View.readCov_full (s := S1x512), View.readAt_writes_full (s := S512x64), View.readAt_writes_full (s := S1x512), View.read_writes_full (s := S1x512x64), View.read_writes_full (s := S1x1x512), View.read_writes_full (s := S512x64), View.read_writes_full (s := S1x512)]; rfl
  isplitl [H14]
  · iexists _; isplitr; rotate_left; · iexact H14
    ipureintro; delta run_off_last.sl.r run_off_last.sl.r_1 run_off_last.sl.r_2 run_off_last.sl.r_3 run_off_last.sl.r_4 run_off_last.sl.r_5 run_off_last.sl.r_6 run_off_last.sl.H17_1 run_off_last.sl.v23; simp only [View.readAt_full (s := S1x512x64), View.readAt_full (s := S1x512x1), View.readAt_full (s := S1x1x512), View.readAt_full (s := S512x64), View.readAt_full (s := S1x512), View.readCov_full (s := S512x64), View.readCov_full (s := S1x512), View.readAt_writes_full (s := S512x64), View.readAt_writes_full (s := S1x512), View.read_writes_full (s := S1x512x64), View.read_writes_full (s := S1x1x512), View.read_writes_full (s := S512x64), View.read_writes_full (s := S1x512)]; rfl
  iexists _; isplitr; rotate_left; · iexact H15
  ipureintro; delta run_off_last.sl.r run_off_last.sl.r_1 run_off_last.sl.r_2 run_off_last.sl.r_3 run_off_last.sl.r_4 run_off_last.sl.r_5 run_off_last.sl.r_6 run_off_last.sl.H18_1 run_off_last.sl.v27; simp only [View.readAt_full (s := S1x512x64), View.readAt_full (s := S1x512x1), View.readAt_full (s := S1x1x512), View.readAt_full (s := S512x64), View.readAt_full (s := S1x512), View.readCov_full (s := S512x64), View.readCov_full (s := S1x512), View.readAt_writes_full (s := S512x64), View.readAt_writes_full (s := S1x512), View.read_writes_full (s := S1x512x64), View.read_writes_full (s := S1x1x512), View.read_writes_full (s := S512x64), View.read_writes_full (s := S1x512)]; rfl

set_option maxHeartbeats 1000000 in
/-- The first pair of a head: the query gradient starts from zero. -/
theorem run_first (h1 : k0_cond1 i = 1#1)
    (h2 : condD (lit0 (stp i)) (lit1 (stp i)) = 1#1)
    (h3 : ¬k0_cond3 (lit0 (stp i)) (lit1 (stp i)) = 1#1)
    (h4 : k0_cond4 (lit0 (stp i)) (lit1 (stp i)) = 1#1)
    (h5 : ¬k0_cond5 (lit0 (stp i)) = 1#1)
    (hw : k0_chk1 (lit0 (stp i)) (lit1 (stp i))) (b : Blk F) (a : Acc F) (x : Out F) (E : Set ℕ) (K : PUnit → sProp 𝕄) :
    iprop(tblHeld c s ∗ insHeld c arg4 arg5 arg6 arg7 arg8 arg9 arg10 arg11 b ∗ accHeld c arg12 arg16 arg17 arg18 a ∗ outHeld c arg13 arg14 arg15 x
        ∗ (iprop(tblHeld c s ∗ insHeld c arg4 arg5 arg6 arg7 arg8 arg9 arg10 arg11 b ∗ accHeld c arg12 arg16 arg17 arg18 (diagStep (lit0 (stp i)) (k0_off3_inb _ _ hw h4) b (start a))
            ∗ outHeld c arg13 arg14 arg15 x) -∗ K ⟨⟩))
      ⊢ wp frame (wpE (defs₀ (F := F)) Variants.none c none) E (cc0_fox_bwd i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  obtain ⟨bq, bk, bv, bcq, bck, bo, bl, bg⟩ := b
  obtain ⟨adq, adk, adv, adc⟩ := a
  obtain ⟨xdk, xdv, xdc⟩ := x
  simp only [cc0_fox_bwd_eq_skeleton]; unfold cc0_fox_bwd_skel
  simp only [k0_part1_eq_skeleton, k0_part2_eq_skeleton, k0_part3_eq_skeleton, k0_part4_eq_skeleton]
  unfold tblHeld insHeld accHeld outHeld owns smemLoad smemLoadElt
  simp only [Prog.bind_op, Prog.bind_ret]
  iintro ⟨⟨HT0, HT1⟩, ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨⟨%f12, %hf12, H12⟩, ⟨%f16, %hf16, H16⟩, ⟨%f17, %hf17, H17⟩, ⟨%f18, %hf18, H18⟩⟩, ⟨⟨%f13, %hf13, H13⟩, ⟨%f14, %hf14, H14⟩, ⟨%f15, %hf15, H15⟩⟩, Hk⟩
  iapply (wp_load_rect Variants.none (c : Thread nD τ) none E (m := Memref.whole main_c) (r := Rect.unit (s := S136) (k0_off1 i) S1.size (k0_off1_inb i)) (S := Finset.univ) (q := s) (f := tabs (F := F) 0) (Finset.subset_univ _)) $$ HT0
  iintro HT0
  iapply (wp_load_rect Variants.none (c : Thread nD τ) none E (m := Memref.whole main_c_0) (r := Rect.unit (s := S136) (k0_off1 i) S1.size (k0_off1_inb i)) (S := Finset.univ) (q := s) (f := tabs (F := F) 1) (Finset.subset_univ _)) $$ HT1
  iintro HT1
  rw [tbl0, tbl1]
  subst hf4 hf5 hf6 hf7 hf8 hf9 hf10 hf11 hf12 hf13 hf14 hf15 hf16 hf17 hf18
  sl_exec (disch := first | sl_exact hw | sl_exact h1 | sl_exact h2 | sl_exact h3 | sl_exact h4 | sl_exact h5)
  sl_step

  iapply Hk
  isplitl [HT0 HT1]
  · isplitl [HT0]; · iexact HT0
    iexact HT1
  isplitl [H4 H5 H6 H7 H8 H9 H10 H11]
  · isplitl [H4]
    · iexists _; isplitr; rotate_left; · iexact H4
      ipureintro; rfl
    isplitl [H5]
    · iexists _; isplitr; rotate_left; · iexact H5
      ipureintro; rfl
    isplitl [H6]
    · iexists _; isplitr; rotate_left; · iexact H6
      ipureintro; rfl
    isplitl [H7]
    · iexists _; isplitr; rotate_left; · iexact H7
      ipureintro; rfl
    isplitl [H8]
    · iexists _; isplitr; rotate_left; · iexact H8
      ipureintro; rfl
    isplitl [H9]
    · iexists _; isplitr; rotate_left; · iexact H9
      ipureintro; rfl
    isplitl [H10]
    · iexists _; isplitr; rotate_left; · iexact H10
      ipureintro; rfl
    iexists _; isplitr; rotate_left; · iexact H11
    ipureintro; rfl
  isplitl [H12 H16 H17 H18]
  · isplitl [H12]
    · iexists _; isplitr; rotate_left; · iexact H12
      ipureintro; delta run_first.sl.r run_first.sl.r_1 run_first.sl.r_2 run_first.sl.r_3 run_first.sl.r_4 run_first.sl.r_5 run_first.sl.r_6 run_first.sl.H12_1; simp only [View.readAt_full (s := S1x512x64), View.readAt_full (s := S1x512x1), View.readAt_full (s := S1x1x512), View.readAt_full (s := S512x64), View.readAt_full (s := S1x512), View.read_writes_full (s := S1x8192x64), View.read_writes_cons_put _ _ _ _ _ rfl, View.readAt_unit (s := S1x8192x64) (size := S1x512x64.size) arg12.view _ _ rfl (k0_off3_inb _ _ hw h4), View.writes_nil]; rfl
    isplitl [H16]
    · iexists _; isplitr; rotate_left; · iexact H16
      ipureintro; delta run_first.sl.r run_first.sl.r_1 run_first.sl.r_2 run_first.sl.r_3 run_first.sl.r_4 run_first.sl.r_5 run_first.sl.r_6 run_first.sl.H16_1 run_first.sl.v73; simp only [View.readAt_full (s := S1x512x64), View.readAt_full (s := S1x512x1), View.readAt_full (s := S1x1x512), View.readAt_full (s := S512x64), View.readAt_full (s := S1x512), View.readCov_full (s := S512x64), View.readCov_full (s := S1x512), View.readAt_writes_full (s := S512x64), View.readAt_writes_full (s := S1x512), View.read_writes_full (s := S1x512x64), View.read_writes_full (s := S1x1x512), View.read_writes_full (s := S512x64), View.read_writes_full (s := S1x512)]; rfl
    isplitl [H17]
    · iexists _; isplitr; rotate_left; · iexact H17
      ipureintro; delta run_first.sl.r run_first.sl.r_1 run_first.sl.r_2 run_first.sl.r_3 run_first.sl.r_4 run_first.sl.r_5 run_first.sl.r_6 run_first.sl.H17_1 run_first.sl.v52; simp only [View.readAt_full (s := S1x512x64), View.readAt_full (s := S1x512x1), View.readAt_full (s := S1x1x512), View.readAt_full (s := S512x64), View.readAt_full (s := S1x512), View.readCov_full (s := S512x64), View.readCov_full (s := S1x512), View.readAt_writes_full (s := S512x64), View.readAt_writes_full (s := S1x512), View.read_writes_full (s := S1x512x64), View.read_writes_full (s := S1x1x512), View.read_writes_full (s := S512x64), View.read_writes_full (s := S1x512)]; rfl
    iexists _; isplitr; rotate_left; · iexact H18
    ipureintro; delta run_first.sl.r run_first.sl.r_1 run_first.sl.r_2 run_first.sl.r_3 run_first.sl.r_4 run_first.sl.r_5 run_first.sl.r_6 run_first.sl.H18_1 run_first.sl.v65; simp only [View.readAt_full (s := S1x512x64), View.readAt_full (s := S1x512x1), View.readAt_full (s := S1x1x512), View.readAt_full (s := S512x64), View.readAt_full (s := S1x512), View.readCov_full (s := S512x64), View.readCov_full (s := S1x512), View.readAt_writes_full (s := S512x64), View.readAt_writes_full (s := S1x512), View.read_writes_full (s := S1x512x64), View.read_writes_full (s := S1x1x512), View.read_writes_full (s := S512x64), View.read_writes_full (s := S1x512)]; rfl
  isplitl [H13]
  · iexists _; isplitr; rotate_left; · iexact H13
    ipureintro; rfl
  isplitl [H14]
  · iexists _; isplitr; rotate_left; · iexact H14
    ipureintro; rfl
  iexists _; isplitr; rotate_left; · iexact H15
  ipureintro; rfl

set_option maxHeartbeats 1000000 in
/-- A pair on the diagonal, neither the first of the head nor the last. -/
theorem run_diag (h1 : ¬k0_cond1 i = 1#1)
    (h2 : condD (lit0 (stp i)) (lit1 (stp i)) = 1#1)
    (h3 : ¬k0_cond3 (lit0 (stp i)) (lit1 (stp i)) = 1#1)
    (h4 : k0_cond4 (lit0 (stp i)) (lit1 (stp i)) = 1#1)
    (h5 : ¬k0_cond5 (lit0 (stp i)) = 1#1)
    (hw : k0_chk1 (lit0 (stp i)) (lit1 (stp i))) (b : Blk F) (a : Acc F) (x : Out F) (E : Set ℕ) (K : PUnit → sProp 𝕄) :
    iprop(tblHeld c s ∗ insHeld c arg4 arg5 arg6 arg7 arg8 arg9 arg10 arg11 b ∗ accHeld c arg12 arg16 arg17 arg18 a ∗ outHeld c arg13 arg14 arg15 x
        ∗ (iprop(tblHeld c s ∗ insHeld c arg4 arg5 arg6 arg7 arg8 arg9 arg10 arg11 b ∗ accHeld c arg12 arg16 arg17 arg18 (diagStep (lit0 (stp i)) (k0_off3_inb _ _ hw h4) b a)
            ∗ outHeld c arg13 arg14 arg15 x) -∗ K ⟨⟩))
      ⊢ wp frame (wpE (defs₀ (F := F)) Variants.none c none) E (cc0_fox_bwd i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  obtain ⟨bq, bk, bv, bcq, bck, bo, bl, bg⟩ := b
  obtain ⟨adq, adk, adv, adc⟩ := a
  obtain ⟨xdk, xdv, xdc⟩ := x
  simp only [cc0_fox_bwd_eq_skeleton]; unfold cc0_fox_bwd_skel
  simp only [k0_part1_eq_skeleton, k0_part2_eq_skeleton, k0_part3_eq_skeleton, k0_part4_eq_skeleton]
  unfold tblHeld insHeld accHeld outHeld owns smemLoad smemLoadElt
  simp only [Prog.bind_op, Prog.bind_ret]
  iintro ⟨⟨HT0, HT1⟩, ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨⟨%f12, %hf12, H12⟩, ⟨%f16, %hf16, H16⟩, ⟨%f17, %hf17, H17⟩, ⟨%f18, %hf18, H18⟩⟩, ⟨⟨%f13, %hf13, H13⟩, ⟨%f14, %hf14, H14⟩, ⟨%f15, %hf15, H15⟩⟩, Hk⟩
  iapply (wp_load_rect Variants.none (c : Thread nD τ) none E (m := Memref.whole main_c) (r := Rect.unit (s := S136) (k0_off1 i) S1.size (k0_off1_inb i)) (S := Finset.univ) (q := s) (f := tabs (F := F) 0) (Finset.subset_univ _)) $$ HT0
  iintro HT0
  iapply (wp_load_rect Variants.none (c : Thread nD τ) none E (m := Memref.whole main_c_0) (r := Rect.unit (s := S136) (k0_off1 i) S1.size (k0_off1_inb i)) (S := Finset.univ) (q := s) (f := tabs (F := F) 1) (Finset.subset_univ _)) $$ HT1
  iintro HT1
  rw [tbl0, tbl1]
  subst hf4 hf5 hf6 hf7 hf8 hf9 hf10 hf11 hf12 hf13 hf14 hf15 hf16 hf17 hf18
  sl_exec (disch := first | sl_exact hw | sl_exact h1 | sl_exact h2 | sl_exact h3 | sl_exact h4 | sl_exact h5)
  sl_step

  iapply Hk
  isplitl [HT0 HT1]
  · isplitl [HT0]; · iexact HT0
    iexact HT1
  isplitl [H4 H5 H6 H7 H8 H9 H10 H11]
  · isplitl [H4]
    · iexists _; isplitr; rotate_left; · iexact H4
      ipureintro; rfl
    isplitl [H5]
    · iexists _; isplitr; rotate_left; · iexact H5
      ipureintro; rfl
    isplitl [H6]
    · iexists _; isplitr; rotate_left; · iexact H6
      ipureintro; rfl
    isplitl [H7]
    · iexists _; isplitr; rotate_left; · iexact H7
      ipureintro; rfl
    isplitl [H8]
    · iexists _; isplitr; rotate_left; · iexact H8
      ipureintro; rfl
    isplitl [H9]
    · iexists _; isplitr; rotate_left; · iexact H9
      ipureintro; rfl
    isplitl [H10]
    · iexists _; isplitr; rotate_left; · iexact H10
      ipureintro; rfl
    iexists _; isplitr; rotate_left; · iexact H11
    ipureintro; rfl
  isplitl [H12 H16 H17 H18]
  · isplitl [H12]
    · iexists _; isplitr; rotate_left; · iexact H12
      ipureintro; delta run_diag.sl.r run_diag.sl.r_1 run_diag.sl.r_2 run_diag.sl.r_3 run_diag.sl.r_4 run_diag.sl.r_5 run_diag.sl.r_6; simp only [View.readAt_full (s := S1x512x64), View.readAt_full (s := S1x512x1), View.readAt_full (s := S1x1x512), View.readAt_full (s := S512x64), View.readAt_full (s := S1x512), View.read_writes_cons_put _ _ _ _ _ rfl, View.readAt_unit (s := S1x8192x64) (size := S1x512x64.size) arg12.view _ _ rfl (k0_off3_inb _ _ hw h4), View.writes_nil]; rfl
    isplitl [H16]
    · iexists _; isplitr; rotate_left; · iexact H16
      ipureintro; delta run_diag.sl.r run_diag.sl.r_1 run_diag.sl.r_2 run_diag.sl.r_3 run_diag.sl.r_4 run_diag.sl.r_5 run_diag.sl.r_6 run_diag.sl.H16_1 run_diag.sl.v73; simp only [View.readAt_full (s := S1x512x64), View.readAt_full (s := S1x512x1), View.readAt_full (s := S1x1x512), View.readAt_full (s := S512x64), View.readAt_full (s := S1x512), View.readCov_full (s := S512x64), View.readCov_full (s := S1x512), View.readAt_writes_full (s := S512x64), View.readAt_writes_full (s := S1x512), View.read_writes_full (s := S1x512x64), View.read_writes_full (s := S1x1x512), View.read_writes_full (s := S512x64), View.read_writes_full (s := S1x512)]; rfl
    isplitl [H17]
    · iexists _; isplitr; rotate_left; · iexact H17
      ipureintro; delta run_diag.sl.r run_diag.sl.r_1 run_diag.sl.r_2 run_diag.sl.r_3 run_diag.sl.r_4 run_diag.sl.r_5 run_diag.sl.r_6 run_diag.sl.H17_1 run_diag.sl.v52; simp only [View.readAt_full (s := S1x512x64), View.readAt_full (s := S1x512x1), View.readAt_full (s := S1x1x512), View.readAt_full (s := S512x64), View.readAt_full (s := S1x512), View.readCov_full (s := S512x64), View.readCov_full (s := S1x512), View.readAt_writes_full (s := S512x64), View.readAt_writes_full (s := S1x512), View.read_writes_full (s := S1x512x64), View.read_writes_full (s := S1x1x512), View.read_writes_full (s := S512x64), View.read_writes_full (s := S1x512)]; rfl
    iexists _; isplitr; rotate_left; · iexact H18
    ipureintro; delta run_diag.sl.r run_diag.sl.r_1 run_diag.sl.r_2 run_diag.sl.r_3 run_diag.sl.r_4 run_diag.sl.r_5 run_diag.sl.r_6 run_diag.sl.H18_1 run_diag.sl.v65; simp only [View.readAt_full (s := S1x512x64), View.readAt_full (s := S1x512x1), View.readAt_full (s := S1x1x512), View.readAt_full (s := S512x64), View.readAt_full (s := S1x512), View.readCov_full (s := S512x64), View.readCov_full (s := S1x512), View.readAt_writes_full (s := S512x64), View.readAt_writes_full (s := S1x512), View.read_writes_full (s := S1x512x64), View.read_writes_full (s := S1x1x512), View.read_writes_full (s := S512x64), View.read_writes_full (s := S1x512)]; rfl
  isplitl [H13]
  · iexists _; isplitr; rotate_left; · iexact H13
    ipureintro; rfl
  isplitl [H14]
  · iexists _; isplitr; rotate_left; · iexact H14
    ipureintro; rfl
  iexists _; isplitr; rotate_left; · iexact H15
  ipureintro; rfl

set_option maxHeartbeats 1000000 in
/-- The last pair of the head, on the diagonal. -/
theorem run_diag_last (h1 : ¬k0_cond1 i = 1#1)
    (h2 : condD (lit0 (stp i)) (lit1 (stp i)) = 1#1)
    (h3 : ¬k0_cond3 (lit0 (stp i)) (lit1 (stp i)) = 1#1)
    (h4 : k0_cond4 (lit0 (stp i)) (lit1 (stp i)) = 1#1)
    (h5 : k0_cond5 (lit0 (stp i)) = 1#1)
    (hw : k0_chk1 (lit0 (stp i)) (lit1 (stp i))) (b : Blk F) (a : Acc F) (x : Out F) (E : Set ℕ) (K : PUnit → sProp 𝕄) :
    iprop(tblHeld c s ∗ insHeld c arg4 arg5 arg6 arg7 arg8 arg9 arg10 arg11 b ∗ accHeld c arg12 arg16 arg17 arg18 a ∗ outHeld c arg13 arg14 arg15 x
        ∗ (iprop(tblHeld c s ∗ insHeld c arg4 arg5 arg6 arg7 arg8 arg9 arg10 arg11 b ∗ accHeld c arg12 arg16 arg17 arg18 (diagStep (lit0 (stp i)) (k0_off3_inb _ _ hw h4) b a)
            ∗ outHeld c arg13 arg14 arg15 (diagStep (lit0 (stp i)) (k0_off3_inb _ _ hw h4) b a).out) -∗ K ⟨⟩))
      ⊢ wp frame (wpE (defs₀ (F := F)) Variants.none c none) E (cc0_fox_bwd i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  obtain ⟨bq, bk, bv, bcq, bck, bo, bl, bg⟩ := b
  obtain ⟨adq, adk, adv, adc⟩ := a
  obtain ⟨xdk, xdv, xdc⟩ := x
  simp only [cc0_fox_bwd_eq_skeleton]; unfold cc0_fox_bwd_skel
  simp only [k0_part1_eq_skeleton, k0_part2_eq_skeleton, k0_part3_eq_skeleton, k0_part4_eq_skeleton]
  unfold tblHeld insHeld accHeld outHeld owns smemLoad smemLoadElt
  simp only [Prog.bind_op, Prog.bind_ret]
  iintro ⟨⟨HT0, HT1⟩, ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨⟨%f12, %hf12, H12⟩, ⟨%f16, %hf16, H16⟩, ⟨%f17, %hf17, H17⟩, ⟨%f18, %hf18, H18⟩⟩, ⟨⟨%f13, %hf13, H13⟩, ⟨%f14, %hf14, H14⟩, ⟨%f15, %hf15, H15⟩⟩, Hk⟩
  iapply (wp_load_rect Variants.none (c : Thread nD τ) none E (m := Memref.whole main_c) (r := Rect.unit (s := S136) (k0_off1 i) S1.size (k0_off1_inb i)) (S := Finset.univ) (q := s) (f := tabs (F := F) 0) (Finset.subset_univ _)) $$ HT0
  iintro HT0
  iapply (wp_load_rect Variants.none (c : Thread nD τ) none E (m := Memref.whole main_c_0) (r := Rect.unit (s := S136) (k0_off1 i) S1.size (k0_off1_inb i)) (S := Finset.univ) (q := s) (f := tabs (F := F) 1) (Finset.subset_univ _)) $$ HT1
  iintro HT1
  rw [tbl0, tbl1]
  subst hf4 hf5 hf6 hf7 hf8 hf9 hf10 hf11 hf12 hf13 hf14 hf15 hf16 hf17 hf18
  sl_exec (disch := first | sl_exact hw | sl_exact h1 | sl_exact h2 | sl_exact h3 | sl_exact h4 | sl_exact h5)
  sl_step

  iapply Hk
  isplitl [HT0 HT1]
  · isplitl [HT0]; · iexact HT0
    iexact HT1
  isplitl [H4 H5 H6 H7 H8 H9 H10 H11]
  · isplitl [H4]
    · iexists _; isplitr; rotate_left; · iexact H4
      ipureintro; rfl
    isplitl [H5]
    · iexists _; isplitr; rotate_left; · iexact H5
      ipureintro; rfl
    isplitl [H6]
    · iexists _; isplitr; rotate_left; · iexact H6
      ipureintro; rfl
    isplitl [H7]
    · iexists _; isplitr; rotate_left; · iexact H7
      ipureintro; rfl
    isplitl [H8]
    · iexists _; isplitr; rotate_left; · iexact H8
      ipureintro; rfl
    isplitl [H9]
    · iexists _; isplitr; rotate_left; · iexact H9
      ipureintro; rfl
    isplitl [H10]
    · iexists _; isplitr; rotate_left; · iexact H10
      ipureintro; rfl
    iexists _; isplitr; rotate_left; · iexact H11
    ipureintro; rfl
  isplitl [H12 H16 H17 H18]
  · isplitl [H12]
    · iexists _; isplitr; rotate_left; · iexact H12
      ipureintro; delta run_diag_last.sl.r run_diag_last.sl.r_1 run_diag_last.sl.r_2 run_diag_last.sl.r_3 run_diag_last.sl.r_4 run_diag_last.sl.r_5 run_diag_last.sl.r_6; simp only [View.readAt_full (s := S1x512x64), View.readAt_full (s := S1x512x1), View.readAt_full (s := S1x1x512), View.readAt_full (s := S512x64), View.readAt_full (s := S1x512), View.read_writes_cons_put _ _ _ _ _ rfl, View.readAt_unit (s := S1x8192x64) (size := S1x512x64.size) arg12.view _ _ rfl (k0_off3_inb _ _ hw h4), View.writes_nil]; rfl
    isplitl [H16]
    · iexists _; isplitr; rotate_left; · iexact H16
      ipureintro; delta run_diag_last.sl.r run_diag_last.sl.r_1 run_diag_last.sl.r_2 run_diag_last.sl.r_3 run_diag_last.sl.r_4 run_diag_last.sl.r_5 run_diag_last.sl.r_6 run_diag_last.sl.H16_2 run_diag_last.sl.H16_1 run_diag_last.sl.v73; simp only [View.readAt_full (s := S1x512x64), View.readAt_full (s := S1x512x1), View.readAt_full (s := S1x1x512), View.readAt_full (s := S512x64), View.readAt_full (s := S1x512), View.readCov_full (s := S512x64), View.readCov_full (s := S1x512), View.readAt_writes_full (s := S512x64), View.readAt_writes_full (s := S1x512), View.read_writes_full (s := S1x512x64), View.read_writes_full (s := S1x1x512), View.read_writes_full (s := S512x64), View.read_writes_full (s := S1x512)]; rfl
    isplitl [H17]
    · iexists _; isplitr; rotate_left; · iexact H17
      ipureintro; delta run_diag_last.sl.r run_diag_last.sl.r_1 run_diag_last.sl.r_2 run_diag_last.sl.r_3 run_diag_last.sl.r_4 run_diag_last.sl.r_5 run_diag_last.sl.r_6 run_diag_last.sl.H17_2 run_diag_last.sl.H17_1 run_diag_last.sl.v52; simp only [View.readAt_full (s := S1x512x64), View.readAt_full (s := S1x512x1), View.readAt_full (s := S1x1x512), View.readAt_full (s := S512x64), View.readAt_full (s := S1x512), View.readCov_full (s := S512x64), View.readCov_full (s := S1x512), View.readAt_writes_full (s := S512x64), View.readAt_writes_full (s := S1x512), View.read_writes_full (s := S1x512x64), View.read_writes_full (s := S1x1x512), View.read_writes_full (s := S512x64), View.read_writes_full (s := S1x512)]; rfl
    iexists _; isplitr; rotate_left; · iexact H18
    ipureintro; delta run_diag_last.sl.r run_diag_last.sl.r_1 run_diag_last.sl.r_2 run_diag_last.sl.r_3 run_diag_last.sl.r_4 run_diag_last.sl.r_5 run_diag_last.sl.r_6 run_diag_last.sl.H18_2 run_diag_last.sl.H18_1 run_diag_last.sl.v65; simp only [View.readAt_full (s := S1x512x64), View.readAt_full (s := S1x512x1), View.readAt_full (s := S1x1x512), View.readAt_full (s := S512x64), View.readAt_full (s := S1x512), View.readCov_full (s := S512x64), View.readCov_full (s := S1x512), View.readAt_writes_full (s := S512x64), View.readAt_writes_full (s := S1x512), View.read_writes_full (s := S1x512x64), View.read_writes_full (s := S1x1x512), View.read_writes_full (s := S512x64), View.read_writes_full (s := S1x512)]; rfl
  isplitl [H13]
  · iexists _; isplitr; rotate_left; · iexact H13
    ipureintro; delta run_diag_last.sl.r run_diag_last.sl.r_1 run_diag_last.sl.r_2 run_diag_last.sl.r_3 run_diag_last.sl.r_4 run_diag_last.sl.r_5 run_diag_last.sl.r_6 run_diag_last.sl.H16_2 run_diag_last.sl.H16_1 run_diag_last.sl.v73 run_diag_last.sl.v19; simp only [View.readAt_full (s := S1x512x64), View.readAt_full (s := S1x512x1), View.readAt_full (s := S1x1x512), View.readAt_full (s := S512x64), View.readAt_full (s := S1x512), View.readCov_full (s := S512x64), View.readCov_full (s := S1x512), View.readAt_writes_full (s := S512x64), View.readAt_writes_full (s := S1x512), View.read_writes_full (s := S1x512x64), View.read_writes_full (s := S1x1x512), View.read_writes_full (s := S512x64), View.read_writes_full (s := S1x512)]; rfl
  isplitl [H14]
  · iexists _; isplitr; rotate_left; · iexact H14
    ipureintro; delta run_diag_last.sl.r run_diag_last.sl.r_1 run_diag_last.sl.r_2 run_diag_last.sl.r_3 run_diag_last.sl.r_4 run_diag_last.sl.r_5 run_diag_last.sl.r_6 run_diag_last.sl.H17_2 run_diag_last.sl.H17_1 run_diag_last.sl.v52 run_diag_last.sl.v23; simp only [View.readAt_full (s := S1x512x64), View.readAt_full (s := S1x512x1), View.readAt_full (s := S1x1x512), View.readAt_full (s := S512x64), View.readAt_full (s := S1x512), View.readCov_full (s := S512x64), View.readCov_full (s := S1x512), View.readAt_writes_full (s := S512x64), View.readAt_writes_full (s := S1x512), View.read_writes_full (s := S1x512x64), View.read_writes_full (s := S1x1x512), View.read_writes_full (s := S512x64), View.read_writes_full (s := S1x512)]; rfl
  iexists _; isplitr; rotate_left; · iexact H15
  ipureintro; delta run_diag_last.sl.r run_diag_last.sl.r_1 run_diag_last.sl.r_2 run_diag_last.sl.r_3 run_diag_last.sl.r_4 run_diag_last.sl.r_5 run_diag_last.sl.r_6 run_diag_last.sl.H18_2 run_diag_last.sl.H18_1 run_diag_last.sl.v65 run_diag_last.sl.v27; simp only [View.readAt_full (s := S1x512x64), View.readAt_full (s := S1x512x1), View.readAt_full (s := S1x1x512), View.readAt_full (s := S512x64), View.readAt_full (s := S1x512), View.readCov_full (s := S512x64), View.readCov_full (s := S1x512), View.readAt_writes_full (s := S512x64), View.readAt_writes_full (s := S1x512), View.read_writes_full (s := S1x512x64), View.read_writes_full (s := S1x1x512), View.read_writes_full (s := S512x64), View.read_writes_full (s := S1x512)]; rfl

end Run

end Cert.Fox

end
-- ==== Proof.Fox.Points.lean ====
/- The grid points of the attention's backward call: which of the body's conditionals hold at a point, where the
   output windows are left alone, and where they are written back. -/
module

public import proofs.«01_k».proof.Proof.Fox.Body

@[expose] public section

set_option maxRecDepth 16384

noncomputable section

namespace Cert.Fox

open Idealize.ShloMosaic Idealize.ShloMosaic.TcCoe Idealize.ShloMosaic.Tactic
open Idealize.ShloMosaic.Pipeline (Dat Cfg Window BodyObligation cellOf)
open Cert.KernelIdeal Cert.KernelIdeal.Gen

variable (F : FTy → Type) [FloatOps F]

/-- The tables' contents, admissible. -/
abbrev adm : (p : Fin 1) → (pcfgs (F := F) p).Adm := fun _ => ⟨tabs, ok_tabs⟩

/-- The pipeline at those tables. -/
abbrev C0 : Pipeline.Cfg sig Λ₀ := Pipeline.pin (pcfgs (F := F)) (adm F) 0

theorem N_C0 : (C0 F).N = 1088 := N_0

variable {F}

theorem coords_0 (t : Fin grid0.N) : (grid0.coords t 0).val = t.val / 136 := by
  have e : (grid0.coords t 0).val = t.val / 136 % 8 := Pipeline.Grid.coords_val t 0 (by decide) rfl
  have ht : t.val < 1088 := Nat.lt_of_lt_of_eq t.isLt N_0
  omega

theorem coords_1 (t : Fin grid0.N) : (stp (grid0.coords t)).val = t.val % 136 := by
  have e : (grid0.coords t 1).val = t.val / 1 % 136 := Pipeline.Grid.coords_val t 1 (by decide) rfl
  rw [Nat.div_one] at e
  exact e

/-! ## The conditionals -/

theorem word_zero : ∀ n : Fin 136, (Scalar.cmpi .ne (Scalar.extui (Scalar.cmpi .eq (BitVec.ofNat 32 n.val) 0#32) : BitVec 32) 0#32) = 1#1 ↔ n.val = 0 := by
  decide +kernel

theorem cond1_iff (i : grid0.Coords) : k0_cond1 i = 1#1 ↔ (stp i).val = 0 := word_zero (i 1)

/-- The first step of a head is on the diagonal, and is not the last of its key tile. -/
theorem lit_zero : ∀ n : Fin 136, n.val = 0 → ¬k0_cond3 (lit0 n) (lit1 n) = 1#1 ∧ ¬k0_cond5 (lit0 n) = 1#1 := by decide +kernel

/-- A step that is not the last of its key tile has the same key tile at the next step. -/
theorem lit_stay : ∀ n : Fin 136, ¬k0_cond5 (lit0 n) = 1#1 → ∃ h : n.val + 1 < 136, lit1 ⟨n.val + 1, h⟩ = lit1 n := by decide +kernel

/-- The last step of a key tile is the last step of the head, or the next step has the next key tile. -/
theorem lit_move : ∀ n : Fin 136, k0_cond5 (lit0 n) = 1#1 → ∀ h : n.val + 1 < 136, lit1 ⟨n.val + 1, h⟩ ≠ lit1 n := by decide +kernel

theorem off1_zero (i : grid0.Coords) : (k0_off1 i) 0 = (i 1).val := by rw [k0_off1_eq]; rfl

theorem off1_lt (i : grid0.Coords) : ∀ a, (k0_off1 i) a + 1 ≤ S136.size a := by
  intro a
  have := k0_off1_inb i a
  fin_cases a
  exact this

theorem atD_0 (i : grid0.Coords) : (tabs (F := F)).atD 0 (k0_off1 i) = lit0 (stp i) := by
  have h : (tabs (F := F)).atD 0 (k0_off1 i) = tabs (F := F) 0 (fun a => ⟨(k0_off1 i) a, off1_lt i a⟩) := dif_pos (off1_lt i)
  rw [h]
  show lit0 (S136.rowMajor _) = _
  congr 1
  exact Fin.ext ((Shape.rowMajor_val_one _).trans (off1_zero i))

theorem atD_1 (i : grid0.Coords) : (tabs (F := F)).atD 1 (k0_off1 i) = lit1 (stp i) := by
  have h : (tabs (F := F)).atD 1 (k0_off1 i) = tabs (F := F) 1 (fun a => ⟨(k0_off1 i) a, off1_lt i a⟩) := dif_pos (off1_lt i)
  rw [h]
  show lit1 (S136.rowMajor _) = _
  congr 1
  exact Fin.ext ((Shape.rowMajor_val_one _).trans (off1_zero i))

/-! ## Where the outputs' windows are left alone -/

theorem live_8 (t : Fin (C0 F).N) : (C0 F).idle 8 ((C0 F).grid.coords t) = false := by
  show (!(k0_cond1 (grid0.coords t) == 1#1)
    && !(k0_cond3 ((tabs (F := F)).atD 0 (k0_off1 (grid0.coords t))) ((tabs (F := F)).atD 1 (k0_off1 (grid0.coords t))) == 1#1)
    && !(k0_cond4 ((tabs (F := F)).atD 0 (k0_off1 (grid0.coords t))) ((tabs (F := F)).atD 1 (k0_off1 (grid0.coords t))) == 1#1)) = false
  rw [atD_0, atD_1]
  rcases lit_cases (stp (grid0.coords t)) with h | h
  · rw [h.1]; simp
  · rw [h.2.1]; simp

theorem idle_k (w : Fin 12) (hw : w = 9 ∨ w = 10 ∨ w = 11) (t : Fin (C0 F).N) :
    (C0 F).idle w ((C0 F).grid.coords t) = !(k0_cond5 (lit0 (stp (grid0.coords t))) == 1#1) := by
  have e : (C0 F).idle w ((C0 F).grid.coords t) = !(k0_cond5 ((tabs (F := F)).atD 0 (k0_off1 (grid0.coords t))) == 1#1) := by
    rcases hw with rfl | rfl | rfl <;> rfl
  rw [e, atD_0]

/-! ## Where they are written back -/

/-- Where the window's index does not move to the next point, its block is not written back. -/
theorem flush_stay (w : Fin (C0 F).W) (t : Fin (C0 F).N) (h1 : t.val + 1 < (C0 F).N)
    (e : ((C0 F).win w).index ⟨t.val + 1, h1⟩ = ((C0 F).win w).index t) : ((C0 F).win w).flush t = false := by
  unfold Window.flush
  rw [decide_eq_false (p := ∃ h : t.val + 1 < (C0 F).grid.N, ((C0 F).win w).index ⟨t.val + 1, h⟩ ≠ ((C0 F).win w).index t)
    (by intro ⟨_, h⟩; exact h e)]
  rw [decide_eq_false (p := t.val + 1 = (C0 F).grid.N) (Nat.ne_of_lt h1)]
  exact Bool.and_false _

/-- A head's query gradient is not written back before the head's last step. -/
theorem stay_8 (t : Fin (C0 F).N) (h : t.val % 136 ≠ 135) : ((C0 F).win 8).flush t = false := by
  have hN : t.val < 1088 := lt_of_lt_of_eq t.isLt (N_C0 F)
  have h1 : t.val + 1 < (C0 F).N := lt_of_lt_of_eq (show t.val + 1 < 1088 by omega) (N_C0 F).symm
  refine flush_stay 8 t h1 ?_
  have e0 : (grid0.coords ⟨t.val + 1, h1⟩ 0).val = (grid0.coords t 0).val := by
    rw [coords_0 t, coords_0 ⟨t.val + 1, h1⟩]
    show (t.val + 1) / 136 = t.val / 136
    omega
  show cc0_transform_8 (grid0.coords ⟨t.val + 1, h1⟩) = cc0_transform_8 (grid0.coords t)
  unfold cc0_transform_8
  dsimp only
  rw [e0]

/-- A key tile's gradients are not written back before its last pair. -/
theorem stay_k (w : Fin (C0 F).W) (hw : w = 9 ∨ w = 10 ∨ w = 11) (t : Fin (C0 F).N)
    (h : ¬k0_cond5 (lit0 (stp (grid0.coords t))) = 1#1) : ((C0 F).win w).flush t = false := by
  have hN : t.val < 1088 := lt_of_lt_of_eq t.isLt (N_C0 F)
  obtain ⟨hn, el⟩ := lit_stay _ h
  rw [coords_1 t] at hn
  have h1 : t.val + 1 < (C0 F).N := lt_of_lt_of_eq (show t.val + 1 < 1088 by omega) (N_C0 F).symm
  refine flush_stay w t h1 ?_
  have e0 : (grid0.coords ⟨t.val + 1, h1⟩ 0).val = (grid0.coords t 0).val := by
    rw [coords_0 t, coords_0 ⟨t.val + 1, h1⟩]
    show (t.val + 1) / 136 = t.val / 136
    omega
  have e1 : lit1 (stp (grid0.coords ⟨t.val + 1, h1⟩)) = lit1 (stp (grid0.coords t)) := by
    rw [← el]
    congr 1
    refine Fin.ext ((coords_1 ⟨t.val + 1, h1⟩).trans ?_)
    show (t.val + 1) % 136 = (stp (grid0.coords t)).val + 1
    rw [coords_1 t]; omega
  rcases hw with rfl | rfl | rfl
  · show cc0_transform_1 (F := F) k0_off1_inb numel1_S1 tabs (grid0.coords ⟨t.val + 1, h1⟩) = cc0_transform_1 (F := F) k0_off1_inb numel1_S1 tabs (grid0.coords t)
    rw [tr_kj, tr_kj, e0, e1]
  · show cc0_transform_1 (F := F) k0_off1_inb numel1_S1 tabs (grid0.coords ⟨t.val + 1, h1⟩) = cc0_transform_1 (F := F) k0_off1_inb numel1_S1 tabs (grid0.coords t)
    rw [tr_kj, tr_kj, e0, e1]
  · show cc0_transform_4 (F := F) k0_off1_inb numel1_S1 tabs (grid0.coords ⟨t.val + 1, h1⟩) = cc0_transform_4 (F := F) k0_off1_inb numel1_S1 tabs (grid0.coords t)
    rw [tr_kjr, tr_kjr, e0, e1]

/-! ## A step, whichever conditionals hold -/

/-- The step of a grid point. -/
def step (i : grid0.Coords) (b : Blk F) (a : Acc F) : Acc F :=
  if h3 : k0_cond3 (lit0 (stp i)) (lit1 (stp i)) = 1#1 then
    offStep (lit0 (stp i)) (k0_off2_inb _ _ (lit_chk _) h3) b a
  else if h4 : k0_cond4 (lit0 (stp i)) (lit1 (stp i)) = 1#1 then
    diagStep (lit0 (stp i)) (k0_off3_inb _ _ (lit_chk _) h4) b (if k0_cond1 i = 1#1 then start a else a)
  else a

/-- The three blocks a grid point leaves in the key tile's output buffers. -/
def stepOut (i : grid0.Coords) (b : Blk F) (a : Acc F) (x : Out F) : Out F :=
  if k0_cond5 (lit0 (stp i)) = 1#1 then (step i b a).out else x

/-- The first step of a head depends on nothing carried. -/
theorem step_first (i : grid0.Coords) (h1 : k0_cond1 i = 1#1) (b : Blk F) (a a' : Acc F) : step i b a = step i b a' := by
  have h3 := (lit_zero _ ((cond1_iff i).1 h1)).1
  unfold step
  rw [dif_neg h3, dif_neg h3, if_pos h1, if_pos h1]
  split
  · rfl
  · rename_i h4
    rcases lit_cases (stp i) with h | h
    · exact absurd h.1 h3
    · exact absurd h.2.1 h4

end Cert.Fox

end
-- ==== Proof.Fox.Frame.lean ====
/- The run of the attention's backward call: what each grid point leaves in the carried buffers, the pipeline's
   proof data, and the frame — the program terminates, and its arguments end as they were. -/
module

public import proofs.«01_k».proof.Proof.Fox.Points
public import Idealize.ShloMosaic.Lib.Pipeline.Frame
public import Idealize.ShloMosaic.Lib.StableHlo.RunRead
public import Idealize.ShloMosaic.Lib.Claim

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Run

variable (c : Dev nD) (i : grid0.Coords) (s : PosShare TreeShare)
  (arg4 : Memref sig .tc .vmem S1x512x64 .bf16) (harg4 : arg4.IsWhole)
  (arg5 : Memref sig .tc .vmem S1x512x64 .bf16) (harg5 : arg5.IsWhole)
  (arg6 : Memref sig .tc .vmem S1x512x64 .bf16) (harg6 : arg6.IsWhole)
  (arg7 : Memref sig .tc .vmem S1x512x1 .f32) (harg7 : arg7.IsWhole)
  (arg8 : Memref sig .tc .vmem S1x1x512 .f32) (harg8 : arg8.IsWhole)
  (arg9 : Memref sig .tc .vmem S1x512x64 .f32) (harg9 : arg9.IsWhole)
  (arg10 : Memref sig .tc .vmem S1x512x1 .f32) (harg10 : arg10.IsWhole)
  (arg11 : Memref sig .tc .vmem S1x512x64 .bf16) (harg11 : arg11.IsWhole)
  (arg12 : Memref sig .tc .vmem S1x8192x64 .f32) (harg12 : arg12.IsWhole)
  (arg13 : Memref sig .tc .vmem S1x512x64 .f32) (harg13 : arg13.IsWhole)
  (arg14 : Memref sig .tc .vmem S1x512x64 .f32) (harg14 : arg14.IsWhole)
  (arg15 : Memref sig .tc .vmem S1x1x512 .f32) (harg15 : arg15.IsWhole)
  (arg16 : Memref sig .tc .vmem S512x64 .f32) (harg16 : arg16.IsWhole)
  (arg17 : Memref sig .tc .vmem S512x64 .f32) (harg17 : arg17.IsWhole)
  (arg18 : Memref sig .tc .vmem S1x512 .f32) (harg18 : arg18.IsWhole)

/-- The body at any point: the carried buffers take the point's step, and the key tile's output buffers are
    written at the tile's last pair and left alone elsewhere. -/
theorem run_step (b : Blk F) (a : Acc F) (x : Out F) (E : Set ℕ) (K : PUnit → sProp 𝕄) :
    iprop(tblHeld c s ∗ insHeld c arg4 arg5 arg6 arg7 arg8 arg9 arg10 arg11 b ∗ accHeld c arg12 arg16 arg17 arg18 a ∗ outHeld c arg13 arg14 arg15 x
        ∗ (iprop(tblHeld c s ∗ insHeld c arg4 arg5 arg6 arg7 arg8 arg9 arg10 arg11 b ∗ accHeld c arg12 arg16 arg17 arg18 (step i b a)
            ∗ outHeld c arg13 arg14 arg15 (stepOut i b a x)) -∗ K ⟨⟩))
      ⊢ wp frame (wpE (defs₀ (F := F)) Variants.none c none) E (cc0_fox_bwd i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  have hw := lit_chk (stp i)
  unfold stepOut step
  by_cases h1 : k0_cond1 i = 1#1
  · obtain ⟨h3, h5⟩ := lit_zero _ ((cond1_iff i).1 h1)
    rcases lit_cases (stp i) with h | ⟨-, h4, h2⟩
    · exact absurd h.1 h3
    rw [dif_neg h3, dif_pos h4, if_pos h1, if_neg h5]
    exact run_first c i s arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 h4 h5 hw b a x E K
  · rcases lit_cases (stp i) with ⟨h3, h4, h2⟩ | ⟨h3, h4, h2⟩
    · rw [dif_pos h3]
      by_cases h5 : k0_cond5 (lit0 (stp i)) = 1#1
      · rw [if_pos h5]; exact run_off_last c i s arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 h4 h5 hw b a x E K
      · rw [if_neg h5]; exact run_off c i s arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 h4 h5 hw b a x E K
    · rw [dif_neg h3, dif_pos h4, if_neg h1]
      by_cases h5 : k0_cond5 (lit0 (stp i)) = 1#1
      · rw [if_pos h5]; exact run_diag_last c i s arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 h4 h5 hw b a x E K
      · rw [if_neg h5]; exact run_diag c i s arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 h4 h5 hw b a x E K

end Run

variable (m : (ℓ : Loc nD τ sig) → Buf (Elt F) ℓ) (ρ : Dev nD → PrngReg)

/-! ## The host operations before the call -/

/-- Core `c`'s buffers when the call is reached. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ :=
  StableHlo.forall_fresh_of_map rfl

theorem hmain (𝒱₀ : Variants) : Pipeline.HMainP (Ix := Unit) (Name := ℕ) (U := UR sig nD τ) (Lvl := ℕ) (pcfgs (F := F)) 0 defs₀ 𝒱₀ m (main (F := F)) (V m) :=
  Pipeline.hmainP_prefix (pcfgs (F := F)) 0 defs₀ 𝒱₀ m main hostOps0 hostOps0_sub hostOps0_fresh main_chain

set_option maxHeartbeats 1000000 in
theorem V_c (c : Dev nD) : V m c main_c = (fun i => lit0 (S136.rowMajor i)) := by
  unfold V; after_reads_simp; rfl

set_option maxHeartbeats 1000000 in
theorem V_c_0 (c : Dev nD) : V m c main_c_0 = (fun i => lit1 (S136.rowMajor i)) := by
  unfold V; after_reads_simp; rfl

theorem V_arg0 (c : Dev nD) : V m c main_arg0 = m ((c : Thread nD τ).loc main_arg0) := by
  unfold V; after_reads_simp
theorem V_arg1 (c : Dev nD) : V m c main_arg1 = m ((c : Thread nD τ).loc main_arg1) := by
  unfold V; after_reads_simp
theorem V_arg2 (c : Dev nD) : V m c main_arg2 = m ((c : Thread nD τ).loc main_arg2) := by
  unfold V; after_reads_simp
theorem V_arg3 (c : Dev nD) : V m c main_arg3 = m ((c : Thread nD τ).loc main_arg3) := by
  unfold V; after_reads_simp
theorem V_arg4 (c : Dev nD) : V m c main_arg4 = m ((c : Thread nD τ).loc main_arg4) := by
  unfold V; after_reads_simp

/-! ## The windows' blocks -/

/-- Window `w`'s block at point `t`, of its array when the call is reached. -/
def iblk (c : Dev nD) (w : Fin (C0 F).W) (t : Fin (C0 F).N) : (((C0 F).win w).xblock ((C0 F).grid.coords t)).Idx → Elt F ((C0 F).win w).elt :=
  (((C0 F).win w).blk t).view.read (Elt F) (V m c (Pipeline.arrRef spec0 w))

/-- The eight input blocks of point `t`. -/
def blk (c : Dev nD) (t : Fin (C0 F).N) : Blk F where
  q := iblk m c 0 t
  k := iblk m c 1 t
  v := iblk m c 2 t
  cq := iblk m c 3 t
  ck := iblk m c 4 t
  o := iblk m c 5 t
  l := iblk m c 6 t
  g := iblk m c 7 t

/-- What the carried buffers hold after point `n`. -/
def accAt (c : Dev nD) : (n : ℕ) → n < (C0 F).N → Acc F
  | 0, h => step (grid0.coords ⟨0, h⟩) (blk m c ⟨0, h⟩) ⟨k0_pay1, k0_pay2, k0_pay3, k0_pay4⟩
  | n + 1, h => step (grid0.coords ⟨n + 1, h⟩) (blk m c ⟨n + 1, h⟩) (accAt c n (Nat.lt_of_succ_lt h))

/-- The invariant: before the first point the call's own buffers at anything, after a point the three accumulators
    at what the point left; the two tables throughout. -/
def PhiS (c : Dev nD) : (n : ℕ) → n ≤ (C0 F).N → sProp 𝕄
  | 0, _ => iprop(Pipeline.ΦA spec0 c ∗ Pipeline.ΦT pre0 (tabs (F := F)) c)
  | n + 1, hn => iprop((owns (c : Thread nD τ) (Memref.whole cc0_scratch0) fullShare (accAt m c n hn).dk
        ∗ owns (c : Thread nD τ) (Memref.whole cc0_scratch1) fullShare (accAt m c n hn).dv
        ∗ owns (c : Thread nD τ) (Memref.whole cc0_scratch2) fullShare (accAt m c n hn).dc)
      ∗ (∃ r, prngReg c r) ∗ Pipeline.ΦT pre0 (tabs (F := F)) c)

/-- The pipeline's proof data on core `c`. -/
def dats (_ : Fin 1) (c : Dev nD) : Dat τ (Elt F) Unit ℕ (UR sig nD τ) ℕ (C0 F) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (accAt m c t.val t.isLt).dq
    | ⟨9, _⟩ => (accAt m c t.val t.isLt).out.dk
    | ⟨10, _⟩ => (accAt m c t.val t.isLt).out.dv
    | ⟨11, _⟩ => (accAt m c t.val t.isLt).out.dc
  Φ t := PhiS m c t.val (Nat.le_of_lt_succ t.isLt)
  q _ := fullShare
  owed _ := 0

theorem A_eq (c : Dev nD) (w : Fin (C0 F).W) : (dats m 0 c).A w = V m c (Pipeline.arrRef spec0 w) := by
  dsimp only [dats]

theorem PhiS_castSucc (c : Dev nD) (t : Fin (C0 F).N) :
    (dats m 0 c).Φ t.castSucc = PhiS m c t.val (Nat.le_of_lt t.isLt) := by
  dsimp only [dats]; exact Pipeline.Dat.Φ_castSucc (PhiS m c) t

theorem after_0 (c : Dev nD) (t : Fin (C0 F).N) : (dats m 0 c).after 0 t = iblk m c 0 t := by dsimp only [dats]; rfl
theorem after_1 (c : Dev nD) (t : Fin (C0 F).N) : (dats m 0 c).after 1 t = iblk m c 1 t := by dsimp only [dats]; rfl
theorem after_2 (c : Dev nD) (t : Fin (C0 F).N) : (dats m 0 c).after 2 t = iblk m c 2 t := by dsimp only [dats]; rfl
theorem after_3 (c : Dev nD) (t : Fin (C0 F).N) : (dats m 0 c).after 3 t = iblk m c 3 t := by dsimp only [dats]; rfl
theorem after_4 (c : Dev nD) (t : Fin (C0 F).N) : (dats m 0 c).after 4 t = iblk m c 4 t := by dsimp only [dats]; rfl
theorem after_5 (c : Dev nD) (t : Fin (C0 F).N) : (dats m 0 c).after 5 t = iblk m c 5 t := by dsimp only [dats]; rfl
theorem after_6 (c : Dev nD) (t : Fin (C0 F).N) : (dats m 0 c).after 6 t = iblk m c 6 t := by dsimp only [dats]; rfl
theorem after_7 (c : Dev nD) (t : Fin (C0 F).N) : (dats m 0 c).after 7 t = iblk m c 7 t := by dsimp only [dats]; rfl
theorem after_8 (c : Dev nD) (t : Fin (C0 F).N) : (dats m 0 c).after 8 t = (accAt m c t.val t.isLt).dq := by dsimp only [dats]; rfl
theorem after_9 (c : Dev nD) (t : Fin (C0 F).N) : (dats m 0 c).after 9 t = (accAt m c t.val t.isLt).out.dk := by dsimp only [dats]; rfl
theorem after_10 (c : Dev nD) (t : Fin (C0 F).N) : (dats m 0 c).after 10 t = (accAt m c t.val t.isLt).out.dv := by dsimp only [dats]; rfl
theorem after_11 (c : Dev nD) (t : Fin (C0 F).N) : (dats m 0 c).after 11 t = (accAt m c t.val t.isLt).out.dc := by dsimp only [dats]; rfl

theorem before_0 (c : Dev nD) (t : Fin (C0 F).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (C0 F).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (C0 F).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (C0 F).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (C0 F).N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin (C0 F).N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin (C0 F).N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin (C0 F).N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)

/-! ## The body at a point -/

abbrev ms_0 (t : Fin (C0 F).N) : Memref sig .tc .vmem S1x512x64 .bf16 := spec0_0.stage ((C0 F).slots t 0)
abbrev hs_0 (t : Fin (C0 F).N) : (ms_0 t).IsWhole := hstage0_0 (((C0 F).slots t 0).cast nbuf0_0)
abbrev ms_1 (t : Fin (C0 F).N) : Memref sig .tc .vmem S1x512x64 .bf16 := spec0_1.stage ((C0 F).slots t 1)
abbrev hs_1 (t : Fin (C0 F).N) : (ms_1 t).IsWhole := hstage0_1 (((C0 F).slots t 1).cast nbuf0_1)
abbrev ms_2 (t : Fin (C0 F).N) : Memref sig .tc .vmem S1x512x64 .bf16 := spec0_2.stage ((C0 F).slots t 2)
abbrev hs_2 (t : Fin (C0 F).N) : (ms_2 t).IsWhole := hstage0_2 (((C0 F).slots t 2).cast nbuf0_2)
abbrev ms_3 (t : Fin (C0 F).N) : Memref sig .tc .vmem S1x512x1 .f32 := spec0_3.stage ((C0 F).slots t 3)
abbrev hs_3 (t : Fin (C0 F).N) : (ms_3 t).IsWhole := hstage0_3 (((C0 F).slots t 3).cast nbuf0_3)
abbrev ms_4 (t : Fin (C0 F).N) : Memref sig .tc .vmem S1x1x512 .f32 := spec0_4.stage ((C0 F).slots t 4)
abbrev hs_4 (t : Fin (C0 F).N) : (ms_4 t).IsWhole := hstage0_4 (((C0 F).slots t 4).cast nbuf0_4)
abbrev ms_5 (t : Fin (C0 F).N) : Memref sig .tc .vmem S1x512x64 .f32 := spec0_5.stage ((C0 F).slots t 5)
abbrev hs_5 (t : Fin (C0 F).N) : (ms_5 t).IsWhole := hstage0_5 (((C0 F).slots t 5).cast nbuf0_5)
abbrev ms_6 (t : Fin (C0 F).N) : Memref sig .tc .vmem S1x512x1 .f32 := spec0_6.stage ((C0 F).slots t 6)
abbrev hs_6 (t : Fin (C0 F).N) : (ms_6 t).IsWhole := hstage0_6 (((C0 F).slots t 6).cast nbuf0_6)
abbrev ms_7 (t : Fin (C0 F).N) : Memref sig .tc .vmem S1x512x64 .bf16 := spec0_7.stage ((C0 F).slots t 7)
abbrev hs_7 (t : Fin (C0 F).N) : (ms_7 t).IsWhole := hstage0_7 (((C0 F).slots t 7).cast nbuf0_7)
abbrev ms_8 (t : Fin (C0 F).N) : Memref sig .tc .vmem S1x8192x64 .f32 := spec0_8.stage ((C0 F).slots t 8)
abbrev hs_8 (t : Fin (C0 F).N) : (ms_8 t).IsWhole := hstage0_8 (((C0 F).slots t 8).cast nbuf0_8)
abbrev ms_9 (t : Fin (C0 F).N) : Memref sig .tc .vmem S1x512x64 .f32 := spec0_9.stage ((C0 F).slots t 9)
abbrev hs_9 (t : Fin (C0 F).N) : (ms_9 t).IsWhole := hstage0_9 (((C0 F).slots t 9).cast nbuf0_9)
abbrev ms_10 (t : Fin (C0 F).N) : Memref sig .tc .vmem S1x512x64 .f32 := spec0_10.stage ((C0 F).slots t 10)
abbrev hs_10 (t : Fin (C0 F).N) : (ms_10 t).IsWhole := hstage0_10 (((C0 F).slots t 10).cast nbuf0_10)
abbrev ms_11 (t : Fin (C0 F).N) : Memref sig .tc .vmem S1x1x512 .f32 := spec0_11.stage ((C0 F).slots t 11)
abbrev hs_11 (t : Fin (C0 F).N) : (ms_11 t).IsWhole := hstage0_11 (((C0 F).slots t 11).cast nbuf0_11)

/-- The body at point `t`, on the windows' current buffers. -/
def bodyAt (t : Fin (C0 F).N) :=
  cc0_fox_bwd (F := F) (grid0.coords t) (Memref.whole main_c) (Memref.isWhole_whole _) (Memref.whole main_c_0) (Memref.isWhole_whole _)
    (ms_0 t) (hs_0 t)
    (ms_1 t) (hs_1 t)
    (ms_2 t) (hs_2 t)
    (ms_3 t) (hs_3 t)
    (ms_4 t) (hs_4 t)
    (ms_5 t) (hs_5 t)
    (ms_6 t) (hs_6 t)
    (ms_7 t) (hs_7 t)
    (ms_8 t) (hs_8 t)
    (ms_9 t) (hs_9 t)
    (ms_10 t) (hs_10 t)
    (ms_11 t) (hs_11 t)
    (Memref.whole cc0_scratch0) (Memref.isWhole_whole _)
    (Memref.whole cc0_scratch1) (Memref.isWhole_whole _)
    (Memref.whole cc0_scratch2) (Memref.isWhole_whole _)

theorem defs₀_row (t : Fin (C0 F).N) :
    defs₀ (F := F) .tc (C0 F).body ((C0 F).bodyArgs t ((C0 F).slots t)) = bodyAt t := by
  unfold defs₀; rw [Defs.onTc_tc]; rfl

/-- The two tables as the body holds them. -/
theorem tables_eq (c : Dev nD) : (Pipeline.ΦT pre0 (tabs (F := F)) c : sProp 𝕄) = tblHeld c fullShare.right := by
  unfold Pipeline.ΦT Pipeline.prefHeld tblHeld
  exact bigSep_univ_eq_bigSepL [(0 : Fin 2), (1 : Fin 2)] (by decide) (by decide) _

/-- The call's own buffers as the body holds them, at anything. -/
theorem PhiA_eq (c : Dev nD) :
    (Pipeline.ΦA spec0 c : sProp 𝕄)
      = iprop(((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- The query gradient's buffer at a point that is not a head's first holds what the point before left. -/
theorem before_8 (c : Dev nD) (n : ℕ) (h : n + 1 < (C0 F).N) (hn : (n + 1) % 136 ≠ 0) (d) :
    (dats m 0 c).before 8 ⟨n + 1, h⟩ d = (accAt m c n (Nat.lt_of_succ_lt h)).dq := by
  rw [Dat.before_of_pos (dats m 0 c) 8 ⟨n + 1, h⟩ (Nat.succ_ne_zero n) rfl d]
  have e : ((C0 F).win 8).flush ⟨n, Nat.lt_of_succ_lt h⟩ = false := stay_8 ⟨n, Nat.lt_of_succ_lt h⟩ (by show n % 136 ≠ 135; omega)
  show (if ((C0 F).win 8).flush ⟨n, Nat.lt_of_succ_lt h⟩ = true then d else (dats m 0 c).left 8 ⟨n, Nat.lt_of_succ_lt h⟩ d) = _
  rw [e, if_neg Bool.false_ne_true]
  unfold Dat.left
  rw [live_8]
  exact after_8 m c ⟨n, Nat.lt_of_succ_lt h⟩

/-- What the body is called with at point `t`, the windows one by one, -/
def bodyPre (c : Dev nD) (t : Fin (C0 F).N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d)))

/-- and what it returns. -/
def bodyPost (c : Dev nD) (t : Fin (C0 F).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-- The state the body finds at point `t`, `d` the query gradient's buffer where nothing was left in it. -/
theorem Phi_open (c : Dev nD) (t : Fin (C0 F).N) (d) :
    (dats m 0 c).Φ t.castSucc ⊢ iprop(∃ a : Acc F, ⌜a.dq = (dats m 0 c).before 8 t d
          ∧ step (grid0.coords t) (blk m c t) a = accAt m c t.val t.isLt⌝
      ∗ (owns (c : Thread nD τ) (Memref.whole cc0_scratch0) fullShare a.dk
        ∗ owns (c : Thread nD τ) (Memref.whole cc0_scratch1) fullShare a.dv
        ∗ owns (c : Thread nD τ) (Memref.whole cc0_scratch2) fullShare a.dc)
      ∗ (∃ r, prngReg c r) ∗ tblHeld c fullShare.right) := by
  rw [PhiS_castSucc]
  obtain ⟨n, hn⟩ := t
  have c1 : n % 136 = 0 → k0_cond1 (grid0.coords ⟨n, hn⟩) = 1#1 := fun h => (cond1_iff _).2 ((coords_1 ⟨n, hn⟩).trans h)
  cases n with
  | zero =>
    show iprop(Pipeline.ΦA spec0 c ∗ Pipeline.ΦT pre0 (tabs (F := F)) c) ⊢ _
    rw [PhiA_eq, tables_eq]
    iintro ⟨⟨⟨⟨%x0, H0⟩, ⟨%x1, H1⟩, ⟨%x2, H2⟩⟩, Hg⟩, HT⟩
    iexists (⟨(dats m 0 c).before 8 ⟨0, hn⟩ d, x0, x1, x2⟩ : Acc F)
    isplitr
    · ipureintro
      exact ⟨rfl, step_first _ (c1 rfl) _ _ _⟩
    isplitl [H0 H1 H2]
    · isplitl [H0]; · iexact H0
      isplitl [H1]; · iexact H1
      iexact H2
    isplitl [Hg]; · iexact Hg
    iexact HT
  | succ n =>
    show iprop((owns (c : Thread nD τ) (Memref.whole cc0_scratch0) fullShare (accAt m c n (Nat.lt_of_succ_lt hn)).dk
        ∗ owns (c : Thread nD τ) (Memref.whole cc0_scratch1) fullShare (accAt m c n (Nat.lt_of_succ_lt hn)).dv
        ∗ owns (c : Thread nD τ) (Memref.whole cc0_scratch2) fullShare (accAt m c n (Nat.lt_of_succ_lt hn)).dc)
      ∗ (∃ r, prngReg c r) ∗ Pipeline.ΦT pre0 (tabs (F := F)) c) ⊢ _
    rw [tables_eq]
    iintro ⟨⟨H0, H1, H2⟩, Hg, HT⟩
    iexists (⟨(dats m 0 c).before 8 ⟨n + 1, hn⟩ d, (accAt m c n (Nat.lt_of_succ_lt hn)).dk, (accAt m c n (Nat.lt_of_succ_lt hn)).dv,
      (accAt m c n (Nat.lt_of_succ_lt hn)).dc⟩ : Acc F)
    isplitr
    · ipureintro
      refine ⟨rfl, ?_⟩
      by_cases h0 : (n + 1) % 136 = 0
      · exact step_first _ (c1 h0) _ _ _
      · rw [before_8 m c n hn h0 d]; rfl
    isplitl [H0 H1 H2]
    · isplitl [H0]; · iexact H0
      isplitl [H1]; · iexact H1
      iexact H2
    isplitl [Hg]; · iexact Hg
    iexact HT

theorem Phi_succ (c : Dev nD) (t : Fin (C0 F).N) : (dats m 0 c).Φ t.succ
    = iprop((owns (c : Thread nD τ) (Memref.whole cc0_scratch0) fullShare (accAt m c t.val t.isLt).dk
        ∗ owns (c : Thread nD τ) (Memref.whole cc0_scratch1) fullShare (accAt m c t.val t.isLt).dv
        ∗ owns (c : Thread nD τ) (Memref.whole cc0_scratch2) fullShare (accAt m c t.val t.isLt).dc)
      ∗ (∃ r, prngReg c r) ∗ tblHeld c fullShare.right) := by
  rw [← tables_eq]; rfl

/-- An input window is handed back at its block, and the query gradient at the point's state. -/
theorem leaves_live (c : Dev nD) (w : Fin (C0 F).W) (t : Fin (C0 F).N) (hi : (C0 F).idle w ((C0 F).grid.coords t) = false) :
    (dats m 0 c).leavesExact w t = owns (c : Thread nD τ) (((C0 F).win w).stage ((C0 F).slots t w)) fullShare ((dats m 0 c).after w t) := by
  unfold Dat.leavesExact; rw [hi]

set_option maxHeartbeats 4800000 in
/-- The body at any point. -/
theorem sound_body (c : Dev nD) (t : Fin (C0 F).N) :
    bodyPre m c t ⊢ wp frame (wpE (defs₀ (F := F)) Variants.none c none) Set.univ (bodyAt t) (fun _ => bodyPost m c t) := by
  unfold bodyPre bodyPost bodyAt
  simp only [before_0, before_1, before_2, before_3, before_4, before_5, before_6, before_7]
  rw [show (dats m 0 c).owesAt () t.succ = (dats m 0 c).owesAt () t.castSucc from rfl]
  rw [Phi_succ m c t]
  rw [leaves_live m c 0 t rfl, after_0]
  rw [leaves_live m c 1 t rfl, after_1]
  rw [leaves_live m c 2 t rfl, after_2]
  rw [leaves_live m c 3 t rfl, after_3]
  rw [leaves_live m c 4 t rfl, after_4]
  rw [leaves_live m c 5 t rfl, after_5]
  rw [leaves_live m c 6 t rfl, after_6]
  rw [leaves_live m c 7 t rfl, after_7]
  rw [leaves_live m c 8 t (live_8 t), after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  ihave HΦ' := (Phi_open m c t d8) $$ HΦ
  icases HΦ' with ⟨%a, %ha, ⟨HS0, HS1, HS2⟩, Hg, HT⟩
  obtain ⟨hdq, hst⟩ := ha
  rw [← hdq]
  iapply (run_step c (grid0.coords t) fullShare.right (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (Memref.whole cc0_scratch0) (Memref.isWhole_whole _) (Memref.whole cc0_scratch1) (Memref.isWhole_whole _) (Memref.whole cc0_scratch2) (Memref.isWhole_whole _)
    (blk m c t) a ⟨(dats m 0 c).before 9 t d9, (dats m 0 c).before 10 t d10, (dats m 0 c).before 11 t d11⟩ Set.univ _)
  rw [hst]
  unfold insHeld accHeld outHeld
  isplitl [HT]; · iexact HT
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8 HS0 HS1 HS2]
  · isplitl [H8]; · iexact H8
    isplitl [HS0]; · iexact HS0
    isplitl [HS1]; · iexact HS1
    iexact HS2
  isplitl [H9 H10 H11]
  · isplitl [H9]; · iexact H9
    isplitl [H10]; · iexact H10
    iexact H11
  iintro ⟨HT, ⟨H0, H1, H2, H3, H4, H5, H6, H7⟩, ⟨H8, HS0, HS1, HS2⟩, ⟨H9, H10, H11⟩⟩
  isplitl [HS0 HS1 HS2 Hg HT]
  · isplitl [HS0 HS1 HS2]
    · isplitl [HS0]; · iexact HS0
      isplitl [HS1]; · iexact HS1
      iexact HS2
    isplitl [Hg]; · iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  have h9 : (9 : Fin 12) = 9 ∨ (9 : Fin 12) = 10 ∨ (9 : Fin 12) = 11 := .inl rfl
  have h10 : (10 : Fin 12) = 9 ∨ (10 : Fin 12) = 10 ∨ (10 : Fin 12) = 11 := .inr (.inl rfl)
  have h11 : (11 : Fin 12) = 9 ∨ (11 : Fin 12) = 10 ∨ (11 : Fin 12) = 11 := .inr (.inr rfl)
  by_cases h5 : k0_cond5 (lit0 (stp (grid0.coords t))) = 1#1
  · have hi : ∀ w : Fin 12, (w = 9 ∨ w = 10 ∨ w = 11) → (C0 F).idle w ((C0 F).grid.coords t) = false := fun w hw => by
      rw [idle_k w hw, h5]; rfl
    rw [leaves_live m c 9 t (hi 9 h9), leaves_live m c 10 t (hi 10 h10), leaves_live m c 11 t (hi 11 h11),
      after_9, after_10, after_11, ← hst]
    unfold stepOut; rw [if_pos h5]
    isplitl [H9]; · iexact H9
    isplitl [H10]; · iexact H10
    iexact H11
  · have hi : ∀ w : Fin 12, (w = 9 ∨ w = 10 ∨ w = 11) → (C0 F).idle w ((C0 F).grid.coords t) = true := fun w hw => by
      rw [idle_k w hw, beq_eq_false_iff_ne.2 h5]; rfl
    rw [Dat.leavesExact_idle _ 9 t (hi 9 h9) (stay_k 9 h9 t h5), Dat.leavesExact_idle _ 10 t (hi 10 h10) (stay_k 10 h10 t h5),
      Dat.leavesExact_idle _ 11 t (hi 11 h11) (stay_k 11 h11 t h5)]
    unfold stepOut; rw [if_neg h5]
    isplitl [H9]; · iexists d9; iexact H9
    isplitl [H10]; · iexists d10; iexact H10
    iexists d11; iexact H11

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : iprop(Pipeline.ΦA spec0 c ∗ Pipeline.ΦT pre0 (tabs (F := F)) c) ⊢ (dats m 0 c).Φ 0 := by
  rw [show (dats m 0 c).Φ 0 = iprop(Pipeline.ΦA spec0 c ∗ Pipeline.ΦT pre0 (tabs (F := F)) c) from rfl]

theorem hout (c : Dev nD) : (dats m 0 c).Φ (Fin.last (C0 F).N) ⊢ Pipeline.ΦA spec0 c := by
  have hN := N_C0 F
  have hl : 1087 < (C0 F).N := by rw [hN]; omega
  have e : Fin.last (C0 F).N = (⟨1087, hl⟩ : Fin (C0 F).N).succ := Fin.ext hN
  rw [e, Phi_succ, PhiA_eq]
  iintro ⟨⟨H0, H1, H2⟩, Hg, -⟩
  isplitl [H0 H1 H2]
  · isplitl [H0]; · iexists _; iexact H0
    isplitl [H1]; · iexists _; iexact H1
    iexists _; iexact H2
  iexact Hg

/-! ## The run and the frame -/

theorem hpf (c : Dev nD) (k : Fin pre0.K) : V m c (pre0.ref k) = (adm F 0).1 k := by
  match k with
  | ⟨0, _⟩ => exact V_c m c
  | ⟨1, _⟩ => exact V_c_0 m c

set_option backward.isDefEq.respectTransparency.types false in
/-- The run: it terminates, every window's array ends at what the pipeline computes, every other buffer as the call
    found it, and every counter at zero. -/
theorem run_main_quiescent : θ_run defs (onTc (τ := τ) (main (F := F))) (s₀ m ρ)
    (fun r => (Pipeline.FramePost (Pipeline.pin (pcfgs (F := F)) (adm F)) (dats m) 0 (V m)) r ∧ r.2.sem = fun _ => 0) :=
  Pipeline.θ_run_frameP_track (Q' := _) (pcfgs (F := F)) (adm F) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := hpf m) (hin := hin m) (hout := hout m)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨
      ((h.1 c).2 main_arg0 (by show main_arg0 ∈ Pipeline.restRefs sig spec0; decide)).trans (V_arg0 m c),
      ((h.1 c).2 main_arg1 (by show main_arg1 ∈ Pipeline.restRefs sig spec0; decide)).trans (V_arg1 m c),
      ((h.1 c).2 main_arg2 (by show main_arg2 ∈ Pipeline.restRefs sig spec0; decide)).trans (V_arg2 m c),
      ((h.1 c).2 main_arg3 (by show main_arg3 ∈ Pipeline.restRefs sig spec0; decide)).trans (V_arg3 m c),
      ((h.1 c).2 main_arg4 (by show main_arg4 ∈ Pipeline.restRefs sig spec0; decide)).trans (V_arg4 m c)⟩, h.2⟩) (run_main_quiescent m ρ)

end Cert.Fox

end
-- ==== Proof.Fox.Same.lean ====
/- The two printed kernels are one text: their body tables and their @main are equal, for any float values. -/
module

public import proofs.«01_k».proof.Defs
public import proofs.«01_k».proof.Proof.Gen.Kernel
public import proofs.«01_k».proof.Proof.Gen.KernelIdeal
public import proofs.«01_k».proof.Proof.Fox.Frame

@[expose] public section

noncomputable section

namespace Cert.Fox

open Idealize.ShloMosaic Idealize.SL.Sem

variable {F : FTy → Type} [FloatOps F]

set_option maxHeartbeats 4000000

theorem body_same : @Cert.Kernel.cc0_fox_bwd F _ Cert.Kernel.Gen.facts = @Cert.KernelIdeal.cc0_fox_bwd F _ Cert.KernelIdeal.Gen.facts := rfl

theorem rows_same : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc (funext fun l => ?_)
  match l with
  | 0 =>
    funext x
    show @Cert.Kernel.cc0_fox_bwd F _ Cert.Kernel.Gen.facts _ _ _ _ _ _ _ _ _ _ _ _ _ _ _ _ _ _ _ _ _ _ _ _ _ _ _ _ _ _ _ _ _ _ _ = _
    rw [body_same]
    rfl

theorem defs_same : @Cert.Kernel.defs F _ Cert.Kernel.Gen.facts = @Cert.KernelIdeal.defs F _ Cert.KernelIdeal.Gen.facts := by
  unfold Cert.Kernel.defs Cert.KernelIdeal.defs
  rw [rows_same]
  rfl

theorem main_same : @Cert.Kernel.main F _ Cert.Kernel.Gen.facts = @Cert.KernelIdeal.main F _ Cert.KernelIdeal.Gen.facts := by
  unfold Cert.Kernel.main Cert.KernelIdeal.main
  rfl

/-- The kernel runs to its end, leaves its arguments as it found them, and its semaphores at zero. -/
theorem frame_kernel : Cert.quiescent_Kernel (hKernel := Cert.Kernel.Gen.facts) := fun m ρ _ => by
  have h := frame (F := Bits) m ρ
  rw [← defs_same, ← main_same] at h
  exact h

end Cert.Fox

end
-- ==== Proof.Fox.Model.lean ====
/- The forgetting attention and its gradients over the reals: what both programs are compared with. Positions,
   heads and lanes are natural numbers; a sum over positions runs over `Fin 8192`, over lanes over `Fin 64`. -/
module

public import Idealize.ShloMosaic.PureOps.Ideal

@[expose] public section

noncomputable section

namespace Cert.Fox

open Idealize.ShloMosaic

/-- The arguments: queries, keys, values, the cotangent (head, position, lane) and the running sums of the log
    gates (head, position). -/
structure Inp where
  Q : ℕ → ℕ → ℕ → ℝ
  K : ℕ → ℕ → ℕ → ℝ
  V : ℕ → ℕ → ℕ → ℝ
  G : ℕ → ℕ → ℕ → ℝ
  C : ℕ → ℕ → ℝ

namespace Inp

variable (x : Inp)

/-- The score of key `j` for query `i`. -/
def s (h i j : ℕ) : ℝ := (∑ d : Fin 64, x.Q h i d * x.K h j d) * (1 / 8) + x.C h i - x.C h j

/-- The sum of the exponentials of a row's scores. -/
def z (h i : ℕ) : ℝ := ∑ j : Fin 8192, if j.val ≤ i then Real.exp (x.s h i j) else 0

/-- The attention weights. -/
def p (h i j : ℕ) : ℝ := if j ≤ i then Real.exp (x.s h i j) / x.z h i else 0

/-- The attention's output. -/
def o (h i d : ℕ) : ℝ := ∑ j : Fin 8192, x.p h i j * x.V h j d

/-- The cotangent of a weight. -/
def dp (h i j : ℕ) : ℝ := ∑ d : Fin 64, x.G h i d * x.V h j d

/-- The cotangent against the output, row by row. -/
def delta (h i : ℕ) : ℝ := ∑ d : Fin 64, x.G h i d * x.o h i d

/-- The gradient of a score. -/
def ds (h i j : ℕ) : ℝ := x.p h i j * (x.dp h i j - x.delta h i)

/-- The values' gradient. -/
def dv (h j d : ℕ) : ℝ := ∑ i : Fin 8192, x.p h i j * x.G h i d

/-- The keys' gradient. -/
def dk (h j d : ℕ) : ℝ := (1 / 8) * ∑ i : Fin 8192, x.ds h i j * x.Q h i d

/-- The queries' gradient. -/
def dq (h i d : ℕ) : ℝ := (1 / 8) * ∑ j : Fin 8192, x.ds h i j * x.K h j d

/-- The gradient of the running sums. -/
def dc (h j : ℕ) : ℝ := - ∑ i : Fin 8192, x.ds h i j

theorem z_pos (h i : ℕ) : 0 < x.z h i := by
  unfold z
  refine Finset.sum_pos' (fun j _ => by split <;> positivity) ⟨⟨0, by norm_num⟩, Finset.mem_univ _, ?_⟩
  rw [if_pos (Nat.zero_le _)]
  exact Real.exp_pos _

theorem p_of_lt {h i j : ℕ} (hij : i < j) : x.p h i j = 0 := if_neg (by omega)

theorem ds_of_lt {h i j : ℕ} (hij : i < j) : x.ds h i j = 0 := by
  unfold ds; rw [x.p_of_lt hij, zero_mul]

/-- A weight, from the row's log-sum. -/
theorem exp_sub_log (h i j : ℕ) : Real.exp (x.s h i j - Real.log (x.z h i)) = Real.exp (x.s h i j) / x.z h i := by
  rw [Real.exp_sub, Real.exp_log (x.z_pos h i)]

/-- The row's sum of exponentials, each score lessened by `μ`. -/
theorem z_shift (h i : ℕ) (μ : ℝ) :
    (∑ j : Fin 8192, if j.val ≤ i then Real.exp (x.s h i j - μ) else 0) = x.z h i * Real.exp (-μ) := by
  unfold z
  rw [Finset.sum_mul]
  refine Finset.sum_congr rfl fun j _ => ?_
  split
  · rw [← Real.exp_add, sub_eq_add_neg]
  · rw [zero_mul]

/-- A weight, each score of the row lessened by `μ`. -/
theorem p_shift (h i j : ℕ) (μ : ℝ) :
    (if j ≤ i then Real.exp (x.s h i j - μ) else 0) / (x.z h i * Real.exp (-μ)) = x.p h i j := by
  unfold p
  split
  · rw [sub_eq_add_neg, Real.exp_add, mul_div_mul_right _ _ (Real.exp_pos _).ne']
  · rw [zero_div]

/-- The row's log-sum, each score lessened by `μ`. -/
theorem log_shift (h i : ℕ) (μ : ℝ) : μ + Real.log (x.z h i * Real.exp (-μ)) = Real.log (x.z h i) := by
  rw [Real.log_mul (x.z_pos h i).ne' (Real.exp_pos _).ne', Real.log_exp]; ring

theorem sum_p (h i : ℕ) : ∑ j : Fin 8192, x.p h i j = 1 := by
  have e : ∀ j : Fin 8192, x.p h i j = (if j.val ≤ i then Real.exp (x.s h i j) else 0) / x.z h i := fun j => by
    unfold p; split
    · rfl
    · rw [zero_div]
  rw [Finset.sum_congr rfl fun j _ => e j, ← Finset.sum_div]
  exact div_self (x.z_pos h i).ne'

/-- The weights' cotangent, averaged over a row by the weights, is the cotangent against the output. -/
theorem sum_p_dp (h i : ℕ) : ∑ j : Fin 8192, x.p h i j * x.dp h i j = x.delta h i := by
  unfold dp delta o
  simp only [Finset.mul_sum]
  rw [Finset.sum_comm]
  exact Finset.sum_congr rfl fun d _ => Finset.sum_congr rfl fun j _ => by ring

/-- The scores' gradients of a row add up to zero. -/
theorem sum_ds (h i : ℕ) : ∑ j : Fin 8192, x.ds h i j = 0 := by
  unfold ds
  simp only [mul_sub]
  rw [Finset.sum_sub_distrib, x.sum_p_dp, ← Finset.sum_mul, x.sum_p]; ring

end Inp

/-! ## Extended reals that are real -/

theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem coe_ite (P : Prop) [Decidable P] (a b : ℝ) : ((if P then a else b : ℝ) : EReal) = if P then (a : EReal) else (b : EReal) := by
  split <;> rfl

/-- The greatest of finitely many numbers, none of them `⊤` and one of them real, is real. -/
theorem exists_fold_max {n : ℕ} (f : Fin n → EReal) (ht : ∀ j, f j ≠ ⊤) (j₀ : Fin n) (h0 : f j₀ ≠ ⊥) :
    ∃ μ : ℝ, Finset.univ.fold max ⊥ f = (μ : EReal) := by
  have h1 : Finset.univ.fold max ⊥ f ≠ ⊤ := by
    refine ne_of_lt (Finset.fold_max_lt (s := Finset.univ) (f := f) (b := ⊥) ⊤ |>.2 ⟨bot_lt_top, fun j _ => lt_top_iff_ne_top.2 (ht j)⟩)
  have h2 : Finset.univ.fold max ⊥ f ≠ ⊥ := by
    refine ne_of_gt (lt_of_lt_of_le (bot_lt_iff_ne_bot.2 h0) ?_)
    exact (Finset.le_fold_max (f j₀)).2 (.inr ⟨j₀, Finset.mem_univ _, le_rfl⟩)
  exact ⟨_, (EReal.coe_toReal h1 h2).symm⟩

theorem ofBits_eighth_f32 : Ideal.ofBits .f32 0x3E000000#32 = ((1 / 8 : ℝ) : EReal) := by
  simp [Ideal.ofBits, Ideal.ieee]; norm_cast; norm_num

theorem ofBits_eighth_bf16 : Ideal.ofBits .bf16 0x3E00#16 = ((1 / 8 : ℝ) : EReal) := by
  simp [Ideal.ofBits, Ideal.ieee]; norm_cast; norm_num

theorem ofBits_bot_f32 : Ideal.ofBits .f32 0xFF800000#32 = ⊥ := by
  simp [Ideal.ofBits, Ideal.ieee]

end Cert.Fox

end
-- ==== Proof.Fox.StepValue.lean ====
/- What one grid point of the attention's backward call computes, over the extended reals, when its input blocks hold
   real numbers: a tile of weights and of the scores' gradients, and what each accumulator gains. -/
module

public import proofs.«01_k».proof.Proof.Fox.Points
public import proofs.«01_k».proof.Proof.Fox.Model
public import Idealize.ShloMosaic.Lib.Pointwise

@[expose] public section

set_option maxRecDepth 16384

noncomputable section

namespace Cert.Fox

open Idealize.ShloMosaic Idealize.ShloMosaic.TcCoe Idealize.ShloMosaic.Tactic
open Cert.KernelIdeal Cert.KernelIdeal.Gen

/-- The signed order of two words of small numbers is the numbers' order. -/
theorem sle_ofNat {a b : ℕ} (ha : a < 2 ^ 31) (hb : b < 2 ^ 31) :
    IntOp.cmpi CmpIPredicate.sle (BitVec.ofNat 32 a) (BitVec.ofNat 32 b) = BitVec.ofBool (decide (a ≤ b)) := by
  show BitVec.ofBool (BitVec.sle _ _) = _
  congr 1
  rw [BitVec.sle_eq_decide]
  have ea : (BitVec.ofNat 32 a).toInt = a := by rw [BitVec.toInt_eq_toNat_of_lt] <;> rw [BitVec.toNat_ofNat] <;> omega
  have eb : (BitVec.ofNat 32 b).toInt = b := by rw [BitVec.toInt_eq_toNat_of_lt] <;> rw [BitVec.toNat_ofNat] <;> omega
  rw [ea, eb]
  exact decide_eq_decide.2 Nat.cast_le

/-- The input blocks hold head `h`'s query tile `I` and key tile `J`. -/
structure Blk.Holds (x : Inp) (h I J : ℕ) (b : Blk Ideal) : Prop where
  q : ∀ (r : Fin 512) (d : Fin 64), b.q (ix3 0 r d) = ((x.Q h (512 * I + r) d : ℝ) : EReal)
  k : ∀ (r : Fin 512) (d : Fin 64), b.k (ix3 0 r d) = ((x.K h (512 * J + r) d : ℝ) : EReal)
  v : ∀ (r : Fin 512) (d : Fin 64), b.v (ix3 0 r d) = ((x.V h (512 * J + r) d : ℝ) : EReal)
  cq : ∀ r : Fin 512, b.cq (ix3 0 r 0) = ((x.C h (512 * I + r) : ℝ) : EReal)
  ck : ∀ r : Fin 512, b.ck (ix3 0 0 r) = ((x.C h (512 * J + r) : ℝ) : EReal)
  o : ∀ (r : Fin 512) (d : Fin 64), b.o (ix3 0 r d) = ((x.o h (512 * I + r) d : ℝ) : EReal)
  l : ∀ r : Fin 512, b.l (ix3 0 r 0) = ((Real.log (x.z h (512 * I + r)) : ℝ) : EReal)
  g : ∀ (r : Fin 512) (d : Fin 64), b.g (ix3 0 r d) = ((x.G h (512 * I + r) d : ℝ) : EReal)

variable {x : Inp} {h I J : ℕ} {b : Blk Ideal} (hb : b.Holds x h I J)

include hb in
/-- The tile's scores. -/
theorem score_val (r r' : Fin 512) :
    (∑ d : Fin 64, b.q (ix3 0 r d) * Ideal.ofBits FTy.bf16 0x3E00#16 * b.k (ix3 0 r' d) + b.cq (ix3 0 r 0) - b.ck (ix3 0 0 r'))
      = ((x.s h (512 * I + r) (512 * J + r') : ℝ) : EReal) := by
  simp only [hb.q, hb.k, hb.cq, hb.ck, ofBits_eighth_bf16, ← EReal.coe_mul, ← coe_sum, ← EReal.coe_add, ← EReal.coe_sub]
  congr 1
  unfold Inp.s
  rw [Finset.sum_mul]
  congr 2
  exact Finset.sum_congr rfl fun d _ => by ring

include hb in
/-- The weights of a tile under the diagonal. -/
theorem p_off (hIJ : J < I) (r r' : Fin 512) :
    k0_pay13 b.q b.k b.cq b.ck b.l (ix2 r r') = ((x.p h (512 * I + r) (512 * J + r') : ℝ) : EReal) := by
  pointwise [k0_pay13, k0_pay10, k0_pay11]
  refine (congrArg (fun y => Ideal.exp (y - b.l (ix3 0 r 0))) (score_val hb r r')).trans ?_
  simp only [hb.l]
  rw [← EReal.coe_sub]
  show ((Real.exp _ : ℝ) : EReal) = _
  rw [x.exp_sub_log]
  unfold Inp.p
  rw [if_pos (by omega)]

include hb in
/-- The weights of a tile on the diagonal. -/
theorem p_diag (hIJ : I = J) (r r' : Fin 512) :
    k0_pay25 b.q b.k b.cq b.ck b.l (ix2 r r') = ((x.p h (512 * I + r) (512 * J + r') : ℝ) : EReal) := by
  pointwise [k0_pay25, k0_pay22, k0_pay23]
  refine (congrArg (fun y => Ideal.exp (Scalar.select (IntOp.cmpi CmpIPredicate.sle (BitVec.ofNat 32 r'.val) (BitVec.ofNat 32 r.val)) y (Ideal.ofBits FTy.f32 4286578688#32) - b.l (ix3 0 r 0))) (score_val hb r r')).trans ?_
  have hs : IntOp.cmpi CmpIPredicate.sle (BitVec.ofNat 32 r'.val) (BitVec.ofNat 32 r.val) = BitVec.ofBool (decide (r'.val ≤ r.val)) := by
    exact sle_ofNat (by have := r'.isLt; omega) (by have := r.isLt; omega)
  simp only [hb.l, hs, ofBits_bot_f32]
  unfold Inp.p
  by_cases hr : r'.val ≤ r.val
  · rw [if_pos (by omega), decide_eq_true hr]
    show Ideal.exp ((x.s h (512 * I + r) (512 * J + r') : ℝ) - (Real.log (x.z h (512 * I + r)) : ℝ) : EReal) = _
    rw [← EReal.coe_sub]
    show ((Real.exp _ : ℝ) : EReal) = _
    rw [x.exp_sub_log]
  · rw [if_neg (by omega), decide_eq_false hr]
    show Ideal.exp ((⊥ : EReal) - (Real.log (x.z h (512 * I + r)) : ℝ) : EReal) = _
    rw [EReal.bot_sub]
    rfl

include hb in
/-- The scores' gradients of a tile under the diagonal. -/
theorem ds_off (hIJ : J < I) (r r' : Fin 512) :
    k0_pay17 (k0_pay12 b.g) (k0_pay13 b.q b.k b.cq b.ck b.l) (k0_pay14 b.g b.o) b.v (ix2 r r')
      = ((x.ds h (512 * I + r) (512 * J + r') : ℝ) : EReal) := by
  pointwise [k0_pay17, k0_pay12, k0_pay14]
  rw [p_off hb hIJ]
  simp only [hb.g, hb.v, hb.o, ← EReal.coe_mul, ← coe_sum, ← EReal.coe_sub]
  rfl

include hb in
/-- The scores' gradients of a tile on the diagonal. -/
theorem ds_diag (hIJ : I = J) (r r' : Fin 512) :
    k0_pay28 (k0_pay24 b.g) (k0_pay25 b.q b.k b.cq b.ck b.l) (k0_pay26 b.g b.o) b.v (ix2 r r')
      = ((x.ds h (512 * I + r) (512 * J + r') : ℝ) : EReal) := by
  pointwise [k0_pay28, k0_pay24, k0_pay26]
  rw [p_diag hb hIJ]
  simp only [hb.g, hb.v, hb.o, ← EReal.coe_mul, ← coe_sum, ← EReal.coe_sub]
  rfl

/-! ## The two tables as numbers -/

/-- The query tile of step `n` of a head. -/
def qi (n : Fin 136) : ℕ := (lit0 n).toNat

/-- The key tile of step `n` of a head. -/
def kj (n : Fin 136) : ℕ := (lit1 n).toNat

theorem off2_lit : ∀ n : Fin 136, k0_off2 (lit0 n) = ![0, 512 * qi n, 0] := by decide +kernel

theorem off3_lit : ∀ n : Fin 136, k0_off3 (lit0 n) = ![0, 512 * qi n, 0] := by decide +kernel

theorem cond3_lit : ∀ n : Fin 136, k0_cond3 (lit0 n) (lit1 n) = 1#1 ↔ kj n < qi n := by decide +kernel

theorem cond4_lit : ∀ n : Fin 136, k0_cond4 (lit0 n) (lit1 n) = 1#1 ↔ qi n = kj n := by decide +kernel

theorem cond5_lit : ∀ n : Fin 136, k0_cond5 (lit0 n) = 1#1 ↔ qi n = 15 := by decide +kernel

theorem kj_le_qi : ∀ n : Fin 136, kj n ≤ qi n := by decide +kernel

theorem qi_lt (n : Fin 136) : qi n < 16 := lit0_lt n

/-! ## A tile's rows of the query gradient -/

theorem window_rows (a : Vec Ideal S1x8192x64 .f32) (off : Fin 3 → ℕ) (n : ℕ) (e : off = ![0, 512 * n, 0])
    (hin : ∀ k, off k + S1x512x64.size k ≤ S1x8192x64.size k) (hn : n < 16) (r : Fin 512) (d : Fin 64) :
    VecWindow.window a off S1x512x64.size hin (ix3 0 r d) = a (ix3 0 ⟨512 * n + r, by omega⟩ d) := by
  subst e
  unfold VecWindow.window
  congr 1
  funext k
  refine Fin.ext ?_
  fin_cases k
  · show 0 + 1 * 0 = 0; rfl
  · show 512 * n + 1 * r.val = 512 * n + r.val; omega
  · show 0 + 1 * d.val = d.val; omega

theorem put_rows (a : Vec Ideal S1x8192x64 .f32) (off : Fin 3 → ℕ) (n : ℕ) (e : off = ![0, 512 * n, 0])
    (w : Vec Ideal S1x512x64 .f32) (y : Fin 8192) (d : Fin 64) :
    VecWindow.put a off S1x512x64.size w (ix3 0 y d)
      = if hy : 512 * n ≤ y.val ∧ y.val < 512 * n + 512 then w (ix3 0 ⟨y.val - 512 * n, by omega⟩ d) else a (ix3 0 y d) := by
  subst e
  unfold VecWindow.put
  by_cases hy : 512 * n ≤ y.val ∧ y.val < 512 * n + 512
  · rw [dif_pos hy, dif_pos]
    · congr 1
      funext k
      refine Fin.ext ?_
      fin_cases k <;> rfl
    · intro k
      fin_cases k
      · show 0 ≤ 0 ∧ 0 < 0 + 1; omega
      · exact hy
      · have := d.isLt; show 0 ≤ d.val ∧ d.val < 0 + 64; omega
  · rw [dif_neg hy, dif_neg]
    intro hk
    exact hy (hk 1)

/-! ## What an accumulator gains -/

/-- What the keys' gradient gains from a pair of tiles. -/
def Inp.dkT (x : Inp) (h I J r d : ℕ) : ℝ := (1 / 8) * ∑ r' : Fin 512, x.ds h (512 * I + r') (512 * J + r) * x.Q h (512 * I + r') d

/-- What the values' gradient gains. -/
def Inp.dvT (x : Inp) (h I J r d : ℕ) : ℝ := ∑ r' : Fin 512, x.p h (512 * I + r') (512 * J + r) * x.G h (512 * I + r') d

/-- What the sum of the scores' gradients gains. -/
def Inp.dcT (x : Inp) (h I J r : ℕ) : ℝ := ∑ r' : Fin 512, x.ds h (512 * I + r') (512 * J + r)

/-- What a row of the queries' gradient gains from a key tile. -/
def Inp.dqT (x : Inp) (h y J d : ℕ) : ℝ := (1 / 8) * ∑ r' : Fin 512, x.ds h y (512 * J + r') * x.K h (512 * J + r') d

/-- The carried buffers hold real numbers. -/
structure Acc.Holds (q : ℕ → ℕ → ℝ) (k v : ℕ → ℕ → ℝ) (c : ℕ → ℝ) (a : Acc Ideal) : Prop where
  dq : ∀ (y : Fin 8192) (d : Fin 64), a.dq (ix3 0 y d) = ((q y d : ℝ) : EReal)
  dk : ∀ (r : Fin 512) (d : Fin 64), a.dk (ix2 r d) = ((k r d : ℝ) : EReal)
  dv : ∀ (r : Fin 512) (d : Fin 64), a.dv (ix2 r d) = ((v r d : ℝ) : EReal)
  dc : ∀ r : Fin 512, a.dc (ix2 0 r) = ((c r : ℝ) : EReal)

include hb in
/-- A step under the diagonal. -/
theorem off_val (n : Fin 136) (hI : qi n = I) (hIJ : J < I) (hin) (a : Acc Ideal) (q k v c) (ha : a.Holds q k v c) :
    (offStep (lit0 n) hin b a).Holds
      (fun y d => if 512 * I ≤ y ∧ y < 512 * I + 512 then q y d + x.dqT h y J d else q y d)
      (fun r d => k r d + x.dkT h I J r d) (fun r d => v r d + x.dvT h I J r d) (fun r => c r + x.dcT h I J r) where
  dq y d := by
    have e := off2_lit n
    rw [hI] at e
    have hI16 : I < 16 := hI ▸ qi_lt n
    show VecWindow.put a.dq (k0_off2 (lit0 n)) S1x512x64.size _ (ix3 0 y d) = _
    rw [put_rows _ _ I e]
    by_cases hy : 512 * I ≤ y.val ∧ y.val < 512 * I + 512
    · rw [dif_pos hy, if_pos hy]
      pointwise [k0_pay5, k0_pay21, k0_pay19, k0_pay11]
      rw [window_rows a.dq _ I e hin hI16]
      have ey : 512 * I + (y.val - 512 * I) = y.val := by omega
      simp only [ds_off hb hIJ, hb.k, ey, ha.dq, ofBits_eighth_f32, ← EReal.coe_mul, ← coe_sum, ← EReal.coe_add]
      rfl
    · rw [dif_neg hy, if_neg hy]
      exact ha.dq y d
  dk r d := by
    show k0_pay20 (k0_pay10 b.q) (k0_pay12 b.g) (k0_pay13 b.q b.k b.cq b.ck b.l) (k0_pay14 b.g b.o) b.v a.dk (ix2 r d) = _
    pointwise [k0_pay20, k0_pay19, k0_pay10]
    simp only [ds_off hb hIJ, hb.q, ha.dk, ofBits_eighth_f32, ← EReal.coe_mul, ← coe_sum, ← EReal.coe_add]
    rfl
  dv r d := by
    show k0_pay16 (k0_pay15 b.q b.k b.g b.cq b.ck b.l a.dv) (ix2 r d) = _
    pointwise [k0_pay16, k0_pay15, k0_pay12]
    simp only [p_off hb hIJ, hb.g, ha.dv, ← EReal.coe_mul, ← coe_sum, ← EReal.coe_add]
    rfl
  dc r := by
    show k0_pay18 (k0_pay12 b.g) (k0_pay13 b.q b.k b.cq b.ck b.l) (k0_pay14 b.g b.o) b.v a.dc (ix2 0 r) = _
    pointwise [k0_pay18]
    simp only [ds_off hb hIJ, ha.dc, ← coe_sum, ← EReal.coe_add]
    rfl

include hb in
/-- A step on the diagonal. -/
theorem diag_val (n : Fin 136) (hI : qi n = I) (hIJ : I = J) (hin) (a : Acc Ideal) (q k v c) (ha : a.Holds q k v c) :
    (diagStep (lit0 n) hin b a).Holds
      (fun y d => if 512 * I ≤ y ∧ y < 512 * I + 512 then q y d + x.dqT h y J d else q y d)
      (fun r d => x.dkT h I J r d) (fun r d => x.dvT h I J r d) (fun r => x.dcT h I J r) where
  dq y d := by
    have e := off3_lit n
    rw [hI] at e
    have hI16 : I < 16 := hI ▸ qi_lt n
    show VecWindow.put a.dq (k0_off3 (lit0 n)) S1x512x64.size _ (ix3 0 y d) = _
    rw [put_rows _ _ I e]
    by_cases hy : 512 * I ≤ y.val ∧ y.val < 512 * I + 512
    · rw [dif_pos hy, if_pos hy]
      pointwise [k0_pay6, k0_pay32, k0_pay33, k0_pay30, k0_pay23]
      rw [window_rows a.dq _ I e hin hI16]
      have ey : 512 * I + (y.val - 512 * I) = y.val := by omega
      simp only [ds_diag hb hIJ, hb.k, ey, ha.dq, ofBits_eighth_f32, ← EReal.coe_mul, ← coe_sum, ← EReal.coe_add]
      rfl
    · rw [dif_neg hy, if_neg hy]
      exact ha.dq y d
  dk r d := by
    show k0_pay31 (k0_pay22 b.q) (k0_pay24 b.g) (k0_pay25 b.q b.k b.cq b.ck b.l) (k0_pay26 b.g b.o) b.v (k0_pay2 (F := Ideal)) (ix2 r d) = _
    pointwise [k0_pay31, k0_pay30, k0_pay22, k0_pay2]
    simp only [ds_diag hb hIJ, hb.q, ofBits_eighth_f32, ← EReal.coe_mul, ← coe_sum]
    rfl
  dv r d := by
    show k0_pay27 (k0_pay24 b.g) (k0_pay25 b.q b.k b.cq b.ck b.l) (k0_pay3 (F := Ideal)) (ix2 r d) = _
    pointwise [k0_pay27, k0_pay24, k0_pay3]
    simp only [p_diag hb hIJ, hb.g, ← EReal.coe_mul, ← coe_sum]
    rfl
  dc r := by
    show k0_pay29 (k0_pay24 b.g) (k0_pay25 b.q b.k b.cq b.ck b.l) (k0_pay26 b.g b.o) b.v (k0_pay4 (F := Ideal)) (ix2 0 r) = _
    pointwise [k0_pay29, k0_pay4]
    simp only [ds_diag hb hIJ, ← coe_sum]
    rfl

end Cert.Fox

end
-- ==== Proof.Fox.Rows.lean ====
/- The attention's masked scores, their row maximum, exponentials and sums over the extended reals, as both programs
   compute them from real arguments. -/
module

public import proofs.«01_k».proof.Proof.Fox.StepValue

@[expose] public section

noncomputable section

namespace Cert.Fox

open Idealize.ShloMosaic Idealize.ShloMosaic.Tactic

/-- The five arguments hold the model's numbers, head `h` in lanes `64 h … 64 h + 63`. -/
structure ArgsAre (x : Inp) (q k v g : Fin 8192 → Fin 512 → EReal) (cT : Fin 8 → Fin 8192 → EReal) : Prop where
  q : ∀ (i : Fin 8192) (h : Fin 8) (d : Fin 64) (e : h.val * 64 + d.val < 512), q i ⟨h.val * 64 + d.val, e⟩ = ((x.Q h i d : ℝ) : EReal)
  k : ∀ (i : Fin 8192) (h : Fin 8) (d : Fin 64) (e : h.val * 64 + d.val < 512), k i ⟨h.val * 64 + d.val, e⟩ = ((x.K h i d : ℝ) : EReal)
  v : ∀ (i : Fin 8192) (h : Fin 8) (d : Fin 64) (e : h.val * 64 + d.val < 512), v i ⟨h.val * 64 + d.val, e⟩ = ((x.V h i d : ℝ) : EReal)
  g : ∀ (i : Fin 8192) (h : Fin 8) (d : Fin 64) (e : h.val * 64 + d.val < 512), g i ⟨h.val * 64 + d.val, e⟩ = ((x.G h i d : ℝ) : EReal)
  c : ∀ (h : Fin 8) (i : Fin 8192), cT h i = ((x.C h i : ℝ) : EReal)

/-- The model of five arrays. -/
def inpOf (q k v g : Fin 8192 → Fin 512 → EReal) (cT : Fin 8 → Fin 8192 → EReal) : Inp where
  Q h i d := if e : i < 8192 ∧ h * 64 + d < 512 then (q ⟨i, e.1⟩ ⟨h * 64 + d, e.2⟩).toReal else 0
  K h i d := if e : i < 8192 ∧ h * 64 + d < 512 then (k ⟨i, e.1⟩ ⟨h * 64 + d, e.2⟩).toReal else 0
  V h i d := if e : i < 8192 ∧ h * 64 + d < 512 then (v ⟨i, e.1⟩ ⟨h * 64 + d, e.2⟩).toReal else 0
  G h i d := if e : i < 8192 ∧ h * 64 + d < 512 then (g ⟨i, e.1⟩ ⟨h * 64 + d, e.2⟩).toReal else 0
  C h i := if e : h < 8 ∧ i < 8192 then (cT ⟨h, e.1⟩ ⟨i, e.2⟩).toReal else 0

/-- A finite entry is the real number it converts to. -/
theorem coe_toReal_of_fin {y : EReal} (h : y ≠ ⊤ ∧ y ≠ ⊥) : y = ((y.toReal : ℝ) : EReal) := (EReal.coe_toReal h.1 h.2).symm

/-- Arrays with finite entries hold their model's numbers. -/
theorem argsAre_inpOf {q k v g : Fin 8192 → Fin 512 → EReal} {cT : Fin 8 → Fin 8192 → EReal}
    (hq : ∀ i l, q i l ≠ ⊤ ∧ q i l ≠ ⊥) (hk : ∀ i l, k i l ≠ ⊤ ∧ k i l ≠ ⊥) (hv : ∀ i l, v i l ≠ ⊤ ∧ v i l ≠ ⊥)
    (hg : ∀ i l, g i l ≠ ⊤ ∧ g i l ≠ ⊥) (hc : ∀ h i, cT h i ≠ ⊤ ∧ cT h i ≠ ⊥) : ArgsAre (inpOf q k v g cT) q k v g cT where
  q i h d e := by rw [coe_toReal_of_fin (hq i _)]; refine congrArg _ (Eq.symm ?_); exact dif_pos (⟨i.isLt, e⟩ : i.val < 8192 ∧ h.val * 64 + d.val < 512)
  k i h d e := by rw [coe_toReal_of_fin (hk i _)]; refine congrArg _ (Eq.symm ?_); exact dif_pos (⟨i.isLt, e⟩ : i.val < 8192 ∧ h.val * 64 + d.val < 512)
  v i h d e := by rw [coe_toReal_of_fin (hv i _)]; refine congrArg _ (Eq.symm ?_); exact dif_pos (⟨i.isLt, e⟩ : i.val < 8192 ∧ h.val * 64 + d.val < 512)
  g i h d e := by rw [coe_toReal_of_fin (hg i _)]; refine congrArg _ (Eq.symm ?_); exact dif_pos (⟨i.isLt, e⟩ : i.val < 8192 ∧ h.val * 64 + d.val < 512)
  c h i := by rw [coe_toReal_of_fin (hc h i)]; refine congrArg _ (Eq.symm ?_); exact dif_pos (⟨h.isLt, i.isLt⟩ : h.val < 8 ∧ i.val < 8192)

namespace Inp

variable (x : Inp)

/-- A score, minus infinity above the diagonal. -/
def ms (h i j : ℕ) : EReal := if j ≤ i then ((x.s h i j : ℝ) : EReal) else ⊥

theorem score_coe (h i j : ℕ) :
    (∑ d : Fin 64, ((x.Q h i d : ℝ) : EReal) * ((x.K h j d : ℝ) : EReal)) * ((1 / 8 : ℝ) : EReal) + ((x.C h i : ℝ) : EReal) - ((x.C h j : ℝ) : EReal)
      = ((x.s h i j : ℝ) : EReal) := by
  simp only [← EReal.coe_mul, ← coe_sum, ← EReal.coe_add, ← EReal.coe_sub]
  rfl

/-- The mask's comparison of positions. -/
theorem select_pos {A : Type} (i j : Fin 8192) (a b : A) :
    Scalar.select (IntOp.cmpi CmpIPredicate.sle (BitVec.ofNat 32 j.val) (BitVec.ofNat 32 i.val)) a b = if j.val ≤ i.val then a else b := by
  rw [sle_ofNat (by have := j.isLt; omega) (by have := i.isLt; omega)]
  by_cases hji : j.val ≤ i.val
  · rw [if_pos hji, decide_eq_true hji]; rfl
  · rw [if_neg hji, decide_eq_false hji]; rfl

theorem select_ms (h : ℕ) (i j : Fin 8192) : (if j.val ≤ i.val then ((x.s h i j : ℝ) : EReal) else ⊥) = x.ms h i j := rfl

/-- A row's greatest score. -/
def mu (h i : ℕ) : ℝ := (Finset.univ.fold max ⊥ fun j : Fin 8192 => x.ms h i j).toReal

theorem max_ms (h : ℕ) (i : Fin 8192) : (Finset.univ.fold max ⊥ fun j : Fin 8192 => x.ms h i j) = ((x.mu h i : ℝ) : EReal) := by
  obtain ⟨μ, hμ⟩ := exists_fold_max (fun j : Fin 8192 => x.ms h i j)
    (fun j => by show (if _ then _ else _) ≠ _; split <;> simp) ⟨0, by norm_num⟩
    (by show (if _ then _ else _) ≠ _; rw [if_pos (Nat.zero_le _)]; exact EReal.coe_ne_bot _)
  unfold mu
  rw [hμ]; rfl

/-- A row's exponentials. -/
def e (h i j : ℕ) : ℝ := if j ≤ i then Real.exp (x.s h i j - x.mu h i) else 0

/-- Their sum. -/
def l (h i : ℕ) : ℝ := x.z h i * Real.exp (-x.mu h i)

theorem l_pos (h i : ℕ) : 0 < x.l h i := mul_pos (x.z_pos h i) (Real.exp_pos _)

theorem exp_ms (h i j : ℕ) : Ideal.exp (x.ms h i j - ((x.mu h i : ℝ) : EReal)) = ((x.e h i j : ℝ) : EReal) := by
  unfold ms e
  split
  · rw [← EReal.coe_sub]; rfl
  · rw [EReal.bot_sub]; rfl

theorem sum_e (h i : ℕ) : (∑ j : Fin 8192, ((x.e h i j : ℝ) : EReal)) = ((x.l h i : ℝ) : EReal) := by
  rw [← coe_sum]
  exact congrArg _ (x.z_shift h i (x.mu h i))

theorem div_e (h i j : ℕ) : Ideal.div ((x.e h i j : ℝ) : EReal) ((x.l h i : ℝ) : EReal) = ((x.p h i j : ℝ) : EReal) := by
  rw [Ideal.div_coe (x.l_pos h i).ne', ← EReal.coe_mul]
  congr 1
  rw [mul_one_div]
  exact x.p_shift h i j (x.mu h i)

theorem log_l (h i : ℕ) : ((x.mu h i : ℝ) : EReal) + Ideal.log ((x.l h i : ℝ) : EReal) = ((Real.log (x.z h i) : ℝ) : EReal) := by
  have e : Ideal.log ((x.l h i : ℝ) : EReal) = ((Real.log (x.l h i) : ℝ) : EReal) := by
    show (if x.l h i ≤ 0 then (⊥ : EReal) else _) = _
    rw [if_neg (not_le.2 (x.l_pos h i))]
  rw [e, ← EReal.coe_add]
  exact congrArg _ (x.log_shift h i (x.mu h i))

end Inp

end Cert.Fox

end
-- ==== Proof.Fox.HostStages.lean ====
/- The host operations before the call in stages, each read at an index: masked scores, their row maximum, the
   exponentials, their row sum, and from these the attention's output and each row's log-sum. -/
module

public import proofs.«01_k».proof.Proof.Fox.Rows
public import proofs.«01_k».proof.Proof.Fox.Frame
public import Idealize.ShloMosaic.Lib.StableHlo.ReadAt

@[expose] public section

set_option maxRecDepth 16384

noncomputable section

namespace Cert.Fox

open Idealize.ShloMosaic Idealize.ShloMosaic.TcCoe Idealize.ShloMosaic.Tactic
open Cert.KernelIdeal Cert.KernelIdeal.Gen

variable {F : FTy → Type} [FloatOps F]

/-- One head's lanes of every head. -/
def hHead (a : Vec F S8192x512 .bf16) : Vec F S8x8192x64 .bf16 :=
  transpose S8x8192x64 [1, 0, 2] (shapeCast S8192x8x64 a shapeCasts_S8192x512_S8192x8x64) transposes_S8192x8x64_S8x8192x64_1_0_2

/-- The scores, minus infinity above the diagonal. -/
def hScore (q k : Vec F S8x8192x64 .bf16) (cT : Vec F S8x8192 .f32) : Vec F S8x8192x8192 .f32 :=
  select (cmpi .sle (iotaInDim S8x8192x8192 32 2) (iotaInDim S8x8192x8192 32 1))
    (subf
      (addf
        (mulf
          (Host.dotGeneral dot_S8x8192x64_S8x8192x64_S8x8192x8192_2_2_1_1_0_0 none (extf .f32 q bitsLt_bf16_f32) (extf .f32 k bitsLt_bf16_f32))
          (broadcastInDim S8x8192x8192 ![] bcast_S_S8x8192x8192 (constant S_ .f32 0x3E000000#32)))
        (broadcastInDim S8x8192x8192 ![0, 1, 2] bcast_S8x8192x1_S8x8192x8192_0_1_2 (broadcastInDim S8x8192x1 ![0, 1] bcast_S8x8192_S8x8192x1_0_1 cT)))
      (broadcastInDim S8x8192x8192 ![0, 1, 2] bcast_S8x1x8192_S8x8192x8192_0_1_2 (broadcastInDim S8x1x8192 ![0, 2] bcast_S8x8192_S8x1x8192_0_2 cT)))
    (broadcastInDim S8x8192x8192 ![] bcast_S_S8x8192x8192 (constant S_ .f32 0xFF800000#32))

/-- A row's maximum. -/
def hMax (s : Vec F S8x8192x8192 .f32) : Vec F S8x8192x1 .f32 :=
  broadcastInDim S8x8192x1 ![0, 1] bcast_S8x8192_S8x8192x1_0_1
    (Host.reduce FloatOps.maximumf s (constant S_ .f32 0xFF800000#32) reducesTo_S8x8192x8192_S8x8192_d2 h_S_)

/-- The exponentials. -/
def hExp (s : Vec F S8x8192x8192 .f32) (mx : Vec F S8x8192x1 .f32) : Vec F S8x8192x8192 .f32 :=
  Host.exp (subf s (broadcastInDim S8x8192x8192 ![0, 1, 2] bcast_S8x8192x1_S8x8192x8192_0_1_2 mx))

/-- A row's sum. -/
def hSum (e : Vec F S8x8192x8192 .f32) : Vec F S8x8192x1 .f32 :=
  broadcastInDim S8x8192x1 ![0, 1] bcast_S8x8192_S8x8192x1_0_1
    (Host.reduceAdd e (constant S_ .f32 0x00000000#32) reducesTo_S8x8192x8192_S8x8192_d2 h_S_)

/-- The weights against the values. -/
def hOut (e : Vec F S8x8192x8192 .f32) (l : Vec F S8x8192x1 .f32) (v : Vec F S8x8192x64 .bf16) : Vec F S8x8192x64 .f32 :=
  Host.dotGeneral dot_S8x8192x8192_S8x8192x64_S8x8192x64_2_1_1_2_0_0 none
    (Host.divf e (broadcastInDim S8x8192x8192 ![0, 1, 2] bcast_S8x8192x1_S8x8192x8192_0_1_2 l)) (extf .f32 v bitsLt_bf16_f32)

/-- A row's log-sum. -/
def hLse (mx l : Vec F S8x8192x1 .f32) : Vec F S8x8192x1 .f32 := addf mx (Host.log l)

theorem hHead_at (a : Vec Ideal S8192x512 .bf16) (h : Fin 8) (i : Fin 8192) (d : Fin 64) :
    hHead a (ix3 h i d) = a (ix2 i ⟨h.val * 64 + d.val, by omega⟩) := by
  pointwise [hHead]

theorem hScore_at (q k : Vec Ideal S8x8192x64 .bf16) (cT : Vec Ideal S8x8192 .f32) (h : Fin 8) (i j : Fin 8192) :
    hScore q k cT (ix3 h i j) = Scalar.select (IntOp.cmpi CmpIPredicate.sle (BitVec.ofNat 32 j.val) (BitVec.ofNat 32 i.val))
      ((∑ d : Fin 64, q (ix3 h i d) * k (ix3 h j d)) * Ideal.ofBits FTy.f32 0x3E000000#32 + cT (ix2 h i) - cT (ix2 h j))
      (Ideal.ofBits FTy.f32 0xFF800000#32) := by
  pointwise [hScore]

theorem hMax_at (s : Vec Ideal S8x8192x8192 .f32) (h : Fin 8) (i : Fin 8192) :
    hMax s (ix3 h i 0) = Finset.univ.fold max (Ideal.ofBits FTy.f32 0xFF800000#32) fun j : Fin 8192 => s (ix3 h i j) := by
  pointwise [hMax]

theorem hExp_at (s : Vec Ideal S8x8192x8192 .f32) (mx : Vec Ideal S8x8192x1 .f32) (h : Fin 8) (i j : Fin 8192) :
    hExp s mx (ix3 h i j) = Ideal.exp (s (ix3 h i j) - mx (ix3 h i 0)) := by
  pointwise [hExp]

theorem hSum_at (e : Vec Ideal S8x8192x8192 .f32) (h : Fin 8) (i : Fin 8192) :
    hSum e (ix3 h i 0) = ∑ j : Fin 8192, e (ix3 h i j) := by
  pointwise [hSum]

theorem hOut_at (e : Vec Ideal S8x8192x8192 .f32) (l : Vec Ideal S8x8192x1 .f32) (v : Vec Ideal S8x8192x64 .bf16) (h : Fin 8) (i : Fin 8192)
    (d : Fin 64) : hOut e l v (ix3 h i d) = ∑ j : Fin 8192, Ideal.div (e (ix3 h i j)) (l (ix3 h i 0)) * v (ix3 h j d) := by
  pointwise [hOut]

theorem hLse_at (mx l : Vec Ideal S8x8192x1 .f32) (h : Fin 8) (i : Fin 8192) :
    hLse mx l (ix3 h i 0) = mx (ix3 h i 0) + Ideal.log (l (ix3 h i 0)) := by
  pointwise [hLse]

end Cert.Fox

end
-- ==== Proof.Fox.HostValue.lean ====
/- What the host operations before the call leave in the call's arrays, the arguments holding real numbers: the heads'
   queries, keys, values and cotangents, the attention's output and each row's log-sum. -/
module

public import proofs.«01_k».proof.Proof.Fox.HostStages

@[expose] public section

set_option maxRecDepth 16384

noncomputable section

namespace Cert.Fox

open Idealize.ShloMosaic Idealize.ShloMosaic.TcCoe Idealize.ShloMosaic.Tactic
open Cert.KernelIdeal Cert.KernelIdeal.Gen

section Stages

variable {x : Inp}

theorem hScore_val {q k : Vec Ideal S8x8192x64 .bf16} {cT : Vec Ideal S8x8192 .f32}
    (hq : ∀ (h : Fin 8) (i : Fin 8192) (d : Fin 64), q (ix3 h i d) = ((x.Q h i d : ℝ) : EReal))
    (hk : ∀ (h : Fin 8) (i : Fin 8192) (d : Fin 64), k (ix3 h i d) = ((x.K h i d : ℝ) : EReal))
    (hc : ∀ (h : Fin 8) (i : Fin 8192), cT (ix2 h i) = ((x.C h i : ℝ) : EReal)) (h : Fin 8) (i j : Fin 8192) :
    hScore q k cT (ix3 h i j) = x.ms h i j := by
  rw [hScore_at]
  simp only [hq, hk, hc, ofBits_eighth_f32, ofBits_bot_f32]
  rw [x.score_coe, Inp.select_pos]
  rfl

variable {s : Vec Ideal S8x8192x8192 .f32} (hs : ∀ (h : Fin 8) (i j : Fin 8192), s (ix3 h i j) = x.ms h i j)

include hs in
theorem hMax_val (h : Fin 8) (i : Fin 8192) : hMax s (ix3 h i 0) = ((x.mu h i : ℝ) : EReal) := by
  rw [hMax_at, ofBits_bot_f32]
  simp only [hs]
  exact x.max_ms h i

include hs in
theorem hExp_val (h : Fin 8) (i j : Fin 8192) : hExp s (hMax s) (ix3 h i j) = ((x.e h i j : ℝ) : EReal) := by
  rw [hExp_at, hs, hMax_val hs, x.exp_ms]

include hs in
theorem hSum_val (h : Fin 8) (i : Fin 8192) : hSum (hExp s (hMax s)) (ix3 h i 0) = ((x.l h i : ℝ) : EReal) := by
  rw [hSum_at]
  simp only [hExp_val hs]
  exact x.sum_e h i

include hs in
theorem hOut_val {v : Vec Ideal S8x8192x64 .bf16} (hv : ∀ (h : Fin 8) (i : Fin 8192) (d : Fin 64), v (ix3 h i d) = ((x.V h i d : ℝ) : EReal))
    (h : Fin 8) (i : Fin 8192) (d : Fin 64) :
    hOut (hExp s (hMax s)) (hSum (hExp s (hMax s))) v (ix3 h i d) = ((x.o h i d : ℝ) : EReal) := by
  rw [hOut_at]
  simp only [hExp_val hs, hSum_val hs, hv, Inp.div_e, ← EReal.coe_mul, ← coe_sum]
  rfl

include hs in
theorem hLse_val (h : Fin 8) (i : Fin 8192) :
    hLse (hMax s) (hSum (hExp s (hMax s))) (ix3 h i 0) = ((Real.log (x.z h i) : ℝ) : EReal) := by
  rw [hLse_at, hMax_val hs, hSum_val hs, x.log_l]

end Stages

/-- Core `c`'s arguments hold the model's numbers. -/
abbrev KArgs (x : Inp) (m : (ℓ : Loc nD τ sig) → Buf (Elt Ideal) ℓ) (c : Dev nD) : Prop :=
  ArgsAre x (fun i l => m ((c : Thread nD τ).loc main_arg0) (ix2 i l)) (fun i l => m ((c : Thread nD τ).loc main_arg1) (ix2 i l))
    (fun i l => m ((c : Thread nD τ).loc main_arg2) (ix2 i l)) (fun i l => m ((c : Thread nD τ).loc main_arg4) (ix2 i l))
    (fun h i => m ((c : Thread nD τ).loc main_arg3) (ix2 h i))

section Reads

variable (m : (ℓ : Loc nD τ sig) → Buf (Elt Ideal) ℓ) (c : Dev nD)

theorem V_v1 : V m c main_v1 = hHead (m ((c : Thread nD τ).loc main_arg0)) := by unfold V; after_reads_simp; rfl
theorem V_v3 : V m c main_v3 = hHead (m ((c : Thread nD τ).loc main_arg1)) := by unfold V; after_reads_simp; rfl
theorem V_v5 : V m c main_v5 = hHead (m ((c : Thread nD τ).loc main_arg2)) := by unfold V; after_reads_simp; rfl
theorem V_v38 : V m c main_v38 = hHead (m ((c : Thread nD τ).loc main_arg4)) := by unfold V; after_reads_simp; rfl
theorem V_v35 : V m c main_v35
    = broadcastInDim S8x8192x1 ![0, 1] bcast_S8x8192_S8x8192x1_0_1 (m ((c : Thread nD τ).loc main_arg3)) := by unfold V; after_reads_simp
theorem V_v36 : V m c main_v36
    = broadcastInDim S8x1x8192 ![0, 2] bcast_S8x8192_S8x1x8192_0_2 (m ((c : Thread nD τ).loc main_arg3)) := by unfold V; after_reads_simp

/-- The masked scores of core `c`'s arguments. -/
def sAt : Vec Ideal S8x8192x8192 .f32 :=
  hScore (hHead (m ((c : Thread nD τ).loc main_arg0))) (hHead (m ((c : Thread nD τ).loc main_arg1))) (m ((c : Thread nD τ).loc main_arg3))

theorem V_v32 : V m c main_v32
    = hOut (hExp (sAt m c) (hMax (sAt m c))) (hSum (hExp (sAt m c) (hMax (sAt m c)))) (hHead (m ((c : Thread nD τ).loc main_arg2))) := by
  unfold V; after_reads_simp; rfl

theorem V_v34 : V m c main_v34 = hLse (hMax (sAt m c)) (hSum (hExp (sAt m c) (hMax (sAt m c)))) := by
  unfold V; after_reads_simp; rfl

end Reads

variable {x : Inp} {m : (ℓ : Loc nD τ sig) → Buf (Elt Ideal) ℓ} {c : Dev nD} (hx : KArgs x m c)

include hx

theorem sAt_val (h : Fin 8) (i j : Fin 8192) : sAt m c (ix3 h i j) = x.ms h i j :=
  hScore_val (fun h i d => (hHead_at _ h i d).trans (hx.q i h d _)) (fun h i d => (hHead_at _ h i d).trans (hx.k i h d _)) hx.c h i j

theorem host_q (h : Fin 8) (i : Fin 8192) (d : Fin 64) : V m c main_v1 (ix3 h i d) = ((x.Q h i d : ℝ) : EReal) := by
  rw [V_v1]; exact (hHead_at _ h i d).trans (hx.q i h d _)

theorem host_k (h : Fin 8) (i : Fin 8192) (d : Fin 64) : V m c main_v3 (ix3 h i d) = ((x.K h i d : ℝ) : EReal) := by
  rw [V_v3]; exact (hHead_at _ h i d).trans (hx.k i h d _)

theorem host_v (h : Fin 8) (i : Fin 8192) (d : Fin 64) : V m c main_v5 (ix3 h i d) = ((x.V h i d : ℝ) : EReal) := by
  rw [V_v5]; exact (hHead_at _ h i d).trans (hx.v i h d _)

theorem host_g (h : Fin 8) (i : Fin 8192) (d : Fin 64) : V m c main_v38 (ix3 h i d) = ((x.G h i d : ℝ) : EReal) := by
  rw [V_v38]; exact (hHead_at _ h i d).trans (hx.g i h d _)

theorem host_cq (h : Fin 8) (i : Fin 8192) : V m c main_v35 (ix3 h i 0) = ((x.C h i : ℝ) : EReal) := by
  rw [V_v35]
  pointwise
  exact hx.c h i

theorem host_ck (h : Fin 8) (i : Fin 8192) : V m c main_v36 (ix3 h 0 i) = ((x.C h i : ℝ) : EReal) := by
  rw [V_v36]
  pointwise
  exact hx.c h i

theorem host_o (h : Fin 8) (i : Fin 8192) (d : Fin 64) : V m c main_v32 (ix3 h i d) = ((x.o h i d : ℝ) : EReal) := by
  rw [V_v32]; exact hOut_val (sAt_val hx) (fun h i d => (hHead_at _ h i d).trans (hx.v i h d _)) h i d

theorem host_l (h : Fin 8) (i : Fin 8192) : V m c main_v34 (ix3 h i 0) = ((Real.log (x.z h i) : ℝ) : EReal) := by
  rw [V_v34]; exact hLse_val (sAt_val hx) h i

end Cert.Fox

end
-- ==== Proof.Fox.Sums.lean ====
/- The sums that a head's 136 steps accumulate: over the steps of one key tile, and over the steps of one query
   tile. After the last of them they are the sums over all positions. -/
module

public import proofs.«01_k».proof.Proof.Fox.StepValue
public import Idealize.ShloMosaic.Lib.Pipeline.ValueKit.Acc

@[expose] public section

set_option maxRecDepth 16384

noncomputable section

namespace Cert.Fox

open Finset (range)
open Idealize.ShloMosaic

/-- The query tile of step `k`, a number below 136. -/
def qn (k : ℕ) : ℕ := qi ⟨k % 136, Nat.mod_lt _ (by norm_num)⟩

/-- The key tile of step `k`. -/
def kn (k : ℕ) : ℕ := kj ⟨k % 136, Nat.mod_lt _ (by norm_num)⟩

theorem qn_of_lt {k : ℕ} (hk : k < 136) : qn k = qi ⟨k, hk⟩ := by unfold qn; congr 2; exact Nat.mod_eq_of_lt hk

theorem kn_of_lt {k : ℕ} (hk : k < 136) : kn k = kj ⟨k, hk⟩ := by unfold kn; congr 2; exact Nat.mod_eq_of_lt hk

/-- A key tile's first step is on the diagonal. -/
theorem diag_new : ∀ n : Fin 136, qi n = kj n → ∀ m : Fin 136, m.val < n.val → kj m ≠ kj n := by decide +kernel

/-- A step under the diagonal continues the key tile of the step before. -/
theorem off_same : ∀ n : Fin 136, kj n < qi n → n.val ≠ 0 ∧ ∀ m : Fin 136, m.val + 1 = n.val → kj m = kj n := by decide +kernel

/-- The steps of one key tile, up to its last, meet each query tile from the diagonal down once. -/
theorem col_steps : ∀ n : Fin 136, qi n = 15 →
    (((List.finRange 136).filter fun m => m.val ≤ n.val && kj m == kj n).map qi) = (List.range 16).filter fun i => kj n ≤ i := by
  decide +kernel

/-- The steps of one query tile meet each key tile up to the diagonal once. -/
theorem row_steps : ∀ I : Fin 16, (((List.finRange 136).filter fun m => qi m == I.val).map kj) = (List.range 16).filter fun j => j ≤ I.val := by
  decide +kernel

/-- The sum over the steps of the present key tile so far. -/
def colSum (f : ℕ → ℝ) (k : ℕ) : ℝ := ∑ n ∈ range (k + 1), if kn n = kn k then f n else 0

/-- The sum over the steps of query tile `I` so far. -/
def rowSum (f : ℕ → ℝ) (I k : ℕ) : ℝ := ∑ n ∈ range (k + 1), if qn n = I then f n else 0

theorem colSum_diag (f : ℕ → ℝ) {k : ℕ} (hk : k < 136) (e : qn k = kn k) : colSum f k = f k := by
  unfold colSum
  rw [Finset.sum_range_succ, if_pos rfl]
  refine (add_eq_right).2 (Finset.sum_eq_zero fun n hn => if_neg ?_)
  have hn' : n < k := Finset.mem_range.1 hn
  rw [kn_of_lt (hn'.trans hk), kn_of_lt hk]
  refine diag_new ⟨k, hk⟩ ?_ ⟨n, hn'.trans hk⟩ hn'
  rwa [← qn_of_lt, ← kn_of_lt]

theorem colSum_off (f : ℕ → ℝ) {k : ℕ} (hk : k + 1 < 136) (e : kn (k + 1) < qn (k + 1)) :
    colSum f (k + 1) = colSum f k + f (k + 1) := by
  have e' : kn k = kn (k + 1) := by
    rw [kn_of_lt (by omega), kn_of_lt hk]
    refine (off_same ⟨k + 1, hk⟩ ?_).2 ⟨k, by omega⟩ rfl
    rwa [← qn_of_lt, ← kn_of_lt]
  unfold colSum
  rw [Finset.sum_range_succ, if_pos rfl, e']

theorem sum_filter_list (P : ℕ → Bool) (N : ℕ) (g : ℕ → ℝ) :
    (((List.range N).filter P).map g).sum = ∑ n ∈ range N, if P n = true then g n else 0 := by
  induction N with
  | zero => rfl
  | succ N ih =>
    rw [List.range_succ, List.filter_append, List.map_append, List.sum_append, ih, Finset.sum_range_succ]
    congr 1
    by_cases h : P N = true <;> simp [List.filter, h]

theorem sum_filter_finRange (P : Fin 136 → Bool) (g : Fin 136 → ℝ) :
    (((List.finRange 136).filter P).map g).sum = ∑ n : Fin 136, if P n = true then g n else 0 := by
  have key : ∀ l : List (Fin 136), ((l.filter P).map g).sum = (l.map fun n => if P n = true then g n else 0).sum := by
    intro l
    induction l with
    | nil => rfl
    | cons a l ih =>
      by_cases h : P a = true
      · rw [List.filter_cons_of_pos h, List.map_cons, List.map_cons, List.sum_cons, List.sum_cons, ih, if_pos h]
      · rw [List.filter_cons_of_neg h, List.map_cons, List.sum_cons, ih, if_neg h, zero_add]
  rw [key, ← List.ofFn_eq_map, List.sum_ofFn]

/-- After a key tile's last step its sum runs over the query tiles from the diagonal down. -/
theorem colSum_last (g : ℕ → ℝ) {k : ℕ} (hk : k < 136) (e : qn k = 15) :
    colSum (fun n => g (qn n)) k = ∑ I ∈ range 16, if kn k ≤ I then g I else 0 := by
  have e1 : qi ⟨k, hk⟩ = 15 := by rw [← qn_of_lt]; exact e
  have h := congrArg (fun l => (l.map g).sum) (col_steps ⟨k, hk⟩ e1)
  simp only [List.map_map] at h
  rw [sum_filter_finRange, sum_filter_list] at h
  have hr : (∑ I ∈ range 16, if kn k ≤ I then g I else 0) = ∑ n ∈ range 16, if decide (kj ⟨k, hk⟩ ≤ n) = true then g n else 0 := by
    refine Finset.sum_congr rfl fun n _ => ?_
    rw [kn_of_lt hk]
    exact if_congr decide_eq_true_iff.symm rfl rfl
  rw [hr, ← h]
  unfold colSum
  have hN : ∑ n ∈ range (k + 1), (if kn n = kn k then g (qn n) else 0)
      = ∑ n ∈ range 136, if n ≤ k ∧ kn n = kn k then g (qn n) else 0 := by
    rw [← Finset.sum_subset (Finset.range_subset_range.2 (by omega : k + 1 ≤ 136))]
    · refine Finset.sum_congr rfl fun n hn => ?_
      have : n ≤ k := by have := Finset.mem_range.1 hn; omega
      simp [this]
    · intro n _ hn
      have : ¬ n ≤ k := by intro hle; exact hn (Finset.mem_range.2 (by omega))
      simp [this]
  rw [hN, ← Fin.sum_univ_eq_sum_range (fun n => if n ≤ k ∧ kn n = kn k then g (qn n) else 0) 136]
  refine Finset.sum_congr rfl fun n _ => ?_
  rw [kn_of_lt n.isLt, kn_of_lt hk, qn_of_lt n.isLt]
  refine if_congr ?_ rfl rfl
  simp

/-- After a head's last step a query tile's sum runs over the key tiles up to the diagonal. -/
theorem rowSum_last (g : ℕ → ℝ) {I : ℕ} (hI : I < 16) :
    rowSum (fun n => g (kn n)) I 135 = ∑ J ∈ range 16, if J ≤ I then g J else 0 := by
  have h := congrArg (fun l => (l.map g).sum) (row_steps ⟨I, hI⟩)
  simp only [List.map_map] at h
  rw [sum_filter_finRange, sum_filter_list] at h
  have hr : (∑ J ∈ range 16, if J ≤ I then g J else 0) = ∑ n ∈ range 16, if decide (n ≤ I) = true then g n else 0 := by
    refine Finset.sum_congr rfl fun n _ => ?_
    exact if_congr decide_eq_true_iff.symm rfl rfl
  rw [hr, ← h]
  unfold rowSum
  rw [← Fin.sum_univ_eq_sum_range (fun n => if qn n = I then g (kn n) else 0) (135 + 1)]
  refine Finset.sum_congr rfl fun n _ => ?_
  rw [kn_of_lt n.isLt, qn_of_lt n.isLt]
  refine if_congr ?_ rfl rfl
  simp

/-! ## Tiles against all positions -/

/-- The tiles' sums, of a function that vanishes in the tiles left out, are the sum over all positions. -/
theorem sum_tiles (f : ℕ → ℝ) (P : ℕ → Prop) [DecidablePred P] (h0 : ∀ I r, ¬P I → r < 512 → f (512 * I + r) = 0) :
    (∑ I ∈ range 16, if P I then ∑ r : Fin 512, f (512 * I + r) else 0) = ∑ i : Fin 8192, f i := by
  have e : ∀ I ∈ range 16, (if P I then ∑ r : Fin 512, f (512 * I + r) else 0) = ∑ r ∈ range 512, f (I * 512 + r) := fun I _ => by
    rw [← Fin.sum_univ_eq_sum_range (fun r => f (I * 512 + r)) 512, Nat.mul_comm I 512]
    split
    · rfl
    · rename_i h
      exact (Finset.sum_eq_zero fun r hr => h0 I r h (Finset.mem_range.1 hr)).symm
  rw [Finset.sum_congr rfl e, Finset.sum_range_range_mul_add 16 512 f, ← Fin.sum_univ_eq_sum_range f (16 * 512)]

variable (x : Inp) (h : ℕ)

theorem dk_tiles {J : ℕ} (r : Fin 512) (d : ℕ) :
    (∑ I ∈ range 16, if J ≤ I then x.dkT h I J r d else 0) = x.dk h (512 * J + r) d := by
  unfold Inp.dk Inp.dkT
  rw [← sum_tiles (fun i => x.ds h i (512 * J + r) * x.Q h i d) (fun I => J ≤ I)
    (fun I r' hI hr' => by rw [x.ds_of_lt (by omega), zero_mul]), Finset.mul_sum]
  exact Finset.sum_congr rfl fun I _ => by rw [mul_ite, mul_zero]

theorem dv_tiles {J : ℕ} (r : Fin 512) (d : ℕ) :
    (∑ I ∈ range 16, if J ≤ I then x.dvT h I J r d else 0) = x.dv h (512 * J + r) d :=
  sum_tiles (fun i => x.p h i (512 * J + r) * x.G h i d) (fun I => J ≤ I)
    (fun I r' hI hr' => by rw [x.p_of_lt (by omega), zero_mul])

theorem dc_tiles {J : ℕ} (r : Fin 512) :
    (∑ I ∈ range 16, if J ≤ I then x.dcT h I J r else 0) = ∑ i : Fin 8192, x.ds h i (512 * J + r) :=
  sum_tiles (fun i => x.ds h i (512 * J + r)) (fun I => J ≤ I) (fun I r' hI hr' => x.ds_of_lt (by omega))

theorem dq_tiles {y : ℕ} (d : ℕ) :
    (∑ J ∈ range 16, if J ≤ y / 512 then x.dqT h y J d else 0) = x.dq h y d := by
  unfold Inp.dq Inp.dqT
  rw [← sum_tiles (fun j => x.ds h y j * x.K h j d) (fun J => J ≤ y / 512)
    (fun J r' hJ hr' => by rw [x.ds_of_lt (by omega), zero_mul]), Finset.mul_sum]
  exact Finset.sum_congr rfl fun J _ => by rw [mul_ite, mul_zero]

end Cert.Fox

end
-- ==== Proof.Fox.Sweep.lean ====
/- What the call's carried buffers hold after each grid point, as sums over the head's steps so far. -/
module

public import proofs.«01_k».proof.Proof.Fox.Sums
public import proofs.«01_k».proof.Proof.Fox.Frame

@[expose] public section

set_option maxRecDepth 16384

noncomputable section

namespace Cert.Fox

open Idealize.ShloMosaic Idealize.ShloMosaic.TcCoe Idealize.ShloMosaic.Tactic
open Idealize.ShloMosaic.Pipeline (Dat Cfg Window)
open Cert.KernelIdeal Cert.KernelIdeal.Gen

theorem Acc.Holds.of_eq {q q' k k' v v' : ℕ → ℕ → ℝ} {c c' : ℕ → ℝ} {a : Acc Ideal} (ha : a.Holds q k v c)
    (hq : ∀ y d, q y d = q' y d) (hk : ∀ r d, k r d = k' r d) (hv : ∀ r d, v r d = v' r d) (hc : ∀ r, c r = c' r) :
    a.Holds q' k' v' c' where
  dq y d := (ha.dq y d).trans (by rw [hq])
  dk r d := (ha.dk r d).trans (by rw [hk])
  dv r d := (ha.dv r d).trans (by rw [hv])
  dc r := (ha.dc r).trans (by rw [hc])

variable (x : Inp) (h : ℕ)

/-- The buffers after step `k` of head `h`. -/
def Acc.After (k : ℕ) (a : Acc Ideal) : Prop :=
  a.Holds (fun y d => rowSum (fun n => x.dqT h y (kn n) d) (y / 512) k) (fun r d => colSum (fun n => x.dkT h (qn n) (kn n) r d) k)
    (fun r d => colSum (fun n => x.dvT h (qn n) (kn n) r d) k) (fun r => colSum (fun n => x.dcT h (qn n) (kn n) r) k)

theorem rowSum_next (f : ℕ → ℝ) (y k : ℕ) :
    (if 512 * qn (k + 1) ≤ y ∧ y < 512 * qn (k + 1) + 512 then rowSum f (y / 512) k + f (k + 1) else rowSum f (y / 512) k)
      = rowSum f (y / 512) (k + 1) := by
  unfold rowSum
  rw [Finset.sum_range_succ _ (k + 1)]
  by_cases e : qn (k + 1) = y / 512
  · rw [if_pos e, if_pos (by omega)]
  · rw [if_neg e, if_neg (by omega), add_zero]

theorem rowSum_zero (f : ℕ → ℝ) (y : ℕ) :
    (if 512 * qn 0 ≤ y ∧ y < 512 * qn 0 + 512 then 0 + f 0 else 0) = rowSum f (y / 512) 0 := by
  unfold rowSum
  rw [Finset.sum_range_succ _ 0, Finset.sum_range_zero]
  by_cases e : qn 0 = y / 512
  · rw [if_pos e, if_pos (by omega)]
  · rw [if_neg e, if_neg (by omega), add_zero]

theorem start_holds {q k v : ℕ → ℕ → ℝ} {c : ℕ → ℝ} {a : Acc Ideal} (ha : a.Holds q k v c) :
    (start a).Holds (fun _ _ => 0) k v c where
  dq y d := by
    show k0_pay1 (F := Ideal) (ix3 0 y d) = _
    pointwise [k0_pay1]
    try simp
  dk := ha.dk
  dv := ha.dv
  dc := ha.dc

theorem clear_holds : Acc.Holds (fun _ _ => 0) (fun _ _ => 0) (fun _ _ => 0) (fun _ => 0)
    (⟨k0_pay1 (F := Ideal), k0_pay2 (F := Ideal), k0_pay3 (F := Ideal), k0_pay4 (F := Ideal)⟩ : Acc Ideal) where
  dq y d := by
    show k0_pay1 (F := Ideal) (ix3 0 y d) = _
    pointwise [k0_pay1]
    try simp
  dk r d := by
    show k0_pay2 (F := Ideal) (ix2 r d) = _
    pointwise [k0_pay2]
    try simp
  dv r d := by
    show k0_pay3 (F := Ideal) (ix2 r d) = _
    pointwise [k0_pay3]
    try simp
  dc r := by
    show k0_pay4 (F := Ideal) (ix2 0 r) = _
    pointwise [k0_pay4]
    try simp

theorem qn_stp {i : grid0.Coords} {k : ℕ} (hs : (stp i).val = k) : qi (stp i) = qn k := by
  have hk : k < 136 := hs ▸ (stp i).isLt
  rw [qn_of_lt hk]; congr 1; exact Fin.ext hs

theorem kn_stp {i : grid0.Coords} {k : ℕ} (hs : (stp i).val = k) : kj (stp i) = kn k := by
  have hk : k < 136 := hs ▸ (stp i).isLt
  rw [kn_of_lt hk]; congr 1; exact Fin.ext hs

/-- A head's first step, whatever real numbers the buffers held. -/
theorem step_zero (i : grid0.Coords) (hs : (stp i).val = 0) {b : Blk Ideal} (hb : b.Holds x h (qn 0) (kn 0))
    {q k v c} {a : Acc Ideal} (ha : a.Holds q k v c) : (step i b a).After x h 0 := by
  have hl := lit_zero (stp i) hs
  have h4 : k0_cond4 (lit0 (stp i)) (lit1 (stp i)) = 1#1 := (lit_cases (stp i)).elim (fun h => absurd h.1 hl.1) fun h => h.2.1
  have e : qn 0 = kn 0 := by rw [← qn_stp hs, ← kn_stp hs]; exact (cond4_lit _).1 h4
  unfold step
  rw [dif_neg hl.1, dif_pos h4, if_pos ((cond1_iff i).2 hs)]
  refine (diag_val hb (stp i) (qn_stp hs) e _ _ _ _ _ _ (start_holds ha)).of_eq (fun y d => rowSum_zero (fun n => x.dqT h y (kn n) d) y)
    (fun r d => (colSum_diag (fun n => x.dkT h (qn n) (kn n) r d) (by norm_num) e).symm)
    (fun r d => (colSum_diag (fun n => x.dvT h (qn n) (kn n) r d) (by norm_num) e).symm)
    (fun r => (colSum_diag (fun n => x.dcT h (qn n) (kn n) r) (by norm_num) e).symm)

/-- A later step. -/
theorem step_succ (i : grid0.Coords) {k : ℕ} (hs : (stp i).val = k + 1) {b : Blk Ideal} (hb : b.Holds x h (qn (k + 1)) (kn (k + 1)))
    {a : Acc Ideal} (ha : a.After x h k) : (step i b a).After x h (k + 1) := by
  have hk : k + 1 < 136 := hs ▸ (stp i).isLt
  have h1 : ¬k0_cond1 i = 1#1 := fun h1 => by have := (cond1_iff i).1 h1; omega
  unfold step
  by_cases h3 : k0_cond3 (lit0 (stp i)) (lit1 (stp i)) = 1#1
  · rw [dif_pos h3]
    have e : kn (k + 1) < qn (k + 1) := by rw [← qn_stp hs, ← kn_stp hs]; exact (cond3_lit _).1 h3
    refine (off_val hb (stp i) (qn_stp hs) e _ _ _ _ _ _ ha).of_eq (fun y d => rowSum_next (fun n => x.dqT h y (kn n) d) y k)
      (fun r d => (colSum_off (fun n => x.dkT h (qn n) (kn n) r d) hk e).symm) (fun r d => (colSum_off (fun n => x.dvT h (qn n) (kn n) r d) hk e).symm)
      (fun r => (colSum_off (fun n => x.dcT h (qn n) (kn n) r) hk e).symm)
  · have h4 : k0_cond4 (lit0 (stp i)) (lit1 (stp i)) = 1#1 := (lit_cases (stp i)).elim (fun h => absurd h.1 h3) fun h => h.2.1
    rw [dif_neg h3, dif_pos h4, if_neg h1]
    have e : qn (k + 1) = kn (k + 1) := by rw [← qn_stp hs, ← kn_stp hs]; exact (cond4_lit _).1 h4
    refine (diag_val hb (stp i) (qn_stp hs) e _ _ _ _ _ _ ha).of_eq (fun y d => rowSum_next (fun n => x.dqT h y (kn n) d) y k)
      (fun r d => (colSum_diag (fun n => x.dkT h (qn n) (kn n) r d) hk e).symm) (fun r d => (colSum_diag (fun n => x.dvT h (qn n) (kn n) r d) hk e).symm)
      (fun r => (colSum_diag (fun n => x.dcT h (qn n) (kn n) r) hk e).symm)

variable (m : (ℓ : Loc nD τ sig) → Buf (Elt Ideal) ℓ) (c : Dev nD)

/-- The input blocks of every point hold the model's numbers. -/
def BlkHolds : Prop := ∀ t : Fin (C0 Ideal).N, (blk m c t).Holds x (t.val / 136) (qn (t.val % 136)) (kn (t.val % 136))

/-- The buffers after every point. -/
theorem acc_after (hb : BlkHolds x m c) : ∀ (n : ℕ) (hn : n < (C0 Ideal).N), (accAt m c n hn).After x (n / 136) (n % 136)
  | 0, hn => by
    have hB := hb ⟨0, hn⟩
    rw [show (⟨0, hn⟩ : Fin (C0 Ideal).N).val % 136 = 0 from rfl, show (⟨0, hn⟩ : Fin (C0 Ideal).N).val / 136 = 0 from Nat.zero_div 136] at hB
    exact step_zero x 0 _ (coords_1 _) hB clear_holds
  | n + 1, hn => by
    have ih := acc_after hb n (Nat.lt_of_succ_lt hn)
    have hB := hb ⟨n + 1, hn⟩
    show (step (grid0.coords ⟨n + 1, hn⟩) (blk m c ⟨n + 1, hn⟩) (accAt m c n (Nat.lt_of_succ_lt hn))).After x _ _
    by_cases h0 : (n + 1) % 136 = 0
    · rw [h0]
      rw [show (⟨n + 1, hn⟩ : Fin (C0 Ideal).N).val % 136 = 0 from h0] at hB
      exact step_zero x _ _ ((coords_1 _).trans h0) hB ih
    · have e1 : (n + 1) % 136 = n % 136 + 1 := by omega
      have e2 : (n + 1) / 136 = n / 136 := by omega
      rw [e1, e2]
      rw [show (⟨n + 1, hn⟩ : Fin (C0 Ideal).N).val % 136 = n % 136 + 1 from e1,
        show (⟨n + 1, hn⟩ : Fin (C0 Ideal).N).val / 136 = n / 136 from e2] at hB
      exact step_succ x _ _ ((coords_1 _).trans e1) hB ih

/-! ## The blocks written back -/

theorem dq_of_after {a : Acc Ideal} (ha : a.After x h 135) (y : Fin 8192) (d : Fin 64) : a.dq (ix3 0 y d) = ((x.dq h y d : ℝ) : EReal) := by
  rw [ha.dq y d, ← dq_tiles x h d, ← rowSum_last (fun J => x.dqT h y J d) (by omega : y.val / 512 < 16)]

theorem colSum_tiles (T : ℕ → ℕ → ℝ) {k : ℕ} (hk : k < 136) (e : qn k = 15) :
    colSum (fun n => T (qn n) (kn n)) k = ∑ I ∈ Finset.range 16, if kn k ≤ I then T I (kn k) else 0 := by
  rw [← colSum_last (fun I => T I (kn k)) hk e]
  unfold colSum
  refine Finset.sum_congr rfl fun n _ => ?_
  split
  · rename_i h; show T (qn n) (kn n) = T (qn n) (kn k); rw [h]
  · rfl

theorem dk_of_after {a : Acc Ideal} {k : ℕ} (ha : a.After x h k) (hk : k < 136) (e : qn k = 15) (r : Fin 512) (d : Fin 64) :
    a.dk (ix2 r d) = ((x.dk h (512 * kn k + r) d : ℝ) : EReal) := by
  rw [ha.dk r d, ← dk_tiles x h r d, ← colSum_tiles (fun I J => x.dkT h I J r d) hk e]

theorem dv_of_after {a : Acc Ideal} {k : ℕ} (ha : a.After x h k) (hk : k < 136) (e : qn k = 15) (r : Fin 512) (d : Fin 64) :
    a.dv (ix2 r d) = ((x.dv h (512 * kn k + r) d : ℝ) : EReal) := by
  rw [ha.dv r d, ← dv_tiles x h r d, ← colSum_tiles (fun I J => x.dvT h I J r d) hk e]

theorem dc_of_after {a : Acc Ideal} {k : ℕ} (ha : a.After x h k) (hk : k < 136) (e : qn k = 15) (r : Fin 512) :
    a.dc (ix2 0 r) = ((∑ i : Fin 8192, x.ds h i (512 * kn k + r) : ℝ) : EReal) := by
  rw [ha.dc r, ← dc_tiles x h r, ← colSum_tiles (fun I J => x.dcT h I J r) hk e]

end Cert.Fox

end
-- ==== Proof.Fox.Blocks.lean ====
/- The call's blocks in its arrays: every input block read at an index of its array, and from the arrays' values the
   blocks' values at every grid point. -/
module

public import proofs.«01_k».proof.Proof.Fox.HostValue
public import proofs.«01_k».proof.Proof.Fox.Sweep
public import Idealize.ShloMosaic.Lib.Pipeline.ValueKit

@[expose] public section

set_option maxRecDepth 16384

noncomputable section

namespace Cert.Fox

open Idealize.ShloMosaic Idealize.ShloMosaic.TcCoe Idealize.ShloMosaic.Tactic
open Idealize.ShloMosaic.Pipeline (Dat Cfg Window)
open Cert.KernelIdeal Cert.KernelIdeal.Gen

section Index

variable {F : FTy → Type} [FloatOps F] (t : Fin (C0 F).N)

theorem t_lt : t.val < 1088 := lt_of_lt_of_eq t.isLt (N_C0 F)

theorem head_lt : t.val / 136 < 8 := by have := t_lt t; omega

theorem qn_lt (k : ℕ) : qn k < 16 := qi_lt _

theorem kn_lt (k : ℕ) : kn k < 16 := lit1_lt _

theorem row_lt {n : ℕ} (hn : n < 16) (r : Fin 512) : 512 * n + r.val < 8192 := by omega

/-- The index maps that follow the query tile. -/
theorem idx_qi : cc0_transform_0 (F := F) k0_off1_inb numel1_S1 tabs (grid0.coords t) = ![t.val / 136, qn (t.val % 136), 0] := by
  rw [tr_qi, coords_0 t]
  exact congrArg (fun n => ![t.val / 136, n, 0]) (qn_stp (coords_1 t))

/-- The index maps that follow the key tile. -/
theorem idx_kj : cc0_transform_1 (F := F) k0_off1_inb numel1_S1 tabs (grid0.coords t) = ![t.val / 136, kn (t.val % 136), 0] := by
  rw [tr_kj, coords_0 t]
  exact congrArg (fun n => ![t.val / 136, n, 0]) (kn_stp (coords_1 t))

/-- The index maps that follow the key tile along the lanes. -/
theorem idx_kjr : cc0_transform_4 (F := F) k0_off1_inb numel1_S1 tabs (grid0.coords t) = ![t.val / 136, 0, kn (t.val % 136)] := by
  rw [tr_kjr, coords_0 t]
  exact congrArg (fun n => ![t.val / 136, 0, n]) (kn_stp (coords_1 t))

/-- The index map of a head's whole query gradient. -/
theorem idx_head : cc0_transform_8 (grid0.coords t) = ![t.val / 136, 0, 0] := by
  have h0 : (BitVec.ofNat 32 (t.val / 136)).toNat = t.val / 136 := by
    have := head_lt t
    rw [BitVec.toNat_ofNat]; omega
  unfold cc0_transform_8
  dsimp only
  rw [coords_0 t, h0]; rfl

/-- An index of rank three from its coordinates. -/
theorem ext3 {n : Fin 3 → ℕ} {i j : (a : Fin 3) → Fin (n a)} (h0 : (i 0).val = (j 0).val) (h1 : (i 1).val = (j 1).val)
    (h2 : (i 2).val = (j 2).val) : i = j := by
  funext a
  fin_cases a
  · exact Fin.ext h0
  · exact Fin.ext h1
  · exact Fin.ext h2

/-- The row of a tile's row. -/
theorem row_val (n r : ℕ) : n * 512 + r = 512 * n + r := by omega

end Index

/-! ## Every window's block, at an index -/

section Reads

variable {F : FTy → Type} [FloatOps F] (t : Fin (C0 F).N)

theorem emb_0 (r : Fin 512) (d : Fin 64) : (((C0 F).win 0).blk t).view.emb (ix3 0 r d)
    = ix3 ⟨t.val / 136, head_lt t⟩ ⟨512 * qn (t.val % 136) + r.val, row_lt (qn_lt _) r⟩ d := by
  refine ext3 ?_ ?_ ?_ <;> refine (Window.rect_emb_val ((C0 F).win 0) t (ix3 0 r d) _ rfl).trans ?_ <;>
    rw [show ((C0 F).win 0).index t = _ from idx_qi t]
  exacts [Nat.mul_one _, row_val _ _, (congrArg (· + d.val) (Nat.zero_mul _)).trans (Nat.zero_add _)]

theorem emb_1 (r : Fin 512) (d : Fin 64) : (((C0 F).win 1).blk t).view.emb (ix3 0 r d)
    = ix3 ⟨t.val / 136, head_lt t⟩ ⟨512 * kn (t.val % 136) + r.val, row_lt (kn_lt _) r⟩ d := by
  refine ext3 ?_ ?_ ?_ <;> refine (Window.rect_emb_val ((C0 F).win 1) t (ix3 0 r d) _ rfl).trans ?_ <;>
    rw [show ((C0 F).win 1).index t = _ from idx_kj t]
  exacts [Nat.mul_one _, row_val _ _, (congrArg (· + d.val) (Nat.zero_mul _)).trans (Nat.zero_add _)]

theorem emb_2 (r : Fin 512) (d : Fin 64) : (((C0 F).win 2).blk t).view.emb (ix3 0 r d)
    = ix3 ⟨t.val / 136, head_lt t⟩ ⟨512 * kn (t.val % 136) + r.val, row_lt (kn_lt _) r⟩ d := by
  refine ext3 ?_ ?_ ?_ <;> refine (Window.rect_emb_val ((C0 F).win 2) t (ix3 0 r d) _ rfl).trans ?_ <;>
    rw [show ((C0 F).win 2).index t = _ from idx_kj t]
  exacts [Nat.mul_one _, row_val _ _, (congrArg (· + d.val) (Nat.zero_mul _)).trans (Nat.zero_add _)]

theorem emb_3 (r : Fin 512) : (((C0 F).win 3).blk t).view.emb (ix3 0 r 0)
    = ix3 ⟨t.val / 136, head_lt t⟩ ⟨512 * qn (t.val % 136) + r.val, row_lt (qn_lt _) r⟩ 0 := by
  refine ext3 ?_ ?_ ?_ <;> refine (Window.rect_emb_val ((C0 F).win 3) t (ix3 0 r 0) _ rfl).trans ?_ <;>
    rw [show ((C0 F).win 3).index t = _ from idx_qi t]
  exacts [Nat.mul_one _, row_val _ _, rfl]

theorem emb_4 (r : Fin 512) : (((C0 F).win 4).blk t).view.emb (ix3 0 0 r)
    = ix3 ⟨t.val / 136, head_lt t⟩ 0 ⟨512 * kn (t.val % 136) + r.val, row_lt (kn_lt _) r⟩ := by
  refine ext3 ?_ ?_ ?_ <;> refine (Window.rect_emb_val ((C0 F).win 4) t (ix3 0 0 r) _ rfl).trans ?_ <;>
    rw [show ((C0 F).win 4).index t = _ from idx_kjr t]
  exacts [Nat.mul_one _, rfl, row_val _ _]

theorem emb_5 (r : Fin 512) (d : Fin 64) : (((C0 F).win 5).blk t).view.emb (ix3 0 r d)
    = ix3 ⟨t.val / 136, head_lt t⟩ ⟨512 * qn (t.val % 136) + r.val, row_lt (qn_lt _) r⟩ d := by
  refine ext3 ?_ ?_ ?_ <;> refine (Window.rect_emb_val ((C0 F).win 5) t (ix3 0 r d) _ rfl).trans ?_ <;>
    rw [show ((C0 F).win 5).index t = _ from idx_qi t]
  exacts [Nat.mul_one _, row_val _ _, (congrArg (· + d.val) (Nat.zero_mul _)).trans (Nat.zero_add _)]

theorem emb_6 (r : Fin 512) : (((C0 F).win 6).blk t).view.emb (ix3 0 r 0)
    = ix3 ⟨t.val / 136, head_lt t⟩ ⟨512 * qn (t.val % 136) + r.val, row_lt (qn_lt _) r⟩ 0 := by
  refine ext3 ?_ ?_ ?_ <;> refine (Window.rect_emb_val ((C0 F).win 6) t (ix3 0 r 0) _ rfl).trans ?_ <;>
    rw [show ((C0 F).win 6).index t = _ from idx_qi t]
  exacts [Nat.mul_one _, row_val _ _, rfl]

theorem emb_7 (r : Fin 512) (d : Fin 64) : (((C0 F).win 7).blk t).view.emb (ix3 0 r d)
    = ix3 ⟨t.val / 136, head_lt t⟩ ⟨512 * qn (t.val % 136) + r.val, row_lt (qn_lt _) r⟩ d := by
  refine ext3 ?_ ?_ ?_ <;> refine (Window.rect_emb_val ((C0 F).win 7) t (ix3 0 r d) _ rfl).trans ?_ <;>
    rw [show ((C0 F).win 7).index t = _ from idx_qi t]
  exacts [Nat.mul_one _, row_val _ _, (congrArg (· + d.val) (Nat.zero_mul _)).trans (Nat.zero_add _)]

theorem emb_8 (y : Fin 8192) (d : Fin 64) : (((C0 F).win 8).blk t).view.emb (ix3 0 y d) = ix3 ⟨t.val / 136, head_lt t⟩ y d := by
  refine ext3 ?_ ?_ ?_ <;> refine (Window.rect_emb_val ((C0 F).win 8) t (ix3 0 y d) _ rfl).trans ?_ <;>
    rw [show ((C0 F).win 8).index t = _ from idx_head t]
  exacts [Nat.mul_one _, (congrArg (· + y.val) (Nat.zero_mul _)).trans (Nat.zero_add _), (congrArg (· + d.val) (Nat.zero_mul _)).trans (Nat.zero_add _)]

theorem emb_9 (r : Fin 512) (d : Fin 64) : (((C0 F).win 9).blk t).view.emb (ix3 0 r d)
    = ix3 ⟨t.val / 136, head_lt t⟩ ⟨512 * kn (t.val % 136) + r.val, row_lt (kn_lt _) r⟩ d := by
  refine ext3 ?_ ?_ ?_ <;> refine (Window.rect_emb_val ((C0 F).win 9) t (ix3 0 r d) _ rfl).trans ?_ <;>
    rw [show ((C0 F).win 9).index t = _ from idx_kj t]
  exacts [Nat.mul_one _, row_val _ _, (congrArg (· + d.val) (Nat.zero_mul _)).trans (Nat.zero_add _)]

theorem emb_10 (r : Fin 512) (d : Fin 64) : (((C0 F).win 10).blk t).view.emb (ix3 0 r d)
    = ix3 ⟨t.val / 136, head_lt t⟩ ⟨512 * kn (t.val % 136) + r.val, row_lt (kn_lt _) r⟩ d := by
  refine ext3 ?_ ?_ ?_ <;> refine (Window.rect_emb_val ((C0 F).win 10) t (ix3 0 r d) _ rfl).trans ?_ <;>
    rw [show ((C0 F).win 10).index t = _ from idx_kj t]
  exacts [Nat.mul_one _, row_val _ _, (congrArg (· + d.val) (Nat.zero_mul _)).trans (Nat.zero_add _)]

theorem emb_11 (r : Fin 512) : (((C0 F).win 11).blk t).view.emb (ix3 0 0 r)
    = ix3 ⟨t.val / 136, head_lt t⟩ 0 ⟨512 * kn (t.val % 136) + r.val, row_lt (kn_lt _) r⟩ := by
  refine ext3 ?_ ?_ ?_ <;> refine (Window.rect_emb_val ((C0 F).win 11) t (ix3 0 0 r) _ rfl).trans ?_ <;>
    rw [show ((C0 F).win 11).index t = _ from idx_kjr t]
  exacts [Nat.mul_one _, rfl, row_val _ _]

end Reads

/-! ## The input blocks of any contents of the arrays -/

section Contents

variable {F : FTy → Type} [FloatOps F] {c : Dev nD} (W : (b : Ref sig .tc) → Buf (Elt F) ((c : Thread nD τ).loc b)) (t : Fin (C0 F).N)

theorem read_0 (r : Fin 512) (d : Fin 64) : (((C0 F).win 0).blk t).view.read (Elt F) (W (Pipeline.arrRef spec0 0)) (ix3 0 r d)
    = W main_v1 (ix3 ⟨t.val / 136, head_lt t⟩ ⟨512 * qn (t.val % 136) + r.val, row_lt (qn_lt _) r⟩ d) := congrArg (W main_v1) (emb_0 t r d)

theorem read_1 (r : Fin 512) (d : Fin 64) : (((C0 F).win 1).blk t).view.read (Elt F) (W (Pipeline.arrRef spec0 1)) (ix3 0 r d)
    = W main_v3 (ix3 ⟨t.val / 136, head_lt t⟩ ⟨512 * kn (t.val % 136) + r.val, row_lt (kn_lt _) r⟩ d) := congrArg (W main_v3) (emb_1 t r d)

theorem read_2 (r : Fin 512) (d : Fin 64) : (((C0 F).win 2).blk t).view.read (Elt F) (W (Pipeline.arrRef spec0 2)) (ix3 0 r d)
    = W main_v5 (ix3 ⟨t.val / 136, head_lt t⟩ ⟨512 * kn (t.val % 136) + r.val, row_lt (kn_lt _) r⟩ d) := congrArg (W main_v5) (emb_2 t r d)

theorem read_3 (r : Fin 512) : (((C0 F).win 3).blk t).view.read (Elt F) (W (Pipeline.arrRef spec0 3)) (ix3 0 r 0)
    = W main_v35 (ix3 ⟨t.val / 136, head_lt t⟩ ⟨512 * qn (t.val % 136) + r.val, row_lt (qn_lt _) r⟩ 0) := congrArg (W main_v35) (emb_3 t r)

theorem read_4 (r : Fin 512) : (((C0 F).win 4).blk t).view.read (Elt F) (W (Pipeline.arrRef spec0 4)) (ix3 0 0 r)
    = W main_v36 (ix3 ⟨t.val / 136, head_lt t⟩ 0 ⟨512 * kn (t.val % 136) + r.val, row_lt (kn_lt _) r⟩) := congrArg (W main_v36) (emb_4 t r)

theorem read_5 (r : Fin 512) (d : Fin 64) : (((C0 F).win 5).blk t).view.read (Elt F) (W (Pipeline.arrRef spec0 5)) (ix3 0 r d)
    = W main_v32 (ix3 ⟨t.val / 136, head_lt t⟩ ⟨512 * qn (t.val % 136) + r.val, row_lt (qn_lt _) r⟩ d) := congrArg (W main_v32) (emb_5 t r d)

theorem read_6 (r : Fin 512) : (((C0 F).win 6).blk t).view.read (Elt F) (W (Pipeline.arrRef spec0 6)) (ix3 0 r 0)
    = W main_v34 (ix3 ⟨t.val / 136, head_lt t⟩ ⟨512 * qn (t.val % 136) + r.val, row_lt (qn_lt _) r⟩ 0) := congrArg (W main_v34) (emb_6 t r)

theorem read_7 (r : Fin 512) (d : Fin 64) : (((C0 F).win 7).blk t).view.read (Elt F) (W (Pipeline.arrRef spec0 7)) (ix3 0 r d)
    = W main_v38 (ix3 ⟨t.val / 136, head_lt t⟩ ⟨512 * qn (t.val % 136) + r.val, row_lt (qn_lt _) r⟩ d) := congrArg (W main_v38) (emb_7 t r d)

end Contents

/-! ## Their values -/

section Values

variable {x : Inp} {m : (ℓ : Loc nD τ sig) → Buf (Elt Ideal) ℓ} {c : Dev nD} (hx : KArgs x m c)

include hx

theorem blk_q (t : Fin (C0 Ideal).N) (r : Fin 512) (d : Fin 64) : (blk m c t).q (ix3 0 r d) = ((x.Q (t.val / 136) (512 * qn (t.val % 136) + r) d : ℝ) : EReal) := by
  exact (read_0 (V m c) t r d).trans (host_q hx _ _ d)

theorem blk_k (t : Fin (C0 Ideal).N) (r : Fin 512) (d : Fin 64) : (blk m c t).k (ix3 0 r d) = ((x.K (t.val / 136) (512 * kn (t.val % 136) + r) d : ℝ) : EReal) := by
  exact (read_1 (V m c) t r d).trans (host_k hx _ _ d)

theorem blk_v (t : Fin (C0 Ideal).N) (r : Fin 512) (d : Fin 64) : (blk m c t).v (ix3 0 r d) = ((x.V (t.val / 136) (512 * kn (t.val % 136) + r) d : ℝ) : EReal) := by
  exact (read_2 (V m c) t r d).trans (host_v hx _ _ d)

theorem blk_cq (t : Fin (C0 Ideal).N) (r : Fin 512) : (blk m c t).cq (ix3 0 r 0) = ((x.C (t.val / 136) (512 * qn (t.val % 136) + r) : ℝ) : EReal) := by
  exact (read_3 (V m c) t r).trans (host_cq hx _ _)

theorem blk_ck (t : Fin (C0 Ideal).N) (r : Fin 512) : (blk m c t).ck (ix3 0 0 r) = ((x.C (t.val / 136) (512 * kn (t.val % 136) + r) : ℝ) : EReal) := by
  exact (read_4 (V m c) t r).trans (host_ck hx _ _)

theorem blk_o (t : Fin (C0 Ideal).N) (r : Fin 512) (d : Fin 64) : (blk m c t).o (ix3 0 r d) = ((x.o (t.val / 136) (512 * qn (t.val % 136) + r) d : ℝ) : EReal) := by
  exact (read_5 (V m c) t r d).trans (host_o hx _ _ d)

theorem blk_l (t : Fin (C0 Ideal).N) (r : Fin 512) : (blk m c t).l (ix3 0 r 0) = ((Real.log (x.z (t.val / 136) (512 * qn (t.val % 136) + r)) : ℝ) : EReal) := by
  exact (read_6 (V m c) t r).trans (host_l hx _ _)

theorem blk_g (t : Fin (C0 Ideal).N) (r : Fin 512) (d : Fin 64) : (blk m c t).g (ix3 0 r d) = ((x.G (t.val / 136) (512 * qn (t.val % 136) + r) d : ℝ) : EReal) := by
  exact (read_7 (V m c) t r d).trans (host_g hx _ _ d)

/-- The input blocks of every point hold the model's numbers. -/
theorem blk_holds : BlkHolds x m c := fun t =>
  ⟨blk_q hx t, blk_k hx t, blk_v hx t, blk_cq hx t, blk_ck hx t, blk_o hx t, blk_l hx t, blk_g hx t⟩

end Values

end Cert.Fox

end
-- ==== Proof.Fox.Arrays.lean ====
/- The call's four result arrays after the run: every element is the model's gradient, each block written back at the
   one point after which it is complete. -/
module

public import proofs.«01_k».proof.Proof.Fox.Blocks

@[expose] public section

set_option maxRecDepth 16384

noncomputable section

namespace Cert.Fox

open Idealize.ShloMosaic Idealize.ShloMosaic.TcCoe Idealize.ShloMosaic.Tactic
open Idealize.ShloMosaic.Pipeline (Dat Cfg Window)
open Cert.KernelIdeal Cert.KernelIdeal.Gen

/-! ## When a block is written back -/

section Flush

variable {F : FTy → Type} [FloatOps F]

/-- Where an output window's index moves to the next point, or no point follows, its block is written back. -/
theorem flush_move (w : Fin (C0 F).W) (ho : ((C0 F).win w).isOut = true) (t : Fin (C0 F).N)
    (e : ∀ h : t.val + 1 < (C0 F).N, ((C0 F).win w).index ⟨t.val + 1, h⟩ ≠ ((C0 F).win w).index t) : ((C0 F).win w).flush t = true := by
  unfold Window.flush
  rw [ho, Bool.true_and, Bool.or_eq_true]
  by_cases h : t.val + 1 < (C0 F).N
  · exact .inr (decide_eq_true ⟨h, e h⟩)
  · exact .inl (decide_eq_true (Nat.le_antisymm t.isLt (Nat.le_of_not_lt h)))

/-- A head's query gradient is written back after the head's last step. -/
theorem flush_8 (t : Fin (C0 F).N) (h : t.val % 136 = 135) : ((C0 F).win 8).flush t = true := by
  refine flush_move 8 rfl t fun h1 e => ?_
  have := congrFun (((idx_head (F := F) ⟨t.val + 1, h1⟩).symm.trans e).trans (idx_head t)) (0 : Fin 3)
  have h2 : (t.val + 1) / 136 = t.val / 136 := this
  omega

/-- The next step after a key tile's last pair is of another head or of another key tile. -/
theorem tile_move (t : Fin (C0 F).N) (h : qn (t.val % 136) = 15) (h1 : t.val + 1 < (C0 F).N) (e0 : (t.val + 1) / 136 = t.val / 136) :
    kn ((t.val + 1) % 136) ≠ kn (t.val % 136) := by
  have hk : t.val % 136 < 136 := Nat.mod_lt _ (by norm_num)
  have hk1 : t.val % 136 + 1 < 136 := by omega
  have e1 : (t.val + 1) % 136 = t.val % 136 + 1 := by omega
  rw [e1, kn_of_lt hk1, kn_of_lt hk]
  intro e
  exact lit_move ⟨t.val % 136, hk⟩ ((cond5_lit _).2 ((qn_of_lt hk).symm.trans h)) hk1 (BitVec.eq_of_toNat_eq e)

/-- A key tile's gradients are written back after its last pair. -/
theorem flush_9 (t : Fin (C0 F).N) (h : qn (t.val % 136) = 15) : ((C0 F).win 9).flush t = true := by
  refine flush_move 9 rfl t fun h1 e => ?_
  have e' := ((idx_kj (F := F) ⟨t.val + 1, h1⟩).symm.trans e).trans (idx_kj t)
  exact tile_move t h h1 (congrFun e' (0 : Fin 3)) (congrFun e' (1 : Fin 3))

theorem flush_10 (t : Fin (C0 F).N) (h : qn (t.val % 136) = 15) : ((C0 F).win 10).flush t = true := by
  refine flush_move 10 rfl t fun h1 e => ?_
  have e' := ((idx_kj (F := F) ⟨t.val + 1, h1⟩).symm.trans e).trans (idx_kj t)
  exact tile_move t h h1 (congrFun e' (0 : Fin 3)) (congrFun e' (1 : Fin 3))

theorem flush_11 (t : Fin (C0 F).N) (h : qn (t.val % 136) = 15) : ((C0 F).win 11).flush t = true := by
  refine flush_move 11 rfl t fun h1 e => ?_
  have e' := ((idx_kjr (F := F) ⟨t.val + 1, h1⟩).symm.trans e).trans (idx_kjr t)
  exact tile_move t h h1 (congrFun e' (0 : Fin 3)) (congrFun e' (2 : Fin 3))

/-- The query gradient is written back at no other point, -/
theorem last_of_flush (t : Fin (C0 F).N) (hf : ((C0 F).win 8).flush t = true) : t.val % 136 = 135 := by
  by_contra h
  rw [stay_8 t h] at hf
  exact Bool.false_ne_true hf

/-- nor a key tile's gradients. -/
theorem full_of_flush (w : Fin (C0 F).W) (hw : w = 9 ∨ w = 10 ∨ w = 11) (t : Fin (C0 F).N) (hf : ((C0 F).win w).flush t = true) :
    qn (t.val % 136) = 15 := by
  by_contra h
  rw [stay_k w hw t fun h5 => h ((qn_stp (coords_1 t)).symm.trans ((cond5_lit _).1 h5))] at hf
  exact Bool.false_ne_true hf

/-- Every key tile has a last pair. -/
theorem exists_full : ∀ J : Fin 16, ∃ n : Fin 136, qi n = 15 ∧ kj n = J.val := by decide +kernel

/-- The point of a head's step. -/
theorem exists_point (h : Fin 8) (n : Fin 136) : ∃ t : Fin (C0 F).N, t.val / 136 = h.val ∧ t.val % 136 = n.val :=
  ⟨⟨136 * h.val + n.val, lt_of_lt_of_eq (by omega) (N_C0 F).symm⟩, by show (136 * h.val + n.val) / 136 = _; omega,
    by show (136 * h.val + n.val) % 136 = _; omega⟩

/-- The point after which the gradients of a head's key row are complete, and the row's place in its tile. -/
theorem exists_row (h : Fin 8) (j : Fin 8192) : ∃ (t : Fin (C0 F).N) (r : Fin 512), t.val / 136 = h.val ∧ qn (t.val % 136) = 15
    ∧ 512 * kn (t.val % 136) + r.val = j.val := by
  obtain ⟨n, hq, hk⟩ := exists_full ⟨j.val / 512, by omega⟩
  obtain ⟨t, ht, hn⟩ := exists_point (F := F) h n
  refine ⟨t, ⟨j.val % 512, Nat.mod_lt _ (by norm_num)⟩, ht, ?_, ?_⟩
  · rw [hn, qn_of_lt n.isLt]; exact hq
  · rw [hn, kn_of_lt n.isLt]
    have : kj n = j.val / 512 := hk
    show 512 * kj n + j.val % 512 = j.val
    omega

end Flush

/-! ## Every element is in a block written back -/

section Cover

variable {F : FTy → Type} [FloatOps F]

theorem cover_8 (h : Fin 8) (a : Fin 8192) (d : Fin 64) :
    ∃ t : Fin (C0 F).N, ((C0 F).win 8).flush t = true ∧ ix3 h a d ∈ (((C0 F).win 8).blk t).view.set := by
  obtain ⟨t, ht, hn⟩ := exists_point (F := F) h ⟨135, by norm_num⟩
  have hm := View.emb_mem_set (((C0 F).win 8).blk t).view (ix3 0 a d)
  rw [emb_8, show (⟨t.val / 136, head_lt t⟩ : Fin 8) = h from Fin.ext ht] at hm
  exact ⟨t, flush_8 t hn, hm⟩

theorem cover_9 (h : Fin 8) (a : Fin 8192) (d : Fin 64) :
    ∃ t : Fin (C0 F).N, ((C0 F).win 9).flush t = true ∧ ix3 h a d ∈ (((C0 F).win 9).blk t).view.set := by
  obtain ⟨t, r, ht, hq, hj⟩ := exists_row (F := F) h a
  have hm := View.emb_mem_set (((C0 F).win 9).blk t).view (ix3 0 r d)
  rw [emb_9, show (⟨t.val / 136, head_lt t⟩ : Fin 8) = h from Fin.ext ht,
    show (⟨512 * kn (t.val % 136) + r.val, row_lt (kn_lt _) r⟩ : Fin 8192) = a from Fin.ext hj] at hm
  exact ⟨t, flush_9 t hq, hm⟩

theorem cover_10 (h : Fin 8) (a : Fin 8192) (d : Fin 64) :
    ∃ t : Fin (C0 F).N, ((C0 F).win 10).flush t = true ∧ ix3 h a d ∈ (((C0 F).win 10).blk t).view.set := by
  obtain ⟨t, r, ht, hq, hj⟩ := exists_row (F := F) h a
  have hm := View.emb_mem_set (((C0 F).win 10).blk t).view (ix3 0 r d)
  rw [emb_10, show (⟨t.val / 136, head_lt t⟩ : Fin 8) = h from Fin.ext ht,
    show (⟨512 * kn (t.val % 136) + r.val, row_lt (kn_lt _) r⟩ : Fin 8192) = a from Fin.ext hj] at hm
  exact ⟨t, flush_10 t hq, hm⟩

theorem cover_11 (h : Fin 8) (a : Fin 8192) :
    ∃ t : Fin (C0 F).N, ((C0 F).win 11).flush t = true ∧ ix3 h 0 a ∈ (((C0 F).win 11).blk t).view.set := by
  obtain ⟨t, r, ht, hq, hj⟩ := exists_row (F := F) h a
  have hm := View.emb_mem_set (((C0 F).win 11).blk t).view (ix3 0 0 r)
  rw [emb_11, show (⟨t.val / 136, head_lt t⟩ : Fin 8) = h from Fin.ext ht,
    show (⟨512 * kn (t.val % 136) + r.val, row_lt (kn_lt _) r⟩ : Fin 8192) = a from Fin.ext hj] at hm
  exact ⟨t, flush_11 t hq, hm⟩

end Cover

/-! ## The written-back blocks -/

theorem pay7_at (a : Vec Ideal S512x64 .f32) (r : Fin 512) (d : Fin 64) : k0_pay7 a (ix3 0 r d) = a (ix2 r d) := by
  pointwise [k0_pay7]

theorem pay8_at (a : Vec Ideal S512x64 .f32) (r : Fin 512) (d : Fin 64) : k0_pay8 a (ix3 0 r d) = a (ix2 r d) := by
  pointwise [k0_pay8]

theorem pay9_at (a : Vec Ideal S1x512 .f32) (r : Fin 512) : k0_pay9 a (ix3 0 0 r) = 0 - a (ix2 0 r) := by
  pointwise [k0_pay9]
  try simp

/-! ## The arrays -/

section Arrays

variable (x : Inp)

/-- The query gradient, -/
def arrQ : S8x8192x64.Idx → EReal := fun i => ((x.dq (i 0).val (i 1).val (i 2).val : ℝ) : EReal)

/-- the key gradient, -/
def arrK : S8x8192x64.Idx → EReal := fun i => ((x.dk (i 0).val (i 1).val (i 2).val : ℝ) : EReal)

/-- the value gradient, -/
def arrV : S8x8192x64.Idx → EReal := fun i => ((x.dv (i 0).val (i 1).val (i 2).val : ℝ) : EReal)

/-- and the gate gradient. -/
def arrC : S8x1x8192.Idx → EReal := fun i => ((x.dc (i 0).val (i 2).val : ℝ) : EReal)

theorem arrQ_at (h : Fin 8) (i : Fin 8192) (d : Fin 64) : arrQ x (ix3 h i d) = ((x.dq h i d : ℝ) : EReal) := rfl

theorem arrK_at (h : Fin 8) (i : Fin 8192) (d : Fin 64) : arrK x (ix3 h i d) = ((x.dk h i d : ℝ) : EReal) := rfl

theorem arrV_at (h : Fin 8) (i : Fin 8192) (d : Fin 64) : arrV x (ix3 h i d) = ((x.dv h i d : ℝ) : EReal) := rfl

theorem arrC_at (h : Fin 8) (i : Fin 8192) : arrC x (ix3 h 0 i) = ((x.dc h i : ℝ) : EReal) := rfl

variable {x} {m : (ℓ : Loc nD τ sig) → Buf (Elt Ideal) ℓ} {c : Dev nD} (hb : BlkHolds x m c)

include hb

theorem put_8 (t : Fin (C0 Ideal).N) (hf : ((C0 Ideal).win 8).flush t = true) (y : Fin 8192) (d : Fin 64) :
    (accAt m c t.val t.isLt).dq (ix3 0 y d) = arrQ x ((((C0 Ideal).win 8).blk t).view.emb (ix3 0 y d)) := by
  have ha := acc_after x m c hb t.val t.isLt
  rw [last_of_flush t hf] at ha
  rw [emb_8, arrQ_at, dq_of_after x _ ha]

theorem put_9 (t : Fin (C0 Ideal).N) (hf : ((C0 Ideal).win 9).flush t = true) (r : Fin 512) (d : Fin 64) :
    (accAt m c t.val t.isLt).out.dk (ix3 0 r d) = arrK x ((((C0 Ideal).win 9).blk t).view.emb (ix3 0 r d)) := by
  rw [emb_9, arrK_at]
  show k0_pay7 (accAt m c t.val t.isLt).dk (ix3 0 r d) = _
  rw [pay7_at, dk_of_after x _ (acc_after x m c hb t.val t.isLt) (Nat.mod_lt _ (by norm_num)) (full_of_flush 9 (.inl rfl) t hf)]

theorem put_10 (t : Fin (C0 Ideal).N) (hf : ((C0 Ideal).win 10).flush t = true) (r : Fin 512) (d : Fin 64) :
    (accAt m c t.val t.isLt).out.dv (ix3 0 r d) = arrV x ((((C0 Ideal).win 10).blk t).view.emb (ix3 0 r d)) := by
  rw [emb_10, arrV_at]
  show k0_pay8 (accAt m c t.val t.isLt).dv (ix3 0 r d) = _
  rw [pay8_at, dv_of_after x _ (acc_after x m c hb t.val t.isLt) (Nat.mod_lt _ (by norm_num)) (full_of_flush 10 (.inr (.inl rfl)) t hf)]

theorem put_11 (t : Fin (C0 Ideal).N) (hf : ((C0 Ideal).win 11).flush t = true) (r : Fin 512) :
    (accAt m c t.val t.isLt).out.dc (ix3 0 0 r) = arrC x ((((C0 Ideal).win 11).blk t).view.emb (ix3 0 0 r)) := by
  rw [emb_11, arrC_at]
  show k0_pay9 (accAt m c t.val t.isLt).dc (ix3 0 0 r) = _
  rw [pay9_at, dc_of_after x _ (acc_after x m c hb t.val t.isLt) (Nat.mod_lt _ (by norm_num)) (full_of_flush 11 (.inr (.inr rfl)) t hf)]
  unfold Inp.dc
  rw [zero_sub, EReal.coe_neg]

/-- The query gradient's array after the run. -/
theorem arr_8 : (dats m 0 c).arrAt 8 (C0 Ideal).N = arrQ x := by
  refine (dats m 0 c).arrAt_eq_of_emb 8 (arrQ x) (fun t hf y => ?_) fun i => ?_
  · obtain ⟨a, d, rfl⟩ : ∃ (a : Fin 8192) (d : Fin 64), y = ix3 0 a d := ⟨y 1, y 2, ext3 (Nat.lt_one_iff.1 (y 0).isLt) rfl rfl⟩
    rw [after_8]
    exact put_8 hb t hf a d
  · obtain ⟨h, a, d, rfl⟩ : ∃ (h : Fin 8) (a : Fin 8192) (d : Fin 64), i = ix3 h a d := ⟨i 0, i 1, i 2, ext3 rfl rfl rfl⟩
    exact cover_8 h a d

/-- The key gradient's. -/
theorem arr_9 : (dats m 0 c).arrAt 9 (C0 Ideal).N = arrK x := by
  refine (dats m 0 c).arrAt_eq_of_emb 9 (arrK x) (fun t hf y => ?_) fun i => ?_
  · obtain ⟨a, d, rfl⟩ : ∃ (a : Fin 512) (d : Fin 64), y = ix3 0 a d := ⟨y 1, y 2, ext3 (Nat.lt_one_iff.1 (y 0).isLt) rfl rfl⟩
    rw [after_9]
    exact put_9 hb t hf a d
  · obtain ⟨h, a, d, rfl⟩ : ∃ (h : Fin 8) (a : Fin 8192) (d : Fin 64), i = ix3 h a d := ⟨i 0, i 1, i 2, ext3 rfl rfl rfl⟩
    exact cover_9 h a d

/-- The value gradient's. -/
theorem arr_10 : (dats m 0 c).arrAt 10 (C0 Ideal).N = arrV x := by
  refine (dats m 0 c).arrAt_eq_of_emb 10 (arrV x) (fun t hf y => ?_) fun i => ?_
  · obtain ⟨a, d, rfl⟩ : ∃ (a : Fin 512) (d : Fin 64), y = ix3 0 a d := ⟨y 1, y 2, ext3 (Nat.lt_one_iff.1 (y 0).isLt) rfl rfl⟩
    rw [after_10]
    exact put_10 hb t hf a d
  · obtain ⟨h, a, d, rfl⟩ : ∃ (h : Fin 8) (a : Fin 8192) (d : Fin 64), i = ix3 h a d := ⟨i 0, i 1, i 2, ext3 rfl rfl rfl⟩
    exact cover_10 h a d

/-- The gate gradient's. -/
theorem arr_11 : (dats m 0 c).arrAt 11 (C0 Ideal).N = arrC x := by
  refine (dats m 0 c).arrAt_eq_of_emb 11 (arrC x) (fun t hf y => ?_) fun i => ?_
  · obtain ⟨a, rfl⟩ : ∃ (a : Fin 512), y = ix3 0 0 a := ⟨y 2, ext3 (Nat.lt_one_iff.1 (y 0).isLt) (Nat.lt_one_iff.1 (y 1).isLt) rfl⟩
    rw [after_11]
    exact put_11 hb t hf a
  · obtain ⟨h, a, rfl⟩ : ∃ (h : Fin 8) (a : Fin 8192), i = ix3 h 0 a := ⟨i 0, i 2, ext3 rfl (Nat.lt_one_iff.1 (i 1).isLt) rfl⟩
    exact cover_11 h a

end Arrays

end Cert.Fox

end
-- ==== Proof.Fox.RefStages.lean ====
/- The reference's operations in stages, each read at an index: masked scores, exponentials and their sums, weights,
   the scores' gradients, and the four results. -/
module

public import proofs.«01_k».proof.Proof.Gen.ReferenceIdeal.Run
public import Idealize.ShloMosaic.Lib.Pointwise

@[expose] public section

set_option maxRecDepth 16384

noncomputable section

namespace Cert.Fox.Ref

open Idealize.ShloMosaic Idealize.ShloMosaic.TcCoe Idealize.ShloMosaic.Tactic
open Cert.ReferenceIdeal Cert.ReferenceIdeal.Gen

variable {F : FTy → Type} [FloatOps F]

/-- An argument, position by head by lane. -/
def rHead (a : Vec F S8192x512 .bf16) : Vec F S8192x8x64 .f32 :=
  shapeCast S8192x8x64 (extf .f32 a bitsLt_bf16_f32) shapeCasts_S8192x512_S8192x8x64

/-- The cotangent, head by lane by position. -/
def rCot (a : Vec F S8192x512 .bf16) : Vec F S8x64x8192 .f32 :=
  transpose S8x64x8192 [1, 2, 0] (extf .f32 (shapeCast S8192x8x64 a shapeCasts_S8192x512_S8192x8x64) bitsLt_bf16_f32) transposes_S8192x8x64_S8x64x8192_1_2_0

/-- Where a key is not after the query. -/
def rMask : IVec S8x8192x8192 1 :=
  broadcastInDim S8x8192x8192 ![1, 2] bcast_S8192x8192_S8x8192x8192_1_2
    (cmpi .sle
      (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))

/-- The scores, minus infinity above the diagonal. -/
def rScore (q k : Vec F S8192x8x64 .f32) (cT : Vec F S8x8192 .f32) : Vec F S8x8192x8192 .f32 :=
  select rMask
    (subf
      (addf
        (mulf (Host.dotGeneral dot_S8192x8x64_S8192x8x64_S8x8192x8192_2_2_0_0_1_1 none q k)
          (broadcastInDim S8x8192x8192 ![] bcast_S_S8x8192x8192 (constant S_ .f32 0x3E000000#32)))
        (broadcastInDim S8x8192x8192 ![0, 1, 2] bcast_S8x8192x1_S8x8192x8192_0_1_2 (broadcastInDim S8x8192x1 ![0, 1] bcast_S8x8192_S8x8192x1_0_1 cT)))
      (broadcastInDim S8x8192x8192 ![0, 1, 2] bcast_S8x1x8192_S8x8192x8192_0_1_2 (broadcastInDim S8x1x8192 ![0, 2] bcast_S8x8192_S8x1x8192_0_2 cT)))
    (broadcastInDim S8x8192x8192 ![] bcast_S_S8x8192x8192 (constant S_ .f32 0xFF800000#32))

/-- A row's maximum. -/
def rTop (s : Vec F S8x8192x8192 .f32) : Vec F S8x8192 .f32 :=
  Host.reduce FloatOps.maximumf s (constant S_ .f32 0xFF800000#32) reducesTo_S8x8192x8192_S8x8192_d2 h_S_

/-- The maximum, not under minus infinity. -/
def rMax (mx : Vec F S8x8192 .f32) : Vec F S8x8192x1 .f32 :=
  broadcastInDim S8x8192x1 ![0, 1] bcast_S8x8192_S8x8192x1_0_1
    (maximumf (broadcastInDim S8x8192 ![] bcast_S_S8x8192 (constant S_ .f32 0xFF800000#32)) mx)

/-- The exponentials. -/
def rExp (s : Vec F S8x8192x8192 .f32) (mx : Vec F S8x8192x1 .f32) : Vec F S8x8192x8192 .f32 :=
  Host.exp (subf s (broadcastInDim S8x8192x8192 ![0, 1, 2] bcast_S8x8192x1_S8x8192x8192_0_1_2 mx))

/-- A row's sum. -/
def rSum (e : Vec F S8x8192x8192 .f32) : Vec F S8x8192x1 .f32 :=
  broadcastInDim S8x8192x1 ![0, 1] bcast_S8x8192_S8x8192x1_0_1
    (Host.reduceAdd e (constant S_ .f32 0x00000000#32) reducesTo_S8x8192x8192_S8x8192_d2 h_S_)

/-- The weights. -/
def rP (e : Vec F S8x8192x8192 .f32) (l : Vec F S8x8192x1 .f32) : Vec F S8x8192x8192 .f32 :=
  extf .f32 (truncf .bf16 (Host.divf e (broadcastInDim S8x8192x8192 ![0, 1, 2] bcast_S8x8192x1_S8x8192x8192_0_1_2 l)) bitsLt_bf16_f32) bitsLt_bf16_f32

/-- The weights' cotangents. -/
def rDp (g : Vec F S8x64x8192 .f32) (v : Vec F S8192x8x64 .f32) : Vec F S8x8192x8192 .f32 :=
  extf .f32 (truncf .bf16 (Host.dotGeneral dot_S8x64x8192_S8192x8x64_S8x8192x8192_1_2_2_0_0_1 none g v) bitsLt_bf16_f32) bitsLt_bf16_f32

/-- One over the square of a row's sum. -/
def rInv (l : Vec F S8x8192x1 .f32) : Vec F S8x8192x1 .f32 :=
  Host.divf (broadcastInDim S8x8192x1 ![] bcast_S_S8x8192x1 (constant S_ .f32 0x3F800000#32)) (mulf l l)

/-- The cotangent of a row's sum. -/
def rRow (dp : Vec F S8x8192x8192 .f32) (inv : Vec F S8x8192x1 .f32) (e : Vec F S8x8192x8192 .f32) : Vec F S8x8192 .f32 :=
  Host.reduceAdd
    (Host.negf (shapeCast S8x8192x1
      (Host.reduceAdd (mulf (mulf dp (broadcastInDim S8x8192x8192 ![0, 1, 2] bcast_S8x8192x1_S8x8192x8192_0_1_2 inv)) e)
        (constant S_ .f32 0x00000000#32) reducesTo_S8x8192x8192_S8x8192_d2 h_S_) shapeCasts_S8x8192_S8x8192x1))
    (constant S_ .f32 0x00000000#32) reducesTo_S8x8192x1_S8x8192_d2 h_S_

/-- The scores' gradients. -/
def rDs (dp : Vec F S8x8192x8192 .f32) (l : Vec F S8x8192x1 .f32) (row : Vec F S8x8192 .f32) (e : Vec F S8x8192x8192 .f32) : Vec F S8x8192x8192 .f32 :=
  select rMask
    (mulf
      (addf (Host.divf dp (broadcastInDim S8x8192x8192 ![0, 1, 2] bcast_S8x8192x1_S8x8192x8192_0_1_2 l))
        (broadcastInDim S8x8192x8192 ![0, 1] bcast_S8x8192_S8x8192x8192_0_1 row)) e)
    (broadcastInDim S8x8192x8192 ![] bcast_S_S8x8192x8192 (constant S_ .f32 0x00000000#32))

/-- A gradient, rounded and laid out head by head. -/
def rOut (a : Vec F S8192x8x64 .f32) : Vec F S8x8192x64 .f32 :=
  transpose S8x8192x64 [1, 0, 2]
    (shapeCast S8192x8x64
      (extf .f32 (truncf .bf16 (shapeCast S8192x512 a shapeCasts_S8192x8x64_S8192x512) bitsLt_bf16_f32) bitsLt_bf16_f32)
      shapeCasts_S8192x512_S8192x8x64) transposes_S8192x8x64_S8x8192x64_1_0_2

/-- The values' gradient. -/
def rDv (g : Vec F S8x64x8192 .f32) (p : Vec F S8x8192x8192 .f32) : Vec F S8192x8x64 .f32 :=
  transpose S8192x8x64 [2, 0, 1] (Host.dotGeneral dot_S8x64x8192_S8x8192x8192_S8x64x8192_2_1_1_2_0_0 none g p) transposes_S8x64x8192_S8192x8x64_2_0_1

/-- The scores' gradients by the scores' scale. -/
def rSc (ds : Vec F S8x8192x8192 .f32) : Vec F S8x8192x8192 .f32 :=
  mulf ds (broadcastInDim S8x8192x8192 ![] bcast_S_S8x8192x8192 (constant S_ .f32 0x3E000000#32))

/-- The keys' gradient. -/
def rDk (sc : Vec F S8x8192x8192 .f32) (q : Vec F S8192x8x64 .f32) : Vec F S8192x8x64 .f32 :=
  transpose S8192x8x64 [1, 0, 2] (Host.dotGeneral dot_S8x8192x8192_S8192x8x64_S8x8192x64_1_0_2_2_0_1 none sc q) transposes_S8x8192x64_S8192x8x64_1_0_2

/-- The queries' gradient. -/
def rDq (sc : Vec F S8x8192x8192 .f32) (k : Vec F S8192x8x64 .f32) : Vec F S8192x8x64 .f32 :=
  transpose S8192x8x64 [1, 0, 2] (Host.dotGeneral dot_S8x8192x8192_S8192x8x64_S8x8192x64_2_0_1_2_0_1 none sc k) transposes_S8x8192x64_S8192x8x64_1_0_2

/-- The gradient of the running sums: less the columns' sums, plus the rows' sums. -/
def rDc (ds : Vec F S8x8192x8192 .f32) : Vec F S8x1x8192 .f32 :=
  broadcastInDim S8x1x8192 ![0, 2] bcast_S8x8192_S8x1x8192_0_2
    (addf
      (Host.reduceAdd
        (shapeCast S8x1x8192 (Host.reduceAdd (Host.negf ds) (constant S_ .f32 0x00000000#32) reducesTo_S8x8192x8192_S8x8192_d1 h_S_) shapeCasts_S8x8192_S8x1x8192)
        (constant S_ .f32 0x00000000#32) reducesTo_S8x1x8192_S8x8192_d1 h_S_)
      (Host.reduceAdd
        (shapeCast S8x8192x1 (Host.reduceAdd ds (constant S_ .f32 0x00000000#32) reducesTo_S8x8192x8192_S8x8192_d2 h_S_) shapeCasts_S8x8192_S8x8192x1)
        (constant S_ .f32 0x00000000#32) reducesTo_S8x8192x1_S8x8192_d2 h_S_))

theorem rHead_at (a : Vec Ideal S8192x512 .bf16) (i : Fin 8192) (h : Fin 8) (d : Fin 64) :
    rHead a (ix3 i h d) = a (ix2 i ⟨h.val * 64 + d.val, by omega⟩) := by
  pointwise [rHead]

theorem rCot_at (a : Vec Ideal S8192x512 .bf16) (h : Fin 8) (d : Fin 64) (i : Fin 8192) :
    rCot a (ix3 h d i) = a (ix2 i ⟨h.val * 64 + d.val, by omega⟩) := by
  pointwise [rCot]

theorem rMask_at (h : Fin 8) (i j : Fin 8192) :
    rMask (ix3 h i j) = IntOp.cmpi CmpIPredicate.sle (BitVec.ofNat 32 j.val) (BitVec.ofNat 32 i.val) := by
  pointwise [rMask]

theorem rScore_at (q k : Vec Ideal S8192x8x64 .f32) (cT : Vec Ideal S8x8192 .f32) (h : Fin 8) (i j : Fin 8192) :
    rScore q k cT (ix3 h i j) = Scalar.select (IntOp.cmpi CmpIPredicate.sle (BitVec.ofNat 32 j.val) (BitVec.ofNat 32 i.val))
      ((∑ d : Fin 64, q (ix3 i h d) * k (ix3 j h d)) * Ideal.ofBits FTy.f32 0x3E000000#32 + cT (ix2 h i) - cT (ix2 h j))
      (Ideal.ofBits FTy.f32 0xFF800000#32) := by
  pointwise [rScore, rMask]

theorem rTop_at (s : Vec Ideal S8x8192x8192 .f32) (h : Fin 8) (i : Fin 8192) :
    rTop s (ix2 h i) = Finset.univ.fold max (Ideal.ofBits FTy.f32 0xFF800000#32) fun j : Fin 8192 => s (ix3 h i j) := by
  pointwise [rTop]

theorem rMax_at (mx : Vec Ideal S8x8192 .f32) (h : Fin 8) (i : Fin 8192) :
    rMax mx (ix3 h i 0) = max (Ideal.ofBits FTy.f32 0xFF800000#32) (mx (ix2 h i)) := by
  pointwise [rMax]

theorem rExp_at (s : Vec Ideal S8x8192x8192 .f32) (mx : Vec Ideal S8x8192x1 .f32) (h : Fin 8) (i j : Fin 8192) :
    rExp s mx (ix3 h i j) = Ideal.exp (s (ix3 h i j) - mx (ix3 h i 0)) := by
  pointwise [rExp]

theorem rSum_at (e : Vec Ideal S8x8192x8192 .f32) (h : Fin 8) (i : Fin 8192) :
    rSum e (ix3 h i 0) = ∑ j : Fin 8192, e (ix3 h i j) := by
  pointwise [rSum]

theorem rP_at (e : Vec Ideal S8x8192x8192 .f32) (l : Vec Ideal S8x8192x1 .f32) (h : Fin 8) (i j : Fin 8192) :
    rP e l (ix3 h i j) = Ideal.div (e (ix3 h i j)) (l (ix3 h i 0)) := by
  pointwise [rP]

theorem rDp_at (g : Vec Ideal S8x64x8192 .f32) (v : Vec Ideal S8192x8x64 .f32) (h : Fin 8) (i j : Fin 8192) :
    rDp g v (ix3 h i j) = ∑ d : Fin 64, g (ix3 h d i) * v (ix3 j h d) := by
  pointwise [rDp]

theorem rInv_at (l : Vec Ideal S8x8192x1 .f32) (h : Fin 8) (i : Fin 8192) :
    rInv l (ix3 h i 0) = Ideal.div (Ideal.ofBits FTy.f32 0x3F800000#32) (l (ix3 h i 0) * l (ix3 h i 0)) := by
  pointwise [rInv]

theorem rRow_at (dp : Vec Ideal S8x8192x8192 .f32) (inv : Vec Ideal S8x8192x1 .f32) (e : Vec Ideal S8x8192x8192 .f32) (h : Fin 8) (i : Fin 8192) :
    rRow dp inv e (ix2 h i) = -∑ j : Fin 8192, dp (ix3 h i j) * inv (ix3 h i 0) * e (ix3 h i j) := by
  pointwise [rRow]
  exact Fin.sum_univ_one _

theorem rDs_at (dp : Vec Ideal S8x8192x8192 .f32) (l : Vec Ideal S8x8192x1 .f32) (row : Vec Ideal S8x8192 .f32) (e : Vec Ideal S8x8192x8192 .f32)
    (h : Fin 8) (i j : Fin 8192) :
    rDs dp l row e (ix3 h i j) = Scalar.select (IntOp.cmpi CmpIPredicate.sle (BitVec.ofNat 32 j.val) (BitVec.ofNat 32 i.val))
      ((Ideal.div (dp (ix3 h i j)) (l (ix3 h i 0)) + row (ix2 h i)) * e (ix3 h i j)) 0 := by
  pointwise [rDs, rMask]

theorem rOut_at (a : Vec Ideal S8192x8x64 .f32) (h : Fin 8) (i : Fin 8192) (d : Fin 64) : rOut a (ix3 h i d) = a (ix3 i h d) := by
  pointwise [rOut]

theorem rDv_at (g : Vec Ideal S8x64x8192 .f32) (p : Vec Ideal S8x8192x8192 .f32) (j : Fin 8192) (h : Fin 8) (d : Fin 64) :
    rDv g p (ix3 j h d) = ∑ i : Fin 8192, g (ix3 h d i) * p (ix3 h i j) := by
  pointwise [rDv]

theorem rSc_at (ds : Vec Ideal S8x8192x8192 .f32) (h : Fin 8) (i j : Fin 8192) :
    rSc ds (ix3 h i j) = ds (ix3 h i j) * Ideal.ofBits FTy.f32 0x3E000000#32 := by
  pointwise [rSc]

theorem rDk_at (sc : Vec Ideal S8x8192x8192 .f32) (q : Vec Ideal S8192x8x64 .f32) (j : Fin 8192) (h : Fin 8) (d : Fin 64) :
    rDk sc q (ix3 j h d) = ∑ i : Fin 8192, sc (ix3 h i j) * q (ix3 i h d) := by
  pointwise [rDk]

theorem rDq_at (sc : Vec Ideal S8x8192x8192 .f32) (k : Vec Ideal S8192x8x64 .f32) (i : Fin 8192) (h : Fin 8) (d : Fin 64) :
    rDq sc k (ix3 i h d) = ∑ j : Fin 8192, sc (ix3 h i j) * k (ix3 j h d) := by
  pointwise [rDq]

theorem rDc_at (ds : Vec Ideal S8x8192x8192 .f32) (h : Fin 8) (j : Fin 8192) :
    rDc ds (ix3 h 0 j) = (∑ i : Fin 8192, -ds (ix3 h i j)) + ∑ j' : Fin 8192, ds (ix3 h j j') := by
  pointwise [rDc]
  exact congrArg₂ _ (Fin.sum_univ_one _) (Fin.sum_univ_one _)

end Cert.Fox.Ref

end
-- ==== Proof.Fox.RefValue.lean ====
/- The reference's four results, the arguments holding real numbers: the model's gradients. -/
module

public import proofs.«01_k».proof.Proof.Fox.RefStages
public import proofs.«01_k».proof.Proof.Fox.Rows

@[expose] public section

set_option maxRecDepth 16384

noncomputable section

namespace Cert.Fox.Ref

open Idealize.ShloMosaic Idealize.ShloMosaic.TcCoe Idealize.ShloMosaic.Tactic
open Cert.ReferenceIdeal Cert.ReferenceIdeal.Gen

theorem ofBits_one_f32 : Ideal.ofBits .f32 0x3F800000#32 = ((1 : ℝ) : EReal) := by
  simp [Ideal.ofBits, Ideal.ieee]; norm_cast; norm_num

/-- An exponential is its weight times the row's sum. -/
theorem e_eq (x : Inp) (h i j : ℕ) : x.e h i j = x.p h i j * x.l h i := by
  have hp : x.e h i j / x.l h i = x.p h i j := x.p_shift h i j (x.mu h i)
  rw [← hp, div_mul_cancel₀ _ (x.l_pos h i).ne']

/-! ## The results as compositions of the stages -/

section Reads

variable (q k v g : Vec Ideal S8192x512 .bf16) (cT : Vec Ideal S8x8192 .f32)

abbrev aS : Vec Ideal S8x8192x8192 .f32 := rScore (rHead q) (rHead k) cT
abbrev aE : Vec Ideal S8x8192x8192 .f32 := rExp (aS q k cT) (rMax (rTop (aS q k cT)))
abbrev aL : Vec Ideal S8x8192x1 .f32 := rSum (aE q k cT)
abbrev aDp : Vec Ideal S8x8192x8192 .f32 := rDp (rCot g) (rHead v)
abbrev aDs : Vec Ideal S8x8192x8192 .f32 :=
  rDs (aDp v g) (aL q k cT) (rRow (aDp v g) (rInv (aL q k cT)) (aE q k cT)) (aE q k cT)

variable (m : (ℓ : Loc nD τ sig) → Buf (Elt Ideal) ℓ) (c : Dev nD)

abbrev mq : Vec Ideal S8192x512 .bf16 := m ((c : Thread nD τ).loc main_arg0)
abbrev mk : Vec Ideal S8192x512 .bf16 := m ((c : Thread nD τ).loc main_arg1)
abbrev mv : Vec Ideal S8192x512 .bf16 := m ((c : Thread nD τ).loc main_arg2)
abbrev mc : Vec Ideal S8x8192 .f32 := m ((c : Thread nD τ).loc main_arg3)
abbrev mg : Vec Ideal S8192x512 .bf16 := m ((c : Thread nD τ).loc main_arg4)

theorem res_dv : Value.res_main_v105 (F := Ideal) m c = rOut (rDv (rCot (mg m c)) (rP (aE (mq m c) (mk m c) (mc m c)) (aL (mq m c) (mk m c) (mc m c)))) := rfl

theorem res_dk : Value.res_main_v102 (F := Ideal) m c
    = rOut (rDk (rSc (aDs (mq m c) (mk m c) (mv m c) (mg m c) (mc m c))) (rHead (mq m c))) := rfl

theorem res_dq : Value.res_main_v99 (F := Ideal) m c
    = rOut (rDq (rSc (aDs (mq m c) (mk m c) (mv m c) (mg m c) (mc m c))) (rHead (mk m c))) := rfl

theorem res_dc : Value.res_main_v106 (F := Ideal) m c = rDc (aDs (mq m c) (mk m c) (mv m c) (mg m c) (mc m c)) := rfl

end Reads

/-! ## The stages' values -/

section Values

variable {x : Inp} {q k v g : Vec Ideal S8192x512 .bf16} {cT : Vec Ideal S8x8192 .f32}
  (hx : ArgsAre x (fun i l => q (ix2 i l)) (fun i l => k (ix2 i l)) (fun i l => v (ix2 i l)) (fun i l => g (ix2 i l)) (fun h i => cT (ix2 h i)))

include hx

theorem q_val (i : Fin 8192) (h : Fin 8) (d : Fin 64) : rHead q (ix3 i h d) = ((x.Q h i d : ℝ) : EReal) := (rHead_at q i h d).trans (hx.q i h d _)
theorem k_val (i : Fin 8192) (h : Fin 8) (d : Fin 64) : rHead k (ix3 i h d) = ((x.K h i d : ℝ) : EReal) := (rHead_at k i h d).trans (hx.k i h d _)
theorem v_val (i : Fin 8192) (h : Fin 8) (d : Fin 64) : rHead v (ix3 i h d) = ((x.V h i d : ℝ) : EReal) := (rHead_at v i h d).trans (hx.v i h d _)
theorem g_val (h : Fin 8) (d : Fin 64) (i : Fin 8192) : rCot g (ix3 h d i) = ((x.G h i d : ℝ) : EReal) := (rCot_at g h d i).trans (hx.g i h d _)

theorem s_val (h : Fin 8) (i j : Fin 8192) : aS q k cT (ix3 h i j) = x.ms h i j := by
  unfold aS
  rw [rScore_at]
  simp only [q_val hx, k_val hx, hx.c, ofBits_eighth_f32, ofBits_bot_f32]
  rw [x.score_coe, Inp.select_pos]
  rfl

theorem mx_val (h : Fin 8) (i : Fin 8192) : rMax (rTop (aS q k cT)) (ix3 h i 0) = ((x.mu h i : ℝ) : EReal) := by
  rw [rMax_at, rTop_at, ofBits_bot_f32]
  simp only [s_val hx]
  rw [x.max_ms]
  exact max_eq_right bot_le

theorem e_val (h : Fin 8) (i j : Fin 8192) : aE q k cT (ix3 h i j) = ((x.e h i j : ℝ) : EReal) := by
  unfold aE
  rw [rExp_at, s_val hx, mx_val hx, x.exp_ms]

theorem l_val (h : Fin 8) (i : Fin 8192) : aL q k cT (ix3 h i 0) = ((x.l h i : ℝ) : EReal) := by
  unfold aL
  rw [rSum_at]
  simp only [e_val hx]
  exact x.sum_e h i

theorem p_val (h : Fin 8) (i j : Fin 8192) : rP (aE q k cT) (aL q k cT) (ix3 h i j) = ((x.p h i j : ℝ) : EReal) := by
  rw [rP_at, e_val hx, l_val hx, x.div_e]

theorem dp_val (h : Fin 8) (i j : Fin 8192) : aDp v g (ix3 h i j) = ((x.dp h i j : ℝ) : EReal) := by
  unfold aDp
  rw [rDp_at]
  simp only [g_val hx, v_val hx, ← EReal.coe_mul, ← coe_sum]
  rfl

theorem inv_val (h : Fin 8) (i : Fin 8192) : rInv (aL q k cT) (ix3 h i 0) = ((1 / (x.l h i * x.l h i) : ℝ) : EReal) := by
  rw [rInv_at, l_val hx, ofBits_one_f32, ← EReal.coe_mul, Ideal.div_coe (mul_pos (x.l_pos h i) (x.l_pos h i)).ne', ← EReal.coe_mul, one_mul]

theorem row_val (h : Fin 8) (i : Fin 8192) :
    rRow (aDp v g) (rInv (aL q k cT)) (aE q k cT) (ix2 h i) = ((-(x.delta h i / x.l h i) : ℝ) : EReal) := by
  rw [rRow_at]
  simp only [dp_val hx, inv_val hx, e_val hx, ← EReal.coe_mul, ← coe_sum, ← EReal.coe_neg]
  refine congrArg (fun r : ℝ => ((-r : ℝ) : EReal)) ?_
  rw [← x.sum_p_dp, Finset.sum_div]
  refine Finset.sum_congr rfl fun j _ => ?_
  rw [e_eq]
  have := (x.l_pos h i).ne'
  field_simp

theorem ds_val (h : Fin 8) (i j : Fin 8192) : aDs q k v g cT (ix3 h i j) = ((x.ds h i j : ℝ) : EReal) := by
  unfold aDs
  rw [rDs_at, dp_val hx, l_val hx, row_val hx, e_val hx, Inp.select_pos, Ideal.div_coe (x.l_pos h i).ne']
  split
  · rw [← EReal.coe_mul, ← EReal.coe_add, ← EReal.coe_mul]
    refine congrArg (fun r : ℝ => (r : EReal)) ?_
    rw [e_eq]
    unfold Inp.ds
    have := (x.l_pos h i).ne'
    field_simp
    ring
  · rw [x.ds_of_lt (by omega)]; rfl

theorem dv_val (h : Fin 8) (j : Fin 8192) (d : Fin 64) :
    rOut (rDv (rCot g) (rP (aE q k cT) (aL q k cT))) (ix3 h j d) = ((x.dv h j d : ℝ) : EReal) := by
  rw [rOut_at, rDv_at]
  simp only [g_val hx, p_val hx, ← EReal.coe_mul, ← coe_sum]
  refine congrArg (fun r : ℝ => (r : EReal)) ?_
  unfold Inp.dv
  exact Finset.sum_congr rfl fun i _ => mul_comm _ _

theorem dk_val (h : Fin 8) (j : Fin 8192) (d : Fin 64) :
    rOut (rDk (rSc (aDs q k v g cT)) (rHead q)) (ix3 h j d) = ((x.dk h j d : ℝ) : EReal) := by
  rw [rOut_at, rDk_at]
  simp only [rSc_at, ds_val hx, q_val hx, ofBits_eighth_f32, ← EReal.coe_mul, ← coe_sum]
  refine congrArg (fun r : ℝ => (r : EReal)) ?_
  unfold Inp.dk
  rw [Finset.mul_sum]
  exact Finset.sum_congr rfl fun i _ => by ring

theorem dq_val (h : Fin 8) (i : Fin 8192) (d : Fin 64) :
    rOut (rDq (rSc (aDs q k v g cT)) (rHead k)) (ix3 h i d) = ((x.dq h i d : ℝ) : EReal) := by
  rw [rOut_at, rDq_at]
  simp only [rSc_at, ds_val hx, k_val hx, ofBits_eighth_f32, ← EReal.coe_mul, ← coe_sum]
  refine congrArg (fun r : ℝ => (r : EReal)) ?_
  unfold Inp.dq
  rw [Finset.mul_sum]
  exact Finset.sum_congr rfl fun i _ => by ring

theorem dc_val (h : Fin 8) (j : Fin 8192) : rDc (aDs q k v g cT) (ix3 h 0 j) = ((x.dc h j : ℝ) : EReal) := by
  rw [rDc_at]
  simp only [ds_val hx, ← EReal.coe_neg, ← coe_sum, ← EReal.coe_add]
  refine congrArg (fun r : ℝ => (r : EReal)) ?_
  rw [x.sum_ds, add_zero, Finset.sum_neg_distrib]
  rfl

end Values

end Cert.Fox.Ref

end
-- ==== Proof.Fox.Finite.lean ====
/- The precondition, element by element: every entry of every argument is a real number. -/
module

public import proofs.«01_k».proof.Defs
public import Idealize.ShloMosaic.Lib.Pointwise

@[expose] public section

set_option maxRecDepth 16384

noncomputable section

namespace Cert.Fox

open Idealize.ShloMosaic Idealize.ShloMosaic.Tactic
open Cert.Pre_finite

/-- The precondition's side conditions. -/
theorem pre_facts : Cert.Pre_finite.Facts := ⟨by decide, by decide, by decide⟩

/-- The comparison of a half-precision argument. -/
def finB [Facts] (a : Vec Ideal S8192x512 .bf16) : IVec S8192x512 1 :=
  cmpf (F := Ideal) .olt (Host.absf (extf .f32 a Facts.bitsLt_bf16_f32))
    (broadcastInDim S8192x512 ![] Facts.bcast_S_S8192x512 (constant (F := Ideal) S_ .f32 0x7F800000#32))

/-- The comparison of the gates. -/
def finC [Facts] (a : Vec Ideal S8x8192 .f32) : IVec S8x8192 1 :=
  cmpf (F := Ideal) .olt (Host.absf a) (broadcastInDim S8x8192 ![] Facts.bcast_S_S8x8192 (constant (F := Ideal) S_ .f32 0x7F800000#32))

theorem ofBits_top_f32 : Ideal.ofBits .f32 0x7F800000#32 = ⊤ := by
  simp [Ideal.ofBits, Ideal.ieee]

/-- A number whose absolute value is below infinity is real. -/
theorem real_of_abs {y : EReal} (h : BitVec.ofBool (decide (max y (-y) < ⊤)) = 1#1) : y ≠ ⊤ ∧ y ≠ ⊥ := by
  refine ⟨fun e => ?_, fun e => ?_⟩ <;> subst e <;> simp at h

theorem finB_at [Facts] (a : Vec Ideal S8192x512 .bf16) (i : Fin 8192) (l : Fin 512) :
    finB a (ix2 i l) = BitVec.ofBool (decide (max (a (ix2 i l)) (-(a (ix2 i l))) < (⊤ : EReal))) := by
  rw [← ofBits_top_f32]
  pointwise [finB]
  rfl

theorem finC_at [Facts] (a : Vec Ideal S8x8192 .f32) (i : Fin 8) (l : Fin 8192) :
    finC a (ix2 i l) = BitVec.ofBool (decide (max (a (ix2 i l)) (-(a (ix2 i l))) < (⊤ : EReal))) := by
  rw [← ofBits_top_f32]
  pointwise [finC]
  rfl

theorem real_of_finB [Facts] {a : Vec Ideal S8192x512 .bf16} (h : finB a = fun _ => 1#1) (i : Fin 8192) (l : Fin 512) :
    a (ix2 i l) ≠ ⊤ ∧ a (ix2 i l) ≠ ⊥ :=
  real_of_abs ((finB_at a i l).symm.trans (congrFun h (ix2 i l)))

theorem real_of_finC [Facts] {a : Vec Ideal S8x8192 .f32} (h : finC a = fun _ => 1#1) (i : Fin 8) (l : Fin 8192) :
    a (ix2 i l) ≠ ⊤ ∧ a (ix2 i l) ≠ ⊥ :=
  real_of_abs ((finC_at a i l).symm.trans (congrFun h (ix2 i l)))

end Cert.Fox

end
-- ==== Proof.Fox.Value.lean ====
/- The call computes the attention's gradients: from real arguments its four result arrays end equal to the
   reference's. -/
module

public import proofs.«01_k».proof.Proof.Fox.Arrays
public import proofs.«01_k».proof.Proof.Fox.RefValue
public import proofs.«01_k».proof.Proof.Fox.Finite

@[expose] public section

set_option maxRecDepth 16384

noncomputable section

namespace Cert.Fox

open Idealize.ShloMosaic Idealize.ShloMosaic.TcCoe Idealize.ShloMosaic.Tactic Idealize.SL.Sem

/-! ## The model of the arguments -/

section Args

open Cert.KernelIdeal Cert.KernelIdeal.Gen

variable (m : (ℓ : Loc nD τ sig) → Buf (Elt Ideal) ℓ) (c : Dev nD)

/-- The model of a device's arguments. -/
def model : Inp := inpOf (fun i l => m ((c : Thread nD τ).loc main_arg0) (ix2 i l)) (fun i l => m ((c : Thread nD τ).loc main_arg1) (ix2 i l))
  (fun i l => m ((c : Thread nD τ).loc main_arg2) (ix2 i l)) (fun i l => m ((c : Thread nD τ).loc main_arg4) (ix2 i l))
  (fun h i => m ((c : Thread nD τ).loc main_arg3) (ix2 h i))

variable {m}

/-- Under the precondition the arguments hold the model's numbers. -/
theorem model_args [Cert.Pre_finite.Facts] (hm : Cert.Pre_KernelIdeal_finite m) : KArgs (model m c) m c := by
  obtain ⟨hq, hk, hv, hc, hg⟩ := hm c
  exact argsAre_inpOf (real_of_finB hq) (real_of_finB hk) (real_of_finB hv) (real_of_finB hg) (real_of_finC hc)

/-- The arrays after the run. -/
theorem run_values [Cert.Pre_finite.Facts] (hm : Cert.Pre_KernelIdeal_finite m) (ρ : Dev nD → PrngReg) :
    θ_run defs (onTc (τ := τ) (main (F := Ideal))) ⟨m, fun _ => 0, ρ⟩ (fun r => ∀ c : Dev nD,
      r.2.mem ((c.tc : Thread nD τ).loc main_v39_0) = arrQ (model m c)
      ∧ r.2.mem ((c.tc : Thread nD τ).loc main_v39_1) = arrK (model m c)
      ∧ r.2.mem ((c.tc : Thread nD τ).loc main_v39_2) = arrV (model m c)
      ∧ r.2.mem ((c.tc : Thread nD τ).loc main_v39_3) = arrC (model m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    have hb := blk_holds (model_args c hm)
    ⟨((h.1 c).1 8).trans (arr_8 hb), ((h.1 c).1 9).trans (arr_9 hb), ((h.1 c).1 10).trans (arr_10 hb), ((h.1 c).1 11).trans (arr_11 hb),
      ((h.1 c).2 main_arg0 (by show main_arg0 ∈ Pipeline.restRefs sig spec0; decide)).trans (V_arg0 m c),
      ((h.1 c).2 main_arg1 (by show main_arg1 ∈ Pipeline.restRefs sig spec0; decide)).trans (V_arg1 m c),
      ((h.1 c).2 main_arg2 (by show main_arg2 ∈ Pipeline.restRefs sig spec0; decide)).trans (V_arg2 m c),
      ((h.1 c).2 main_arg3 (by show main_arg3 ∈ Pipeline.restRefs sig spec0; decide)).trans (V_arg3 m c),
      ((h.1 c).2 main_arg4 (by show main_arg4 ∈ Pipeline.restRefs sig spec0; decide)).trans (V_arg4 m c)⟩) (run_main_quiescent m ρ)

end Args

/-! ## The reference on the same arguments -/

namespace Ref

open Cert.ReferenceIdeal Cert.ReferenceIdeal.Gen

variable {x : Inp} (m : (ℓ : Loc nD τ sig) → Buf (Elt Ideal) ℓ) (c : Dev nD)
  (hx : ArgsAre x (fun i l => mq m c (ix2 i l)) (fun i l => mk m c (ix2 i l)) (fun i l => mv m c (ix2 i l))
    (fun i l => mg m c (ix2 i l)) (fun h i => mc m c (ix2 h i)))

include hx

theorem arr_dq : Value.res_main_v99 (F := Ideal) m c = arrQ x := by
  rw [res_dq]
  funext i
  obtain ⟨h, j, d, rfl⟩ : ∃ (h : Fin 8) (j : Fin 8192) (d : Fin 64), i = ix3 h j d := ⟨i 0, i 1, i 2, ext3 rfl rfl rfl⟩
  rw [dq_val hx, arrQ_at]

theorem arr_dk : Value.res_main_v102 (F := Ideal) m c = arrK x := by
  rw [res_dk]
  funext i
  obtain ⟨h, j, d, rfl⟩ : ∃ (h : Fin 8) (j : Fin 8192) (d : Fin 64), i = ix3 h j d := ⟨i 0, i 1, i 2, ext3 rfl rfl rfl⟩
  rw [dk_val hx, arrK_at]

theorem arr_dv : Value.res_main_v105 (F := Ideal) m c = arrV x := by
  rw [res_dv]
  funext i
  obtain ⟨h, j, d, rfl⟩ : ∃ (h : Fin 8) (j : Fin 8192) (d : Fin 64), i = ix3 h j d := ⟨i 0, i 1, i 2, ext3 rfl rfl rfl⟩
  rw [dv_val hx, arrV_at]

theorem arr_dc : Value.res_main_v106 (F := Ideal) m c = arrC x := by
  rw [res_dc]
  funext i
  obtain ⟨h, j, rfl⟩ : ∃ (h : Fin 8) (j : Fin 8192), i = ix3 h 0 j := ⟨i 0, i 2, ext3 rfl (Nat.lt_one_iff.1 (i 1).isLt) rfl⟩
  rw [dc_val hx, arrC_at]

end Ref

/-! ## The claim -/

/-- The kernel's four results are the reference's. -/
theorem algebraic [Cert.Pre_finite.Facts] :
    Cert.algebraic_KernelIdeal_ReferenceIdeal_pre_finite (hKernelIdeal := Cert.KernelIdeal.Gen.facts)
      (hReferenceIdeal := Cert.ReferenceIdeal.Gen.facts) := by
  intro m g m' g' hm he
  refine ⟨fun c => arrQ (model m c), fun c => arrK (model m c), fun c => arrV (model m c), fun c => arrC (model m c), run_values hm g, ?_⟩
  refine (θ_run Cert.ReferenceIdeal.defs _ _).mono (fun r h c => ?_) (Cert.ReferenceIdeal.Value.run (F := Ideal) m' g')
  obtain ⟨h0, h1, h2, h3, ha⟩ := h c
  obtain ⟨e0, e1, e2, e3, e4⟩ := he c
  have hx : ArgsAre (model m c) (fun i l => Ref.mq m' c (ix2 i l)) (fun i l => Ref.mk m' c (ix2 i l)) (fun i l => Ref.mv m' c (ix2 i l))
      (fun i l => Ref.mg m' c (ix2 i l)) (fun h i => Ref.mc m' c (ix2 h i)) := by
    have hk := model_args c hm
    unfold Ref.mq Ref.mk Ref.mv Ref.mg Ref.mc
    rw [e0, e1, e2, e3, e4]
    exact hk
  exact ⟨h0.trans (Ref.arr_dq m' c hx), h1.trans (Ref.arr_dk m' c hx), h2.trans (Ref.arr_dv m' c hx), h3.trans (Ref.arr_dc m' c hx), ha⟩

end Cert.Fox

end
-- ==== Proof.Mm.Sum.lean ====
/- A long sum taken in equal pieces by an accumulator that starts again every few points: after the last piece of a run it
   holds the whole sum. -/
module

public import Mathlib.Data.EReal.Basic
public import Mathlib.Algebra.BigOperators.Fin
public import Mathlib.Algebra.BigOperators.Intervals

@[expose] public section

namespace Cert.Mm

/-- An index of rank two from its coordinates. -/
theorem ext2 {n : Fin 2 → ℕ} {i j : (a : Fin 2) → Fin (n a)} (h0 : (i 0).val = (j 0).val) (h1 : (i 1).val = (j 1).val) : i = j := by
  funext a
  match a with
  | ⟨0, _⟩ => exact Fin.ext h0
  | ⟨1, _⟩ => exact Fin.ext h1

/-- Place `k` of piece `j` of a sum of `K = nk * tk` terms. -/
theorem place_lt {nk tk K j : ℕ} (hK : K = nk * tk) (hj : j < nk) (k : Fin tk) : j * tk + k.val < K := by
  subst hK
  calc j * tk + k.val < j * tk + tk := Nat.add_lt_add_left k.isLt _
    _ = (j + 1) * tk := (Nat.succ_mul j tk).symm
    _ ≤ nk * tk := Nat.mul_le_mul_right _ hj

/-- The terms of `p`, continued by zeros. -/
noncomputable def ext {K : ℕ} (p : Fin K → EReal) (n : ℕ) : EReal := if h : n < K then p ⟨n, h⟩ else 0

theorem ext_at {K : ℕ} (p : Fin K → EReal) {n : ℕ} (h : n < K) : ext p n = p ⟨n, h⟩ := dif_pos h

/-- The whole sum, from its continuation. -/
theorem sum_ext {K : ℕ} (p : Fin K → EReal) : ∑ n ∈ Finset.range K, ext p n = ∑ k : Fin K, p k := by
  rw [← Fin.sum_univ_eq_sum_range]
  exact Finset.sum_congr rfl fun k _ => ext_at p k.isLt

/-- One more piece. -/
theorem sum_piece {nk tk K j : ℕ} (hK : K = nk * tk) (hj : j < nk) (p : Fin K → EReal) :
    ∑ n ∈ Finset.range (j * tk), ext p n + ∑ k : Fin tk, p ⟨j * tk + k.val, place_lt hK hj k⟩
      = ∑ n ∈ Finset.range ((j + 1) * tk), ext p n := by
  rw [Nat.succ_mul, Finset.sum_range_add, ← Fin.sum_univ_eq_sum_range (fun k => ext p (j * tk + k))]
  congr 1
  exact Finset.sum_congr rfl fun k _ => (ext_at p (place_lt hK hj k)).symm

/-- The point before one that isn't the first of its run. -/
theorem pred_point {nk n j : ℕ} (hnk : 0 < nk) (hj : n % nk = j + 1) : (n - 1) % nk = j ∧ (n - 1) / nk = n / nk := by
  have hlt : j + 1 < nk := hj ▸ Nat.mod_lt n hnk
  have hdm := Nat.div_add_mod n nk
  generalize n / nk = q at hdm ⊢
  have hpred : n - 1 = nk * q + j := by omega
  rw [hpred, Nat.mul_add_mod, Nat.mul_add_div hnk, Nat.mod_eq_of_lt (by omega), Nat.div_eq_of_lt (by omega)]
  exact ⟨rfl, rfl⟩

/-- A tiled product. The points of a grid of `N` come in runs of `nk`, one run for each tile of the result, `J` tiles to a row
    of tiles. An accumulator `sc` starts from zero at a run's first point and adds at every point the product of two blocks, `X` and
    `Y`; a run's last point puts it out. Where the blocks are those of two arrays `A` and `B` of rows of `K` numbers, the result's
    entries are the products of their rows. -/
theorem tile_value {N nk tk tm tn J M L K : ℕ} (hnk : 0 < nk) (hK : K = nk * tk)
    {sc out : (n : ℕ) → n < N → Fin tm → Fin tn → EReal} {X : (n : ℕ) → n < N → Fin tm → Fin tk → EReal}
    {Y : (n : ℕ) → n < N → Fin tn → Fin tk → EReal} {A : Fin M → Fin K → EReal} {B : Fin L → Fin K → EReal}
    (hX : ∀ n h r k (i : Fin M) (x : Fin K), i.val = n / nk / J * tm + r.val → x.val = n % nk * tk + k.val → X n h r k = A i x)
    (hY : ∀ n h l k (j : Fin L) (x : Fin K), j.val = n / nk % J * tn + l.val → x.val = n % nk * tk + k.val → Y n h l k = B j x)
    (first : ∀ n h r l, n % nk = 0 → sc n h r l = 0 + ∑ k : Fin tk, X n h r k * Y n h l k)
    (next : ∀ n h r l, n % nk ≠ 0 →
      sc n h r l = sc (n - 1) (lt_of_le_of_lt (Nat.sub_le _ _) h) r l + ∑ k : Fin tk, X n h r k * Y n h l k)
    (last : ∀ n h r l, n % nk = nk - 1 → out n h r l = sc n h r l)
    (n : ℕ) (h : n < N) (r : Fin tm) (l : Fin tn) (i : Fin M) (j : Fin L) (hl : n % nk = nk - 1)
    (hi : i.val = n / nk / J * tm + r.val) (hj : j.val = n / nk % J * tn + l.val) :
    out n h r l = ∑ k : Fin K, A i k * B j k := by
  have piece : ∀ n (h : n < N) (hi : i.val = n / nk / J * tm + r.val) (hj : j.val = n / nk % J * tn + l.val),
      ∑ k : Fin tk, X n h r k * Y n h l k
        = ∑ k : Fin tk, A i ⟨n % nk * tk + k.val, place_lt hK (Nat.mod_lt _ hnk) k⟩ * B j ⟨n % nk * tk + k.val, place_lt hK (Nat.mod_lt _ hnk) k⟩ :=
    fun n h hi hj => Finset.sum_congr rfl fun k _ =>
      congrArg₂ (· * ·) (hX n h r k i ⟨_, place_lt hK (Nat.mod_lt _ hnk) k⟩ hi rfl)
        (hY n h l k j ⟨_, place_lt hK (Nat.mod_lt _ hnk) k⟩ hj rfl)
  have key : ∀ p n (h : n < N), n % nk = p → i.val = n / nk / J * tm + r.val → j.val = n / nk % J * tn + l.val →
      sc n h r l = ∑ x ∈ Finset.range ((p + 1) * tk), ext (fun k => A i k * B j k) x := by
    intro p
    induction p with
    | zero =>
      intro n h hp hi hj
      rw [first n h r l hp, piece n h hi hj, ← sum_piece hK hnk (fun k => A i k * B j k)]
      simp only [hp, Nat.zero_mul, Finset.range_zero, Finset.sum_empty]
    | succ p ih =>
      intro n h hp hi hj
      have hlt : p + 1 < nk := hp ▸ Nat.mod_lt n hnk
      obtain ⟨hm, hd⟩ := pred_point hnk hp
      rw [next n h r l (by omega), ih (n - 1) _ hm (by rw [hd]; exact hi) (by rw [hd]; exact hj), piece n h hi hj,
        ← sum_piece hK hlt (fun k => A i k * B j k)]
      simp only [hp]
  rw [last n h r l hl, key (nk - 1) n h hl hi hj, Nat.sub_add_cancel hnk, ← hK, sum_ext]

end Cert.Mm

end
-- ==== Proof.Mm.UpW.lean ====
/- The gradient of the feed-forward's first weight: the tiled product is the reference's product, entry by entry. -/
module

public import proofs.«01_k».proof.Defs
public import proofs.«01_k».proof.Proof.Mm.Sum
public import proofs.«01_k».proof.Proof.Gen.Kernel2.Frame
public import proofs.«01_k».proof.Proof.Gen.Kernel2Ideal.Value
public import proofs.«01_k».proof.Proof.Gen.Reference2Ideal.Run
public import Idealize.ShloMosaic.Lib.Pointwise
public import Idealize.ShloMosaic.Adequacy
public import Idealize.ShloMosaic.Init
public import Idealize.ShloMosaic.Lib.Quiescent
public import Idealize.ShloMosaic.Lib.Pipeline.ValueKit

@[expose] public section

set_option maxRecDepth 16384

noncomputable section

namespace Cert.Mm.UpW

open Idealize.ShloMosaic Idealize.ShloMosaic.TcCoe Idealize.ShloMosaic.Tactic Idealize.SL.Sem
open Idealize.ShloMosaic.Pipeline (Dat Cfg Window)
open Cert.Kernel2Ideal Cert.Kernel2Ideal.Gen

/-! ## What the body's cases leave -/

section Cases

variable {F : FTy → Type} [FloatOps F]

theorem off_zero : (![0, 0] : Fin 2 → ℕ) = fun _ => 0 := by funext a; fin_cases a <;> rfl

variable (c : Dev nD) (i : grid0.Coords) (a3 : Memref sig .tc .vmem S2048x1024 .bf16) (h3 : a3.IsWhole)
  (a4 : Memref sig .tc .vmem S2048x512 .bf16) (h4 : a4.IsWhole) (a5 : Memref sig .tc .vmem S1024x512 .f32) (h5 : a5.IsWhole)
  (a6 : Memref sig .tc .vmem S1024x512 .f32) (h6 : a6.IsWhole) (x : Vec F S2048x1024 .bf16) (y : Vec F S2048x512 .bf16)
  (s : Vec F S1024x512 .f32)

/-- A run's first point: the accumulator is the product of the two blocks, added to zero. -/
theorem acc_first (p0 : cond0_0 i) (p1 : ¬cond0_1 i) :
    sout0_A_0 c i a3 h3 a4 h4 a5 h5 a6 h6 p0 p1 x y = k0_pay2 (k0_pay1 (F := F)) x y := by
  unfold sout0_A_0
  rw [View.read_writes_eq_canon _ _ _ (scover0_A_0 c i a3 h3 a4 h4 a5 h5 a6 h6 p0 p1 x y)]
  unfold kernelRun0_A
  dsimp only
  sl_unfold_words
  rw [View.canon_cons_unit_zero (S := S1024x512) off_zero, View.readCov_unit_zero (S := S1024x512) _ off_zero]
  simp only [View.readAt_eq_ld, h3.read_unread, h4.read_unread, View.ld_unit_zero (S := S2048x1024) off_zero,
    View.ld_unit_zero (S := S2048x512) off_zero]

/-- A point inside a run adds to what the accumulator held. -/
theorem acc_mid (p0 : ¬cond0_0 i) (p1 : ¬cond0_1 i) :
    sout0_B_0 c i a3 h3 a4 h4 a5 h5 a6 h6 p0 p1 x y s = k0_pay2 s x y := by
  unfold sout0_B_0
  rw [View.read_writes_eq_canon _ _ _ (scover0_B_0 c i a3 h3 a4 h4 a5 h5 a6 h6 p0 p1 x y s)]
  unfold kernelRun0_B
  dsimp only
  sl_unfold_words
  rw [View.canon_unit_zero off_zero]
  simp only [View.readAt_eq_ld, h3.read_unread, h4.read_unread, h6.read_unread, View.ld_unit_zero (S := S2048x1024) off_zero,
    View.ld_unit_zero (S := S2048x512) off_zero, View.ld_unit_zero (S := S1024x512) off_zero]

/-- So does a run's last point, … -/
theorem acc_end (p0 : ¬cond0_0 i) (p1 : cond0_1 i) :
    sout0_C_0 c i a3 h3 a4 h4 a5 h5 a6 h6 p0 p1 x y s = k0_pay2 s x y := by
  unfold sout0_C_0
  rw [View.read_writes_eq_canon _ _ _ (scover0_C_0 c i a3 h3 a4 h4 a5 h5 a6 h6 p0 p1 x y s)]
  unfold kernelRun0_C
  dsimp only
  sl_unfold_words
  rw [View.canon_unit_zero off_zero]
  simp only [View.readAt_eq_ld, h3.read_unread, h4.read_unread, h6.read_unread, View.ld_unit_zero (S := S2048x1024) off_zero,
    View.ld_unit_zero (S := S2048x512) off_zero, View.ld_unit_zero (S := S1024x512) off_zero]

/-- … which writes the sum out. -/
theorem out_end (p0 : ¬cond0_0 i) (p1 : cond0_1 i) :
    out0_C_2 c i a3 h3 a4 h4 a5 h5 a6 h6 p0 p1 x y s = k0_pay2 s x y := by
  unfold out0_C_2
  rw [View.read_writes_eq_canon _ _ _ (cover0_C_2 c i a3 h3 a4 h4 a5 h5 a6 h6 p0 p1 x y s)]
  unfold kernelRun0_C
  dsimp only
  sl_unfold_words
  rw [View.canon_unit_zero off_zero, View.readCov_unit_zero (S := S1024x512) _ off_zero]
  simp only [View.readAt_eq_ld, h3.read_unread, h4.read_unread, h6.read_unread, View.ld_unit_zero (S := S2048x1024) off_zero,
    View.ld_unit_zero (S := S2048x512) off_zero, View.ld_unit_zero (S := S1024x512) off_zero]

end Cases

/-! ## The two blocks' product -/

theorem pay_at (s : Vec Ideal S1024x512 .f32) (x : Vec Ideal S2048x1024 .bf16) (y : Vec Ideal S2048x512 .bf16) (r : Fin 1024) (l : Fin 512) :
    k0_pay2 s x y (ix2 r l) = s (ix2 r l) + ∑ k : Fin 2048, x (ix2 k r) * y (ix2 k l) := by
  pointwise [k0_pay2]

theorem zero_at (r : Fin 1024) (l : Fin 512) : k0_pay1 (F := Ideal) (ix2 r l) = 0 := by
  pointwise [k0_pay1]

/-! ## The blocks in their arrays -/

theorem idx_0 : ∀ t : Fin cfg0.N, win0_0.index t = ![t.val % 4, t.val / 4 / 11] :=
  (by decide +kernel : ∀ t : Fin grid0.N, win0_0.index t = ![t.val % 4, t.val / 4 / 11])

theorem idx_1 : ∀ t : Fin cfg0.N, win0_1.index t = ![t.val % 4, t.val / 4 % 11] :=
  (by decide +kernel : ∀ t : Fin grid0.N, win0_1.index t = ![t.val % 4, t.val / 4 % 11])

theorem read_0 (W : Vec Ideal S8192x1024 .bf16) (t : Fin cfg0.N) (r : Fin 1024) (k : Fin 2048) (i : Fin 1024) (x : Fin 8192)
    (hi : i.val = t.val / 4 / 11 * 1024 + r.val) (hx : x.val = t.val % 4 * 2048 + k.val) :
    W (((cfg0.win 0).blk t).view.emb (ix2 k r)) = W (ix2 x i) := by
  congr 1
  refine ext2 ?_ ?_ <;> refine (Window.rect_emb_val (cfg0.win 0) t (ix2 k r) _ rfl).trans ?_ <;>
    rw [show (cfg0.win 0).index t = _ from idx_0 t]
  exacts [hx.symm, hi.symm]

theorem read_1 (W : Vec Ideal S8192x5632 .bf16) (t : Fin cfg0.N) (l : Fin 512) (k : Fin 2048) (j : Fin 5632) (x : Fin 8192)
    (hj : j.val = t.val / 4 % 11 * 512 + l.val) (hx : x.val = t.val % 4 * 2048 + k.val) :
    W (((cfg0.win 1).blk t).view.emb (ix2 k l)) = W (ix2 x j) := by
  congr 1
  refine ext2 ?_ ?_ <;> refine (Window.rect_emb_val (cfg0.win 1) t (ix2 k l) _ rfl).trans ?_ <;>
    rw [show (cfg0.win 1).index t = _ from idx_1 t]
  exacts [hx.symm, hj.symm]

variable (m : (ℓ : Loc nD τ sig) → Buf (Elt Ideal) ℓ) (c : Dev nD)

/-- The two arguments. -/
abbrev argA : Vec Ideal S8192x1024 .bf16 := m ((c.tc : Thread nD τ).loc main_arg0)
abbrev argB : Vec Ideal S8192x5632 .bf16 := m ((c.tc : Thread nD τ).loc main_arg1)

/-- What a run's last point writes out: entries of the whole product. -/
theorem out_last (n : ℕ) (h : n < cfg0.N) (r : Fin 1024) (l : Fin 512) (i : Fin 1024) (j : Fin 5632) (h1 : n % 4 = 3)
    (hi : i.val = n / 4 / 11 * 1024 + r.val) (hj : j.val = n / 4 % 11 * 512 + l.val) :
    (outsAt0 m c n h).1 (ix2 r l) = ∑ k : Fin 8192, argA m c (ix2 k i) * argB m c (ix2 k j) := by
  refine tile_value (nk := 4) (tk := 2048) (J := 11) (by decide) rfl
    (sc := fun n h r l => (outsAt0 m c n h).2 (ix2 r l)) (out := fun n h r l => (outsAt0 m c n h).1 (ix2 r l))
    (X := fun n h r k => iblk m c 0 ⟨n, h⟩ (ix2 k r)) (Y := fun n h l k => iblk m c 1 ⟨n, h⟩ (ix2 k l))
    (A := fun i k => argA m c (ix2 k i)) (B := fun j k => argB m c (ix2 k j))
    (fun n h r k i x => read_0 (argA m c) ⟨n, h⟩ r k i x) (fun n h l k j x => read_1 (argB m c) ⟨n, h⟩ l k j x)
    (fun n h r l h0 => ?_) (fun n h r l h0 => ?_) (fun n h r l h1 => ?_) n h r l i j h1 hi hj
  · show (outsAt0 m c n h).2 _ = _
    rw [outsAt0_A m c ⟨n, h⟩ h0 (by show ¬ n % 4 = 3; omega)]
    dsimp only
    rw [acc_first, pay_at, zero_at]
  · show (outsAt0 m c n h).2 _ = (outsAt0 m c (n - 1) _).2 _ + _
    by_cases h1 : n % 4 = 3
    · rw [outsAt0_C m c ⟨n, h⟩ h0 h1]
      dsimp only
      rw [acc_end, pay_at]
    · rw [outsAt0_B m c ⟨n, h⟩ h0 h1]
      dsimp only
      rw [acc_mid, pay_at]
  · show (outsAt0 m c n h).1 _ = (outsAt0 m c n h).2 _
    rw [outsAt0_C m c ⟨n, h⟩ (by show ¬ n % 4 = 0; omega) h1]
    dsimp only
    rw [acc_end, out_end]

/-! ## The array, the reference, the claim -/

/-- The product of the transposed first argument with the second. -/
def prod : Vec Ideal S1024x5632 .f32 := fun i =>
  (∑ k : Fin 8192, argA m c (ix2 k (i 0)) * argB m c (ix2 k (i 1)) : EReal)

theorem array_eq : Value.G2 m c = prod m c := by
  funext i
  obtain ⟨r, l, rfl⟩ : ∃ (r : Fin 1024) (l : Fin 5632), i = ix2 r l := ⟨i 0, i 1, ext2 rfl rfl⟩
  have hp : Value.pt2Of (ix2 r l) < cfg0.N := by
    rw [show cfg0.N = 44 from N_0]
    show 4 * (11 * (r.val / 1024 - 0) + 1 * (l.val / 512 - 0)) + 3 < 44
    omega
  unfold Value.G2
  rw [dif_pos hp, ← Value.outsAt0_sweep m c _ hp, show Value.loc2Of (ix2 r l)
    = ix2 ⟨r.val % 1024, Nat.mod_lt _ (by decide)⟩ ⟨l.val % 512, Nat.mod_lt _ (by decide)⟩ from ext2 rfl rfl]
  refine out_last m c _ hp _ _ r l ?_ ?_ ?_
  · show (4 * (11 * (r.val / 1024 - 0) + 1 * (l.val / 512 - 0)) + 3) % 4 = 3
    omega
  · show r.val = (4 * (11 * (r.val / 1024 - 0) + 1 * (l.val / 512 - 0)) + 3) / 4 / 11 * 1024 + r.val % 1024
    omega
  · show l.val = (4 * (11 * (r.val / 1024 - 0) + 1 * (l.val / 512 - 0)) + 3) / 4 % 11 * 512 + l.val % 512
    omega

end Cert.Mm.UpW

namespace Cert.Mm.UpW.Ref

open Idealize.ShloMosaic Idealize.ShloMosaic.TcCoe Idealize.ShloMosaic.Tactic
open Cert.Reference2Ideal Cert.Reference2Ideal.Gen

/-- The reference's gradient of the weight. -/
def grad (a : Vec Ideal S8192x1024 .bf16) (b : Vec Ideal S8192x5632 .bf16) : Vec Ideal S1024x5632 .f32 :=
  transpose S1024x5632 [1, 0] (Host.dotGeneral (F := Ideal) dot_S8192x5632_S8192x1024_S5632x1024_0_0_1_1_n_n none
    (extf .f32 b bitsLt_bf16_f32) (extf .f32 a bitsLt_bf16_f32)) transposes_S5632x1024_S1024x5632_1_0

theorem grad_at (a : Vec Ideal S8192x1024 .bf16) (b : Vec Ideal S8192x5632 .bf16) (r : Fin 1024) (l : Fin 5632) :
    grad a b (ix2 r l) = ∑ k : Fin 8192, b (ix2 k l) * a (ix2 k r) := by
  pointwise [grad]

end Cert.Mm.UpW.Ref

namespace Cert.Mm.UpW

open Idealize.ShloMosaic Idealize.ShloMosaic.TcCoe Idealize.SL.Sem

/-- The tiled product is the gradient of the reference's product in its weight. -/
theorem algebraic : Cert.algebraic_Kernel2Ideal_Reference2Ideal (hKernel2Ideal := Cert.Kernel2Ideal.Gen.facts)
    (hReference2Ideal := Cert.Reference2Ideal.Gen.facts) := by
  intro m g m' g' _ he
  refine ⟨prod m, (θ_run Cert.Kernel2Ideal.defs _ _).mono (fun r h c => ?_) (Cert.Kernel2Ideal.Value.run (F := Ideal) m g),
    (θ_run Cert.Reference2Ideal.defs _ _).mono (fun r h c => ?_) (Cert.Reference2Ideal.Value.run (F := Ideal) m' g')⟩
  · exact ⟨(h c).1.trans (array_eq m c), (h c).2⟩
  · refine ⟨(h c).1.trans ?_, (h c).2⟩
    rw [(he c).1, (he c).2]
    show Ref.grad (argA m c) (argB m c) = prod m c
    funext i
    obtain ⟨r, l, rfl⟩ : ∃ (r : Fin 1024) (l : Fin 5632), i = ix2 r l := ⟨i 0, i 1, ext2 rfl rfl⟩
    rw [Ref.grad_at]
    exact Finset.sum_congr rfl fun k _ => mul_comm _ _

/-! ## The frames -/

theorem frame_kernel : Cert.quiescent_Kernel2 (hKernel2 := Cert.Kernel2.Gen.facts) := fun m ρ _ => Cert.Kernel2.Gen.frame m ρ

theorem frame_ideal : Cert.quiescent_Kernel2Ideal (hKernel2Ideal := Cert.Kernel2Ideal.Gen.facts) := fun m ρ _ =>
  Cert.Kernel2Ideal.Gen.frame m ρ

theorem frame_reference : Cert.quiescent_Reference2Ideal (hReference2Ideal := Cert.Reference2Ideal.Gen.facts) := fun m ρ _ =>
  (θ_run Cert.Reference2Ideal.defs _ _).mono
    (fun r h => ⟨fun c => (h c).2, sem_eq_zero_of_no_sems (by decide) r.2⟩) (Cert.Reference2Ideal.Value.run (F := Ideal) m ρ)

end Cert.Mm.UpW

end
-- ==== Proof.Mm.UpH.lean ====
/- The gradient of the rows the feed-forward takes in: the tiled product is the reference's product, entry by entry. -/
module

public import proofs.«01_k».proof.Defs
public import proofs.«01_k».proof.Proof.Mm.Sum
public import proofs.«01_k».proof.Proof.Gen.Kernel3.Frame
public import proofs.«01_k».proof.Proof.Gen.Kernel3Ideal.Value
public import proofs.«01_k».proof.Proof.Gen.Reference3Ideal.Run
public import Idealize.ShloMosaic.Lib.Pointwise
public import Idealize.ShloMosaic.Adequacy
public import Idealize.ShloMosaic.Init
public import Idealize.ShloMosaic.Lib.Quiescent
public import Idealize.ShloMosaic.Lib.Pipeline.ValueKit

@[expose] public section

set_option maxRecDepth 16384

noncomputable section

namespace Cert.Mm.UpH

open Idealize.ShloMosaic Idealize.ShloMosaic.TcCoe Idealize.ShloMosaic.Tactic Idealize.SL.Sem
open Idealize.ShloMosaic.Pipeline (Dat Cfg Window)
open Cert.Kernel3Ideal Cert.Kernel3Ideal.Gen

/-! ## What the body's cases leave -/

section Cases

variable {F : FTy → Type} [FloatOps F]

theorem off_zero : (![0, 0] : Fin 2 → ℕ) = fun _ => 0 := by funext a; fin_cases a <;> rfl

variable (c : Dev nD) (i : grid0.Coords) (a3 : Memref sig .tc .vmem S1024x2816 .bf16) (h3 : a3.IsWhole)
  (a4 : Memref sig .tc .vmem S512x2816 .bf16) (h4 : a4.IsWhole) (a5 : Memref sig .tc .vmem S1024x512 .f32) (h5 : a5.IsWhole)
  (a6 : Memref sig .tc .vmem S1024x512 .f32) (h6 : a6.IsWhole) (x : Vec F S1024x2816 .bf16) (y : Vec F S512x2816 .bf16)
  (s : Vec F S1024x512 .f32)

/-- A run's first point: the accumulator is the product of the two blocks, added to zero. -/
theorem acc_first (p0 : cond0_0 i) (p1 : ¬cond0_1 i) :
    sout0_A_0 c i a3 h3 a4 h4 a5 h5 a6 h6 p0 p1 x y = k0_pay2 (k0_pay1 (F := F)) x y := by
  unfold sout0_A_0
  rw [View.read_writes_eq_canon _ _ _ (scover0_A_0 c i a3 h3 a4 h4 a5 h5 a6 h6 p0 p1 x y)]
  unfold kernelRun0_A
  dsimp only
  sl_unfold_words
  rw [View.canon_cons_unit_zero (S := S1024x512) off_zero, View.readCov_unit_zero (S := S1024x512) _ off_zero]
  simp only [View.readAt_eq_ld, h3.read_unread, h4.read_unread, View.ld_unit_zero (S := S1024x2816) off_zero,
    View.ld_unit_zero (S := S512x2816) off_zero]

/-- A run's second point adds to what the accumulator held, … -/
theorem acc_end (p0 : ¬cond0_0 i) (p1 : cond0_1 i) :
    sout0_B_0 c i a3 h3 a4 h4 a5 h5 a6 h6 p0 p1 x y s = k0_pay2 s x y := by
  unfold sout0_B_0
  rw [View.read_writes_eq_canon _ _ _ (scover0_B_0 c i a3 h3 a4 h4 a5 h5 a6 h6 p0 p1 x y s)]
  unfold kernelRun0_B
  dsimp only
  sl_unfold_words
  rw [View.canon_unit_zero off_zero]
  simp only [View.readAt_eq_ld, h3.read_unread, h4.read_unread, h6.read_unread, View.ld_unit_zero (S := S1024x2816) off_zero,
    View.ld_unit_zero (S := S512x2816) off_zero, View.ld_unit_zero (S := S1024x512) off_zero]

/-- … which writes the sum out. -/
theorem out_end (p0 : ¬cond0_0 i) (p1 : cond0_1 i) :
    out0_B_2 c i a3 h3 a4 h4 a5 h5 a6 h6 p0 p1 x y s = k0_pay2 s x y := by
  unfold out0_B_2
  rw [View.read_writes_eq_canon _ _ _ (cover0_B_2 c i a3 h3 a4 h4 a5 h5 a6 h6 p0 p1 x y s)]
  unfold kernelRun0_B
  dsimp only
  sl_unfold_words
  rw [View.canon_unit_zero off_zero, View.readCov_unit_zero (S := S1024x512) _ off_zero]
  simp only [View.readAt_eq_ld, h3.read_unread, h4.read_unread, h6.read_unread, View.ld_unit_zero (S := S1024x2816) off_zero,
    View.ld_unit_zero (S := S512x2816) off_zero, View.ld_unit_zero (S := S1024x512) off_zero]

end Cases

/-! ## The two blocks' product -/

theorem pay_at (s : Vec Ideal S1024x512 .f32) (x : Vec Ideal S1024x2816 .bf16) (y : Vec Ideal S512x2816 .bf16) (r : Fin 1024) (l : Fin 512) :
    k0_pay2 s x y (ix2 r l) = s (ix2 r l) + ∑ k : Fin 2816, x (ix2 r k) * y (ix2 l k) := by
  pointwise [k0_pay2]

theorem zero_at (r : Fin 1024) (l : Fin 512) : k0_pay1 (F := Ideal) (ix2 r l) = 0 := by
  pointwise [k0_pay1]

/-! ## The blocks in their arrays -/

theorem idx_0 : ∀ t : Fin cfg0.N, win0_0.index t = ![t.val / 2 / 2, t.val % 2] :=
  (by decide +kernel : ∀ t : Fin grid0.N, win0_0.index t = ![t.val / 2 / 2, t.val % 2])

theorem idx_1 : ∀ t : Fin cfg0.N, win0_1.index t = ![t.val / 2 % 2, t.val % 2] :=
  (by decide +kernel : ∀ t : Fin grid0.N, win0_1.index t = ![t.val / 2 % 2, t.val % 2])

theorem read_0 (W : Vec Ideal S8192x5632 .bf16) (t : Fin cfg0.N) (r : Fin 1024) (k : Fin 2816) (i : Fin 8192) (x : Fin 5632)
    (hi : i.val = t.val / 2 / 2 * 1024 + r.val) (hx : x.val = t.val % 2 * 2816 + k.val) :
    W (((cfg0.win 0).blk t).view.emb (ix2 r k)) = W (ix2 i x) := by
  congr 1
  refine ext2 ?_ ?_ <;> refine (Window.rect_emb_val (cfg0.win 0) t (ix2 r k) _ rfl).trans ?_ <;>
    rw [show (cfg0.win 0).index t = _ from idx_0 t]
  exacts [hi.symm, hx.symm]

theorem read_1 (W : Vec Ideal S1024x5632 .bf16) (t : Fin cfg0.N) (l : Fin 512) (k : Fin 2816) (j : Fin 1024) (x : Fin 5632)
    (hj : j.val = t.val / 2 % 2 * 512 + l.val) (hx : x.val = t.val % 2 * 2816 + k.val) :
    W (((cfg0.win 1).blk t).view.emb (ix2 l k)) = W (ix2 j x) := by
  congr 1
  refine ext2 ?_ ?_ <;> refine (Window.rect_emb_val (cfg0.win 1) t (ix2 l k) _ rfl).trans ?_ <;>
    rw [show (cfg0.win 1).index t = _ from idx_1 t]
  exacts [hj.symm, hx.symm]

variable (m : (ℓ : Loc nD τ sig) → Buf (Elt Ideal) ℓ) (c : Dev nD)

/-- The two arguments. -/
abbrev argA : Vec Ideal S8192x5632 .bf16 := m ((c.tc : Thread nD τ).loc main_arg0)
abbrev argB : Vec Ideal S1024x5632 .bf16 := m ((c.tc : Thread nD τ).loc main_arg1)

/-- What a run's last point writes out: entries of the whole product. -/
theorem out_last (n : ℕ) (h : n < cfg0.N) (r : Fin 1024) (l : Fin 512) (i : Fin 8192) (j : Fin 1024) (h1 : n % 2 = 1)
    (hi : i.val = n / 2 / 2 * 1024 + r.val) (hj : j.val = n / 2 % 2 * 512 + l.val) :
    (outsAt0 m c n h).1 (ix2 r l) = ∑ k : Fin 5632, argA m c (ix2 i k) * argB m c (ix2 j k) := by
  refine tile_value (nk := 2) (tk := 2816) (J := 2) (by decide) rfl
    (sc := fun n h r l => (outsAt0 m c n h).2 (ix2 r l)) (out := fun n h r l => (outsAt0 m c n h).1 (ix2 r l))
    (X := fun n h r k => iblk m c 0 ⟨n, h⟩ (ix2 r k)) (Y := fun n h l k => iblk m c 1 ⟨n, h⟩ (ix2 l k))
    (A := fun i k => argA m c (ix2 i k)) (B := fun j k => argB m c (ix2 j k))
    (fun n h r k i x => read_0 (argA m c) ⟨n, h⟩ r k i x) (fun n h l k j x => read_1 (argB m c) ⟨n, h⟩ l k j x)
    (fun n h r l h0 => ?_) (fun n h r l h0 => ?_) (fun n h r l h1 => ?_) n h r l i j h1 hi hj
  · show (outsAt0 m c n h).2 _ = _
    rw [outsAt0_A m c ⟨n, h⟩ h0 (by show ¬ n % 2 = 1; omega)]
    dsimp only
    rw [acc_first, pay_at, zero_at]
  · show (outsAt0 m c n h).2 _ = (outsAt0 m c (n - 1) _).2 _ + _
    rw [outsAt0_B m c ⟨n, h⟩ h0 (by show n % 2 = 1; omega)]
    dsimp only
    rw [acc_end, pay_at]
  · show (outsAt0 m c n h).1 _ = (outsAt0 m c n h).2 _
    rw [outsAt0_B m c ⟨n, h⟩ (by show ¬ n % 2 = 0; omega) h1]
    dsimp only
    rw [acc_end, out_end]

/-! ## The array, the reference, the claim -/

/-- The product of the first argument with the transposed second. -/
def prod : Vec Ideal S8192x1024 .f32 := fun i =>
  (∑ k : Fin 5632, argA m c (ix2 (i 0) k) * argB m c (ix2 (i 1) k) : EReal)

theorem array_eq : Value.G2 m c = prod m c := by
  funext i
  obtain ⟨r, l, rfl⟩ : ∃ (r : Fin 8192) (l : Fin 1024), i = ix2 r l := ⟨i 0, i 1, ext2 rfl rfl⟩
  have hp : Value.pt2Of (ix2 r l) < cfg0.N := by
    rw [show cfg0.N = 32 from N_0]
    show 2 * (2 * (r.val / 1024 - 0) + 1 * (l.val / 512 - 0)) + 1 < 32
    omega
  unfold Value.G2
  rw [dif_pos hp, ← Value.outsAt0_sweep m c _ hp, show Value.loc2Of (ix2 r l)
    = ix2 ⟨r.val % 1024, Nat.mod_lt _ (by decide)⟩ ⟨l.val % 512, Nat.mod_lt _ (by decide)⟩ from ext2 rfl rfl]
  refine out_last m c _ hp _ _ r l ?_ ?_ ?_
  · show (2 * (2 * (r.val / 1024 - 0) + 1 * (l.val / 512 - 0)) + 1) % 2 = 1
    omega
  · show r.val = (2 * (2 * (r.val / 1024 - 0) + 1 * (l.val / 512 - 0)) + 1) / 2 / 2 * 1024 + r.val % 1024
    omega
  · show l.val = (2 * (2 * (r.val / 1024 - 0) + 1 * (l.val / 512 - 0)) + 1) / 2 % 2 * 512 + l.val % 512
    omega

end Cert.Mm.UpH

namespace Cert.Mm.UpH.Ref

open Idealize.ShloMosaic Idealize.ShloMosaic.TcCoe Idealize.ShloMosaic.Tactic
open Cert.Reference3Ideal Cert.Reference3Ideal.Gen

/-- The reference's gradient of the rows. -/
def grad (a : Vec Ideal S8192x5632 .bf16) (b : Vec Ideal S1024x5632 .bf16) : Vec Ideal S8192x1024 .f32 :=
  Host.dotGeneral (F := Ideal) dot_S8192x5632_S1024x5632_S8192x1024_1_1_0_0_n_n none (extf .f32 a bitsLt_bf16_f32) (extf .f32 b bitsLt_bf16_f32)

theorem grad_at (a : Vec Ideal S8192x5632 .bf16) (b : Vec Ideal S1024x5632 .bf16) (r : Fin 8192) (l : Fin 1024) :
    grad a b (ix2 r l) = ∑ k : Fin 5632, a (ix2 r k) * b (ix2 l k) := by
  pointwise [grad]

end Cert.Mm.UpH.Ref

namespace Cert.Mm.UpH

open Idealize.ShloMosaic Idealize.ShloMosaic.TcCoe Idealize.SL.Sem

/-- The tiled product is the gradient of the reference's product in its rows. -/
theorem algebraic : Cert.algebraic_Kernel3Ideal_Reference3Ideal (hKernel3Ideal := Cert.Kernel3Ideal.Gen.facts)
    (hReference3Ideal := Cert.Reference3Ideal.Gen.facts) := by
  intro m g m' g' _ he
  refine ⟨prod m, (θ_run Cert.Kernel3Ideal.defs _ _).mono (fun r h c => ?_) (Cert.Kernel3Ideal.Value.run (F := Ideal) m g),
    (θ_run Cert.Reference3Ideal.defs _ _).mono (fun r h c => ?_) (Cert.Reference3Ideal.Value.run (F := Ideal) m' g')⟩
  · exact ⟨(h c).1.trans (array_eq m c), (h c).2⟩
  · refine ⟨(h c).1.trans ?_, (h c).2⟩
    rw [(he c).1, (he c).2]
    show Ref.grad (argA m c) (argB m c) = prod m c
    funext i
    obtain ⟨r, l, rfl⟩ : ∃ (r : Fin 8192) (l : Fin 1024), i = ix2 r l := ⟨i 0, i 1, ext2 rfl rfl⟩
    exact Ref.grad_at _ _ r l

/-! ## The frames -/

theorem frame_kernel : Cert.quiescent_Kernel3 (hKernel3 := Cert.Kernel3.Gen.facts) := fun m ρ _ => Cert.Kernel3.Gen.frame m ρ

theorem frame_ideal : Cert.quiescent_Kernel3Ideal (hKernel3Ideal := Cert.Kernel3Ideal.Gen.facts) := fun m ρ _ =>
  Cert.Kernel3Ideal.Gen.frame m ρ

theorem frame_reference : Cert.quiescent_Reference3Ideal (hReference3Ideal := Cert.Reference3Ideal.Gen.facts) := fun m ρ _ =>
  (θ_run Cert.Reference3Ideal.defs _ _).mono
    (fun r h => ⟨fun c => (h c).2, sem_eq_zero_of_no_sems (by decide) r.2⟩) (Cert.Reference3Ideal.Value.run (F := Ideal) m ρ)

end Cert.Mm.UpH

end
-- ==== Proof.Mm.InW.lean ====
/- The gradient of the gated attention's input weight: the tiled product is the reference's product, entry by entry. -/
module

public import proofs.«01_k».proof.Defs
public import proofs.«01_k».proof.Proof.Mm.Sum
public import proofs.«01_k».proof.Proof.Gen.Kernel4.Frame
public import proofs.«01_k».proof.Proof.Gen.Kernel4Ideal.Value
public import proofs.«01_k».proof.Proof.Gen.Reference4Ideal.Run
public import Idealize.ShloMosaic.Lib.Pointwise
public import Idealize.ShloMosaic.Adequacy
public import Idealize.ShloMosaic.Init
public import Idealize.ShloMosaic.Lib.Quiescent
public import Idealize.ShloMosaic.Lib.Pipeline.ValueKit

@[expose] public section

set_option maxRecDepth 16384

noncomputable section

namespace Cert.Mm.InW

open Idealize.ShloMosaic Idealize.ShloMosaic.TcCoe Idealize.ShloMosaic.Tactic Idealize.SL.Sem
open Idealize.ShloMosaic.Pipeline (Dat Cfg Window)
open Cert.Kernel4Ideal Cert.Kernel4Ideal.Gen

/-! ## What the body's cases leave -/

section Cases

variable {F : FTy → Type} [FloatOps F]

theorem off_zero : (![0, 0] : Fin 2 → ℕ) = fun _ => 0 := by funext a; fin_cases a <;> rfl

variable (c : Dev nD) (i : grid0.Coords) (a3 : Memref sig .tc .vmem S2048x1024 .bf16) (h3 : a3.IsWhole)
  (a4 : Memref sig .tc .vmem S2048x512 .bf16) (h4 : a4.IsWhole) (a5 : Memref sig .tc .vmem S1024x512 .f32) (h5 : a5.IsWhole)
  (a6 : Memref sig .tc .vmem S1024x512 .f32) (h6 : a6.IsWhole) (x : Vec F S2048x1024 .bf16) (y : Vec F S2048x512 .bf16)
  (s : Vec F S1024x512 .f32)

/-- A run's first point: the accumulator is the product of the two blocks, added to zero. -/
theorem acc_first (p0 : cond0_0 i) (p1 : ¬cond0_1 i) :
    sout0_A_0 c i a3 h3 a4 h4 a5 h5 a6 h6 p0 p1 x y = k0_pay2 (k0_pay1 (F := F)) x y := by
  unfold sout0_A_0
  rw [View.read_writes_eq_canon _ _ _ (scover0_A_0 c i a3 h3 a4 h4 a5 h5 a6 h6 p0 p1 x y)]
  unfold kernelRun0_A
  dsimp only
  sl_unfold_words
  rw [View.canon_cons_unit_zero (S := S1024x512) off_zero, View.readCov_unit_zero (S := S1024x512) _ off_zero]
  simp only [View.readAt_eq_ld, h3.read_unread, h4.read_unread, View.ld_unit_zero (S := S2048x1024) off_zero,
    View.ld_unit_zero (S := S2048x512) off_zero]

/-- A point inside a run adds to what the accumulator held. -/
theorem acc_mid (p0 : ¬cond0_0 i) (p1 : ¬cond0_1 i) :
    sout0_B_0 c i a3 h3 a4 h4 a5 h5 a6 h6 p0 p1 x y s = k0_pay2 s x y := by
  unfold sout0_B_0
  rw [View.read_writes_eq_canon _ _ _ (scover0_B_0 c i a3 h3 a4 h4 a5 h5 a6 h6 p0 p1 x y s)]
  unfold kernelRun0_B
  dsimp only
  sl_unfold_words
  rw [View.canon_unit_zero off_zero]
  simp only [View.readAt_eq_ld, h3.read_unread, h4.read_unread, h6.read_unread, View.ld_unit_zero (S := S2048x1024) off_zero,
    View.ld_unit_zero (S := S2048x512) off_zero, View.ld_unit_zero (S := S1024x512) off_zero]

/-- So does a run's last point, … -/
theorem acc_end (p0 : ¬cond0_0 i) (p1 : cond0_1 i) :
    sout0_C_0 c i a3 h3 a4 h4 a5 h5 a6 h6 p0 p1 x y s = k0_pay2 s x y := by
  unfold sout0_C_0
  rw [View.read_writes_eq_canon _ _ _ (scover0_C_0 c i a3 h3 a4 h4 a5 h5 a6 h6 p0 p1 x y s)]
  unfold kernelRun0_C
  dsimp only
  sl_unfold_words
  rw [View.canon_unit_zero off_zero]
  simp only [View.readAt_eq_ld, h3.read_unread, h4.read_unread, h6.read_unread, View.ld_unit_zero (S := S2048x1024) off_zero,
    View.ld_unit_zero (S := S2048x512) off_zero, View.ld_unit_zero (S := S1024x512) off_zero]

/-- … which writes the sum out. -/
theorem out_end (p0 : ¬cond0_0 i) (p1 : cond0_1 i) :
    out0_C_2 c i a3 h3 a4 h4 a5 h5 a6 h6 p0 p1 x y s = k0_pay2 s x y := by
  unfold out0_C_2
  rw [View.read_writes_eq_canon _ _ _ (cover0_C_2 c i a3 h3 a4 h4 a5 h5 a6 h6 p0 p1 x y s)]
  unfold kernelRun0_C
  dsimp only
  sl_unfold_words
  rw [View.canon_unit_zero off_zero, View.readCov_unit_zero (S := S1024x512) _ off_zero]
  simp only [View.readAt_eq_ld, h3.read_unread, h4.read_unread, h6.read_unread, View.ld_unit_zero (S := S2048x1024) off_zero,
    View.ld_unit_zero (S := S2048x512) off_zero, View.ld_unit_zero (S := S1024x512) off_zero]

end Cases

/-! ## The two blocks' product -/

theorem pay_at (s : Vec Ideal S1024x512 .f32) (x : Vec Ideal S2048x1024 .bf16) (y : Vec Ideal S2048x512 .bf16) (r : Fin 1024) (l : Fin 512) :
    k0_pay2 s x y (ix2 r l) = s (ix2 r l) + ∑ k : Fin 2048, x (ix2 k r) * y (ix2 k l) := by
  pointwise [k0_pay2]

theorem zero_at (r : Fin 1024) (l : Fin 512) : k0_pay1 (F := Ideal) (ix2 r l) = 0 := by
  pointwise [k0_pay1]

/-! ## The blocks in their arrays -/

theorem idx_0 : ∀ t : Fin cfg0.N, win0_0.index t = ![t.val % 4, t.val / 4 / 9] :=
  (by decide +kernel : ∀ t : Fin grid0.N, win0_0.index t = ![t.val % 4, t.val / 4 / 9])

theorem idx_1 : ∀ t : Fin cfg0.N, win0_1.index t = ![t.val % 4, t.val / 4 % 9] :=
  (by decide +kernel : ∀ t : Fin grid0.N, win0_1.index t = ![t.val % 4, t.val / 4 % 9])

theorem read_0 (W : Vec Ideal S8192x1024 .bf16) (t : Fin cfg0.N) (r : Fin 1024) (k : Fin 2048) (i : Fin 1024) (x : Fin 8192)
    (hi : i.val = t.val / 4 / 9 * 1024 + r.val) (hx : x.val = t.val % 4 * 2048 + k.val) :
    W (((cfg0.win 0).blk t).view.emb (ix2 k r)) = W (ix2 x i) := by
  congr 1
  refine ext2 ?_ ?_ <;> refine (Window.rect_emb_val (cfg0.win 0) t (ix2 k r) _ rfl).trans ?_ <;>
    rw [show (cfg0.win 0).index t = _ from idx_0 t]
  exacts [hx.symm, hi.symm]

theorem read_1 (W : Vec Ideal S8192x4608 .bf16) (t : Fin cfg0.N) (l : Fin 512) (k : Fin 2048) (j : Fin 4608) (x : Fin 8192)
    (hj : j.val = t.val / 4 % 9 * 512 + l.val) (hx : x.val = t.val % 4 * 2048 + k.val) :
    W (((cfg0.win 1).blk t).view.emb (ix2 k l)) = W (ix2 x j) := by
  congr 1
  refine ext2 ?_ ?_ <;> refine (Window.rect_emb_val (cfg0.win 1) t (ix2 k l) _ rfl).trans ?_ <;>
    rw [show (cfg0.win 1).index t = _ from idx_1 t]
  exacts [hx.symm, hj.symm]

variable (m : (ℓ : Loc nD τ sig) → Buf (Elt Ideal) ℓ) (c : Dev nD)

/-- The two arguments. -/
abbrev argA : Vec Ideal S8192x1024 .bf16 := m ((c.tc : Thread nD τ).loc main_arg0)
abbrev argB : Vec Ideal S8192x4608 .bf16 := m ((c.tc : Thread nD τ).loc main_arg1)

/-- What a run's last point writes out: entries of the whole product. -/
theorem out_last (n : ℕ) (h : n < cfg0.N) (r : Fin 1024) (l : Fin 512) (i : Fin 1024) (j : Fin 4608) (h1 : n % 4 = 3)
    (hi : i.val = n / 4 / 9 * 1024 + r.val) (hj : j.val = n / 4 % 9 * 512 + l.val) :
    (outsAt0 m c n h).1 (ix2 r l) = ∑ k : Fin 8192, argA m c (ix2 k i) * argB m c (ix2 k j) := by
  refine tile_value (nk := 4) (tk := 2048) (J := 9) (by decide) rfl
    (sc := fun n h r l => (outsAt0 m c n h).2 (ix2 r l)) (out := fun n h r l => (outsAt0 m c n h).1 (ix2 r l))
    (X := fun n h r k => iblk m c 0 ⟨n, h⟩ (ix2 k r)) (Y := fun n h l k => iblk m c 1 ⟨n, h⟩ (ix2 k l))
    (A := fun i k => argA m c (ix2 k i)) (B := fun j k => argB m c (ix2 k j))
    (fun n h r k i x => read_0 (argA m c) ⟨n, h⟩ r k i x) (fun n h l k j x => read_1 (argB m c) ⟨n, h⟩ l k j x)
    (fun n h r l h0 => ?_) (fun n h r l h0 => ?_) (fun n h r l h1 => ?_) n h r l i j h1 hi hj
  · show (outsAt0 m c n h).2 _ = _
    rw [outsAt0_A m c ⟨n, h⟩ h0 (by show ¬ n % 4 = 3; omega)]
    dsimp only
    rw [acc_first, pay_at, zero_at]
  · show (outsAt0 m c n h).2 _ = (outsAt0 m c (n - 1) _).2 _ + _
    by_cases h1 : n % 4 = 3
    · rw [outsAt0_C m c ⟨n, h⟩ h0 h1]
      dsimp only
      rw [acc_end, pay_at]
    · rw [outsAt0_B m c ⟨n, h⟩ h0 h1]
      dsimp only
      rw [acc_mid, pay_at]
  · show (outsAt0 m c n h).1 _ = (outsAt0 m c n h).2 _
    rw [outsAt0_C m c ⟨n, h⟩ (by show ¬ n % 4 = 0; omega) h1]
    dsimp only
    rw [acc_end, out_end]

/-! ## The array, the reference, the claim -/

/-- The product of the transposed first argument with the second. -/
def prod : Vec Ideal S1024x4608 .f32 := fun i =>
  (∑ k : Fin 8192, argA m c (ix2 k (i 0)) * argB m c (ix2 k (i 1)) : EReal)

theorem array_eq : Value.G2 m c = prod m c := by
  funext i
  obtain ⟨r, l, rfl⟩ : ∃ (r : Fin 1024) (l : Fin 4608), i = ix2 r l := ⟨i 0, i 1, ext2 rfl rfl⟩
  have hp : Value.pt2Of (ix2 r l) < cfg0.N := by
    rw [show cfg0.N = 36 from N_0]
    show 4 * (9 * (r.val / 1024 - 0) + 1 * (l.val / 512 - 0)) + 3 < 36
    omega
  unfold Value.G2
  rw [dif_pos hp, ← Value.outsAt0_sweep m c _ hp, show Value.loc2Of (ix2 r l)
    = ix2 ⟨r.val % 1024, Nat.mod_lt _ (by decide)⟩ ⟨l.val % 512, Nat.mod_lt _ (by decide)⟩ from ext2 rfl rfl]
  refine out_last m c _ hp _ _ r l ?_ ?_ ?_
  · show (4 * (9 * (r.val / 1024 - 0) + 1 * (l.val / 512 - 0)) + 3) % 4 = 3
    omega
  · show r.val = (4 * (9 * (r.val / 1024 - 0) + 1 * (l.val / 512 - 0)) + 3) / 4 / 9 * 1024 + r.val % 1024
    omega
  · show l.val = (4 * (9 * (r.val / 1024 - 0) + 1 * (l.val / 512 - 0)) + 3) / 4 % 9 * 512 + l.val % 512
    omega

end Cert.Mm.InW

namespace Cert.Mm.InW.Ref

open Idealize.ShloMosaic Idealize.ShloMosaic.TcCoe Idealize.ShloMosaic.Tactic
open Cert.Reference4Ideal Cert.Reference4Ideal.Gen

/-- The reference's gradient of the weight. -/
def grad (a : Vec Ideal S8192x1024 .bf16) (b : Vec Ideal S8192x4608 .bf16) : Vec Ideal S1024x4608 .f32 :=
  transpose S1024x4608 [1, 0] (Host.dotGeneral (F := Ideal) dot_S8192x4608_S8192x1024_S4608x1024_0_0_1_1_n_n none
    (extf .f32 b bitsLt_bf16_f32) (extf .f32 a bitsLt_bf16_f32)) transposes_S4608x1024_S1024x4608_1_0

theorem grad_at (a : Vec Ideal S8192x1024 .bf16) (b : Vec Ideal S8192x4608 .bf16) (r : Fin 1024) (l : Fin 4608) :
    grad a b (ix2 r l) = ∑ k : Fin 8192, b (ix2 k l) * a (ix2 k r) := by
  pointwise [grad]

end Cert.Mm.InW.Ref

namespace Cert.Mm.InW

open Idealize.ShloMosaic Idealize.ShloMosaic.TcCoe Idealize.SL.Sem

/-- The tiled product is the gradient of the reference's product in its weight. -/
theorem algebraic : Cert.algebraic_Kernel4Ideal_Reference4Ideal (hKernel4Ideal := Cert.Kernel4Ideal.Gen.facts)
    (hReference4Ideal := Cert.Reference4Ideal.Gen.facts) := by
  intro m g m' g' _ he
  refine ⟨prod m, (θ_run Cert.Kernel4Ideal.defs _ _).mono (fun r h c => ?_) (Cert.Kernel4Ideal.Value.run (F := Ideal) m g),
    (θ_run Cert.Reference4Ideal.defs _ _).mono (fun r h c => ?_) (Cert.Reference4Ideal.Value.run (F := Ideal) m' g')⟩
  · exact ⟨(h c).1.trans (array_eq m c), (h c).2⟩
  · refine ⟨(h c).1.trans ?_, (h c).2⟩
    rw [(he c).1, (he c).2]
    show Ref.grad (argA m c) (argB m c) = prod m c
    funext i
    obtain ⟨r, l, rfl⟩ : ∃ (r : Fin 1024) (l : Fin 4608), i = ix2 r l := ⟨i 0, i 1, ext2 rfl rfl⟩
    rw [Ref.grad_at]
    exact Finset.sum_congr rfl fun k _ => mul_comm _ _

/-! ## The frames -/

theorem frame_kernel : Cert.quiescent_Kernel4 (hKernel4 := Cert.Kernel4.Gen.facts) := fun m ρ _ => Cert.Kernel4.Gen.frame m ρ

theorem frame_ideal : Cert.quiescent_Kernel4Ideal (hKernel4Ideal := Cert.Kernel4Ideal.Gen.facts) := fun m ρ _ =>
  Cert.Kernel4Ideal.Gen.frame m ρ

theorem frame_reference : Cert.quiescent_Reference4Ideal (hReference4Ideal := Cert.Reference4Ideal.Gen.facts) := fun m ρ _ =>
  (θ_run Cert.Reference4Ideal.defs _ _).mono
    (fun r h => ⟨fun c => (h c).2, sem_eq_zero_of_no_sems (by decide) r.2⟩) (Cert.Reference4Ideal.Value.run (F := Ideal) m ρ)

end Cert.Mm.InW

end
-- ==== Proof.Mm.InH.lean ====
/- The gradient of the gated attention's input rows: the tiled product is the reference's product, entry by entry. -/
module

public import proofs.«01_k».proof.Defs
public import proofs.«01_k».proof.Proof.Mm.Sum
public import proofs.«01_k».proof.Proof.Gen.Kernel5.Frame
public import proofs.«01_k».proof.Proof.Gen.Kernel5Ideal.Value
public import proofs.«01_k».proof.Proof.Gen.Reference5Ideal.Run
public import Idealize.ShloMosaic.Lib.Pointwise
public import Idealize.ShloMosaic.Adequacy
public import Idealize.ShloMosaic.Init
public import Idealize.ShloMosaic.Lib.Quiescent
public import Idealize.ShloMosaic.Lib.Pipeline.ValueKit

@[expose] public section

set_option maxRecDepth 16384

noncomputable section

namespace Cert.Mm.InH

open Idealize.ShloMosaic Idealize.ShloMosaic.TcCoe Idealize.ShloMosaic.Tactic Idealize.SL.Sem
open Idealize.ShloMosaic.Pipeline (Dat Cfg Window)
open Cert.Kernel5Ideal Cert.Kernel5Ideal.Gen

/-! ## What the body's cases leave -/

section Cases

variable {F : FTy → Type} [FloatOps F]

theorem off_zero : (![0, 0] : Fin 2 → ℕ) = fun _ => 0 := by funext a; fin_cases a <;> rfl

variable (c : Dev nD) (i : grid0.Coords) (a3 : Memref sig .tc .vmem S1024x1536 .bf16) (h3 : a3.IsWhole)
  (a4 : Memref sig .tc .vmem S512x1536 .bf16) (h4 : a4.IsWhole) (a5 : Memref sig .tc .vmem S1024x512 .f32) (h5 : a5.IsWhole)
  (a6 : Memref sig .tc .vmem S1024x512 .f32) (h6 : a6.IsWhole) (x : Vec F S1024x1536 .bf16) (y : Vec F S512x1536 .bf16)
  (s : Vec F S1024x512 .f32)

/-- A run's first point: the accumulator is the product of the two blocks, added to zero. -/
theorem acc_first (p0 : cond0_0 i) (p1 : ¬cond0_1 i) :
    sout0_A_0 c i a3 h3 a4 h4 a5 h5 a6 h6 p0 p1 x y = k0_pay2 (k0_pay1 (F := F)) x y := by
  unfold sout0_A_0
  rw [View.read_writes_eq_canon _ _ _ (scover0_A_0 c i a3 h3 a4 h4 a5 h5 a6 h6 p0 p1 x y)]
  unfold kernelRun0_A
  dsimp only
  sl_unfold_words
  rw [View.canon_cons_unit_zero (S := S1024x512) off_zero, View.readCov_unit_zero (S := S1024x512) _ off_zero]
  simp only [View.readAt_eq_ld, h3.read_unread, h4.read_unread, View.ld_unit_zero (S := S1024x1536) off_zero,
    View.ld_unit_zero (S := S512x1536) off_zero]

/-- A point inside a run adds to what the accumulator held. -/
theorem acc_mid (p0 : ¬cond0_0 i) (p1 : ¬cond0_1 i) :
    sout0_B_0 c i a3 h3 a4 h4 a5 h5 a6 h6 p0 p1 x y s = k0_pay2 s x y := by
  unfold sout0_B_0
  rw [View.read_writes_eq_canon _ _ _ (scover0_B_0 c i a3 h3 a4 h4 a5 h5 a6 h6 p0 p1 x y s)]
  unfold kernelRun0_B
  dsimp only
  sl_unfold_words
  rw [View.canon_unit_zero off_zero]
  simp only [View.readAt_eq_ld, h3.read_unread, h4.read_unread, h6.read_unread, View.ld_unit_zero (S := S1024x1536) off_zero,
    View.ld_unit_zero (S := S512x1536) off_zero, View.ld_unit_zero (S := S1024x512) off_zero]

/-- So does a run's last point, … -/
theorem acc_end (p0 : ¬cond0_0 i) (p1 : cond0_1 i) :
    sout0_C_0 c i a3 h3 a4 h4 a5 h5 a6 h6 p0 p1 x y s = k0_pay2 s x y := by
  unfold sout0_C_0
  rw [View.read_writes_eq_canon _ _ _ (scover0_C_0 c i a3 h3 a4 h4 a5 h5 a6 h6 p0 p1 x y s)]
  unfold kernelRun0_C
  dsimp only
  sl_unfold_words
  rw [View.canon_unit_zero off_zero]
  simp only [View.readAt_eq_ld, h3.read_unread, h4.read_unread, h6.read_unread, View.ld_unit_zero (S := S1024x1536) off_zero,
    View.ld_unit_zero (S := S512x1536) off_zero, View.ld_unit_zero (S := S1024x512) off_zero]

/-- … which writes the sum out. -/
theorem out_end (p0 : ¬cond0_0 i) (p1 : cond0_1 i) :
    out0_C_2 c i a3 h3 a4 h4 a5 h5 a6 h6 p0 p1 x y s = k0_pay2 s x y := by
  unfold out0_C_2
  rw [View.read_writes_eq_canon _ _ _ (cover0_C_2 c i a3 h3 a4 h4 a5 h5 a6 h6 p0 p1 x y s)]
  unfold kernelRun0_C
  dsimp only
  sl_unfold_words
  rw [View.canon_unit_zero off_zero, View.readCov_unit_zero (S := S1024x512) _ off_zero]
  simp only [View.readAt_eq_ld, h3.read_unread, h4.read_unread, h6.read_unread, View.ld_unit_zero (S := S1024x1536) off_zero,
    View.ld_unit_zero (S := S512x1536) off_zero, View.ld_unit_zero (S := S1024x512) off_zero]

end Cases

/-! ## The two blocks' product -/

theorem pay_at (s : Vec Ideal S1024x512 .f32) (x : Vec Ideal S1024x1536 .bf16) (y : Vec Ideal S512x1536 .bf16) (r : Fin 1024) (l : Fin 512) :
    k0_pay2 s x y (ix2 r l) = s (ix2 r l) + ∑ k : Fin 1536, x (ix2 r k) * y (ix2 l k) := by
  pointwise [k0_pay2]

theorem zero_at (r : Fin 1024) (l : Fin 512) : k0_pay1 (F := Ideal) (ix2 r l) = 0 := by
  pointwise [k0_pay1]

/-! ## The blocks in their arrays -/

theorem idx_0 : ∀ t : Fin cfg0.N, win0_0.index t = ![t.val / 3 / 2, t.val % 3] :=
  (by decide +kernel : ∀ t : Fin grid0.N, win0_0.index t = ![t.val / 3 / 2, t.val % 3])

theorem idx_1 : ∀ t : Fin cfg0.N, win0_1.index t = ![t.val / 3 % 2, t.val % 3] :=
  (by decide +kernel : ∀ t : Fin grid0.N, win0_1.index t = ![t.val / 3 % 2, t.val % 3])

theorem read_0 (W : Vec Ideal S8192x4608 .bf16) (t : Fin cfg0.N) (r : Fin 1024) (k : Fin 1536) (i : Fin 8192) (x : Fin 4608)
    (hi : i.val = t.val / 3 / 2 * 1024 + r.val) (hx : x.val = t.val % 3 * 1536 + k.val) :
    W (((cfg0.win 0).blk t).view.emb (ix2 r k)) = W (ix2 i x) := by
  congr 1
  refine ext2 ?_ ?_ <;> refine (Window.rect_emb_val (cfg0.win 0) t (ix2 r k) _ rfl).trans ?_ <;>
    rw [show (cfg0.win 0).index t = _ from idx_0 t]
  exacts [hi.symm, hx.symm]

theorem read_1 (W : Vec Ideal S1024x4608 .bf16) (t : Fin cfg0.N) (l : Fin 512) (k : Fin 1536) (j : Fin 1024) (x : Fin 4608)
    (hj : j.val = t.val / 3 % 2 * 512 + l.val) (hx : x.val = t.val % 3 * 1536 + k.val) :
    W (((cfg0.win 1).blk t).view.emb (ix2 l k)) = W (ix2 j x) := by
  congr 1
  refine ext2 ?_ ?_ <;> refine (Window.rect_emb_val (cfg0.win 1) t (ix2 l k) _ rfl).trans ?_ <;>
    rw [show (cfg0.win 1).index t = _ from idx_1 t]
  exacts [hj.symm, hx.symm]

variable (m : (ℓ : Loc nD τ sig) → Buf (Elt Ideal) ℓ) (c : Dev nD)

/-- The two arguments. -/
abbrev argA : Vec Ideal S8192x4608 .bf16 := m ((c.tc : Thread nD τ).loc main_arg0)
abbrev argB : Vec Ideal S1024x4608 .bf16 := m ((c.tc : Thread nD τ).loc main_arg1)

/-- What a run's last point writes out: entries of the whole product. -/
theorem out_last (n : ℕ) (h : n < cfg0.N) (r : Fin 1024) (l : Fin 512) (i : Fin 8192) (j : Fin 1024) (h1 : n % 3 = 2)
    (hi : i.val = n / 3 / 2 * 1024 + r.val) (hj : j.val = n / 3 % 2 * 512 + l.val) :
    (outsAt0 m c n h).1 (ix2 r l) = ∑ k : Fin 4608, argA m c (ix2 i k) * argB m c (ix2 j k) := by
  refine tile_value (nk := 3) (tk := 1536) (J := 2) (by decide) rfl
    (sc := fun n h r l => (outsAt0 m c n h).2 (ix2 r l)) (out := fun n h r l => (outsAt0 m c n h).1 (ix2 r l))
    (X := fun n h r k => iblk m c 0 ⟨n, h⟩ (ix2 r k)) (Y := fun n h l k => iblk m c 1 ⟨n, h⟩ (ix2 l k))
    (A := fun i k => argA m c (ix2 i k)) (B := fun j k => argB m c (ix2 j k))
    (fun n h r k i x => read_0 (argA m c) ⟨n, h⟩ r k i x) (fun n h l k j x => read_1 (argB m c) ⟨n, h⟩ l k j x)
    (fun n h r l h0 => ?_) (fun n h r l h0 => ?_) (fun n h r l h1 => ?_) n h r l i j h1 hi hj
  · show (outsAt0 m c n h).2 _ = _
    rw [outsAt0_A m c ⟨n, h⟩ h0 (by show ¬ n % 3 = 2; omega)]
    dsimp only
    rw [acc_first, pay_at, zero_at]
  · show (outsAt0 m c n h).2 _ = (outsAt0 m c (n - 1) _).2 _ + _
    by_cases h1 : n % 3 = 2
    · rw [outsAt0_C m c ⟨n, h⟩ h0 h1]
      dsimp only
      rw [acc_end, pay_at]
    · rw [outsAt0_B m c ⟨n, h⟩ h0 h1]
      dsimp only
      rw [acc_mid, pay_at]
  · show (outsAt0 m c n h).1 _ = (outsAt0 m c n h).2 _
    rw [outsAt0_C m c ⟨n, h⟩ (by show ¬ n % 3 = 0; omega) h1]
    dsimp only
    rw [acc_end, out_end]

/-! ## The array, the reference, the claim -/

/-- The product of the first argument with the transposed second. -/
def prod : Vec Ideal S8192x1024 .f32 := fun i =>
  (∑ k : Fin 4608, argA m c (ix2 (i 0) k) * argB m c (ix2 (i 1) k) : EReal)

theorem array_eq : Value.G2 m c = prod m c := by
  funext i
  obtain ⟨r, l, rfl⟩ : ∃ (r : Fin 8192) (l : Fin 1024), i = ix2 r l := ⟨i 0, i 1, ext2 rfl rfl⟩
  have hp : Value.pt2Of (ix2 r l) < cfg0.N := by
    rw [show cfg0.N = 48 from N_0]
    show 3 * (2 * (r.val / 1024 - 0) + 1 * (l.val / 512 - 0)) + 2 < 48
    omega
  unfold Value.G2
  rw [dif_pos hp, ← Value.outsAt0_sweep m c _ hp, show Value.loc2Of (ix2 r l)
    = ix2 ⟨r.val % 1024, Nat.mod_lt _ (by decide)⟩ ⟨l.val % 512, Nat.mod_lt _ (by decide)⟩ from ext2 rfl rfl]
  refine out_last m c _ hp _ _ r l ?_ ?_ ?_
  · show (3 * (2 * (r.val / 1024 - 0) + 1 * (l.val / 512 - 0)) + 2) % 3 = 2
    omega
  · show r.val = (3 * (2 * (r.val / 1024 - 0) + 1 * (l.val / 512 - 0)) + 2) / 3 / 2 * 1024 + r.val % 1024
    omega
  · show l.val = (3 * (2 * (r.val / 1024 - 0) + 1 * (l.val / 512 - 0)) + 2) / 3 % 2 * 512 + l.val % 512
    omega

end Cert.Mm.InH

namespace Cert.Mm.InH.Ref

open Idealize.ShloMosaic Idealize.ShloMosaic.TcCoe Idealize.ShloMosaic.Tactic
open Cert.Reference5Ideal Cert.Reference5Ideal.Gen

/-- The reference's gradient of the rows. -/
def grad (a : Vec Ideal S8192x4608 .bf16) (b : Vec Ideal S1024x4608 .bf16) : Vec Ideal S8192x1024 .f32 :=
  Host.dotGeneral (F := Ideal) dot_S8192x4608_S1024x4608_S8192x1024_1_1_0_0_n_n none (extf .f32 a bitsLt_bf16_f32) (extf .f32 b bitsLt_bf16_f32)

theorem grad_at (a : Vec Ideal S8192x4608 .bf16) (b : Vec Ideal S1024x4608 .bf16) (r : Fin 8192) (l : Fin 1024) :
    grad a b (ix2 r l) = ∑ k : Fin 4608, a (ix2 r k) * b (ix2 l k) := by
  pointwise [grad]

end Cert.Mm.InH.Ref

namespace Cert.Mm.InH

open Idealize.ShloMosaic Idealize.ShloMosaic.TcCoe Idealize.SL.Sem

/-- The tiled product is the gradient of the reference's product in its rows. -/
theorem algebraic : Cert.algebraic_Kernel5Ideal_Reference5Ideal (hKernel5Ideal := Cert.Kernel5Ideal.Gen.facts)
    (hReference5Ideal := Cert.Reference5Ideal.Gen.facts) := by
  intro m g m' g' _ he
  refine ⟨prod m, (θ_run Cert.Kernel5Ideal.defs _ _).mono (fun r h c => ?_) (Cert.Kernel5Ideal.Value.run (F := Ideal) m g),
    (θ_run Cert.Reference5Ideal.defs _ _).mono (fun r h c => ?_) (Cert.Reference5Ideal.Value.run (F := Ideal) m' g')⟩
  · exact ⟨(h c).1.trans (array_eq m c), (h c).2⟩
  · refine ⟨(h c).1.trans ?_, (h c).2⟩
    rw [(he c).1, (he c).2]
    show Ref.grad (argA m c) (argB m c) = prod m c
    funext i
    obtain ⟨r, l, rfl⟩ : ∃ (r : Fin 8192) (l : Fin 1024), i = ix2 r l := ⟨i 0, i 1, ext2 rfl rfl⟩
    exact Ref.grad_at _ _ r l

/-! ## The frames -/

theorem frame_kernel : Cert.quiescent_Kernel5 (hKernel5 := Cert.Kernel5.Gen.facts) := fun m ρ _ => Cert.Kernel5.Gen.frame m ρ

theorem frame_ideal : Cert.quiescent_Kernel5Ideal (hKernel5Ideal := Cert.Kernel5Ideal.Gen.facts) := fun m ρ _ =>
  Cert.Kernel5Ideal.Gen.frame m ρ

theorem frame_reference : Cert.quiescent_Reference5Ideal (hReference5Ideal := Cert.Reference5Ideal.Gen.facts) := fun m ρ _ =>
  (θ_run Cert.Reference5Ideal.defs _ _).mono
    (fun r h => ⟨fun c => (h c).2, sem_eq_zero_of_no_sems (by decide) r.2⟩) (Cert.Reference5Ideal.Value.run (F := Ideal) m ρ)

end Cert.Mm.InH

end
-- ==== Proof.Mm.DownW.lean ====
/- The gradient of the feed-forward's second weight: the tiled product is the reference's product, entry by entry. -/
module

public import proofs.«01_k».proof.Defs
public import proofs.«01_k».proof.Proof.Mm.Sum
public import proofs.«01_k».proof.Proof.Gen.Kernel6.Frame
public import proofs.«01_k».proof.Proof.Gen.Kernel6Ideal.Value
public import proofs.«01_k».proof.Proof.Gen.Reference6Ideal.Run
public import Idealize.ShloMosaic.Lib.Pointwise
public import Idealize.ShloMosaic.Adequacy
public import Idealize.ShloMosaic.Init
public import Idealize.ShloMosaic.Lib.Quiescent
public import Idealize.ShloMosaic.Lib.Pipeline.ValueKit

@[expose] public section

set_option maxRecDepth 16384

noncomputable section

namespace Cert.Mm.DownW

open Idealize.ShloMosaic Idealize.ShloMosaic.TcCoe Idealize.ShloMosaic.Tactic Idealize.SL.Sem
open Idealize.ShloMosaic.Pipeline (Dat Cfg Window)
open Cert.Kernel6Ideal Cert.Kernel6Ideal.Gen

/-! ## What the body's cases leave -/

section Cases

variable {F : FTy → Type} [FloatOps F]

theorem off_zero : (![0, 0] : Fin 2 → ℕ) = fun _ => 0 := by funext a; fin_cases a <;> rfl

variable (c : Dev nD) (i : grid0.Coords) (a3 : Memref sig .tc .vmem S2048x256 .bf16) (h3 : a3.IsWhole)
  (a4 : Memref sig .tc .vmem S2048x512 .bf16) (h4 : a4.IsWhole) (a5 : Memref sig .tc .vmem S256x512 .f32) (h5 : a5.IsWhole)
  (a6 : Memref sig .tc .vmem S256x512 .f32) (h6 : a6.IsWhole) (x : Vec F S2048x256 .bf16) (y : Vec F S2048x512 .bf16)
  (s : Vec F S256x512 .f32)

/-- A run's first point: the accumulator is the product of the two blocks, added to zero. -/
theorem acc_first (p0 : cond0_0 i) (p1 : ¬cond0_1 i) :
    sout0_A_0 c i a3 h3 a4 h4 a5 h5 a6 h6 p0 p1 x y = k0_pay2 (k0_pay1 (F := F)) x y := by
  unfold sout0_A_0
  rw [View.read_writes_eq_canon _ _ _ (scover0_A_0 c i a3 h3 a4 h4 a5 h5 a6 h6 p0 p1 x y)]
  unfold kernelRun0_A
  dsimp only
  sl_unfold_words
  rw [View.canon_cons_unit_zero (S := S256x512) off_zero, View.readCov_unit_zero (S := S256x512) _ off_zero]
  simp only [View.readAt_eq_ld, h3.read_unread, h4.read_unread, View.ld_unit_zero (S := S2048x256) off_zero,
    View.ld_unit_zero (S := S2048x512) off_zero]

/-- A point inside a run adds to what the accumulator held. -/
theorem acc_mid (p0 : ¬cond0_0 i) (p1 : ¬cond0_1 i) :
    sout0_B_0 c i a3 h3 a4 h4 a5 h5 a6 h6 p0 p1 x y s = k0_pay2 s x y := by
  unfold sout0_B_0
  rw [View.read_writes_eq_canon _ _ _ (scover0_B_0 c i a3 h3 a4 h4 a5 h5 a6 h6 p0 p1 x y s)]
  unfold kernelRun0_B
  dsimp only
  sl_unfold_words
  rw [View.canon_unit_zero off_zero]
  simp only [View.readAt_eq_ld, h3.read_unread, h4.read_unread, h6.read_unread, View.ld_unit_zero (S := S2048x256) off_zero,
    View.ld_unit_zero (S := S2048x512) off_zero, View.ld_unit_zero (S := S256x512) off_zero]

/-- So does a run's last point, … -/
theorem acc_end (p0 : ¬cond0_0 i) (p1 : cond0_1 i) :
    sout0_C_0 c i a3 h3 a4 h4 a5 h5 a6 h6 p0 p1 x y s = k0_pay2 s x y := by
  unfold sout0_C_0
  rw [View.read_writes_eq_canon _ _ _ (scover0_C_0 c i a3 h3 a4 h4 a5 h5 a6 h6 p0 p1 x y s)]
  unfold kernelRun0_C
  dsimp only
  sl_unfold_words
  rw [View.canon_unit_zero off_zero]
  simp only [View.readAt_eq_ld, h3.read_unread, h4.read_unread, h6.read_unread, View.ld_unit_zero (S := S2048x256) off_zero,
    View.ld_unit_zero (S := S2048x512) off_zero, View.ld_unit_zero (S := S256x512) off_zero]

/-- … which writes the sum out. -/
theorem out_end (p0 : ¬cond0_0 i) (p1 : cond0_1 i) :
    out0_C_2 c i a3 h3 a4 h4 a5 h5 a6 h6 p0 p1 x y s = k0_pay2 s x y := by
  unfold out0_C_2
  rw [View.read_writes_eq_canon _ _ _ (cover0_C_2 c i a3 h3 a4 h4 a5 h5 a6 h6 p0 p1 x y s)]
  unfold kernelRun0_C
  dsimp only
  sl_unfold_words
  rw [View.canon_unit_zero off_zero, View.readCov_unit_zero (S := S256x512) _ off_zero]
  simp only [View.readAt_eq_ld, h3.read_unread, h4.read_unread, h6.read_unread, View.ld_unit_zero (S := S2048x256) off_zero,
    View.ld_unit_zero (S := S2048x512) off_zero, View.ld_unit_zero (S := S256x512) off_zero]

end Cases

/-! ## The two blocks' product -/

theorem pay_at (s : Vec Ideal S256x512 .f32) (x : Vec Ideal S2048x256 .bf16) (y : Vec Ideal S2048x512 .bf16) (r : Fin 256) (l : Fin 512) :
    k0_pay2 s x y (ix2 r l) = s (ix2 r l) + ∑ k : Fin 2048, x (ix2 k r) * y (ix2 k l) := by
  pointwise [k0_pay2]

theorem zero_at (r : Fin 256) (l : Fin 512) : k0_pay1 (F := Ideal) (ix2 r l) = 0 := by
  pointwise [k0_pay1]

/-! ## The blocks in their arrays -/

theorem idx_0 : ∀ t : Fin cfg0.N, win0_0.index t = ![t.val % 4, t.val / 4 / 2] :=
  (by decide +kernel : ∀ t : Fin grid0.N, win0_0.index t = ![t.val % 4, t.val / 4 / 2])

theorem idx_1 : ∀ t : Fin cfg0.N, win0_1.index t = ![t.val % 4, t.val / 4 % 2] :=
  (by decide +kernel : ∀ t : Fin grid0.N, win0_1.index t = ![t.val % 4, t.val / 4 % 2])

theorem read_0 (W : Vec Ideal S8192x2816 .bf16) (t : Fin cfg0.N) (r : Fin 256) (k : Fin 2048) (i : Fin 2816) (x : Fin 8192)
    (hi : i.val = t.val / 4 / 2 * 256 + r.val) (hx : x.val = t.val % 4 * 2048 + k.val) :
    W (((cfg0.win 0).blk t).view.emb (ix2 k r)) = W (ix2 x i) := by
  congr 1
  refine ext2 ?_ ?_ <;> refine (Window.rect_emb_val (cfg0.win 0) t (ix2 k r) _ rfl).trans ?_ <;>
    rw [show (cfg0.win 0).index t = _ from idx_0 t]
  exacts [hx.symm, hi.symm]

theorem read_1 (W : Vec Ideal S8192x1024 .bf16) (t : Fin cfg0.N) (l : Fin 512) (k : Fin 2048) (j : Fin 1024) (x : Fin 8192)
    (hj : j.val = t.val / 4 % 2 * 512 + l.val) (hx : x.val = t.val % 4 * 2048 + k.val) :
    W (((cfg0.win 1).blk t).view.emb (ix2 k l)) = W (ix2 x j) := by
  congr 1
  refine ext2 ?_ ?_ <;> refine (Window.rect_emb_val (cfg0.win 1) t (ix2 k l) _ rfl).trans ?_ <;>
    rw [show (cfg0.win 1).index t = _ from idx_1 t]
  exacts [hx.symm, hj.symm]

variable (m : (ℓ : Loc nD τ sig) → Buf (Elt Ideal) ℓ) (c : Dev nD)

/-- The two arguments. -/
abbrev argA : Vec Ideal S8192x2816 .bf16 := m ((c.tc : Thread nD τ).loc main_arg0)
abbrev argB : Vec Ideal S8192x1024 .bf16 := m ((c.tc : Thread nD τ).loc main_arg1)

/-- What a run's last point writes out: entries of the whole product. -/
theorem out_last (n : ℕ) (h : n < cfg0.N) (r : Fin 256) (l : Fin 512) (i : Fin 2816) (j : Fin 1024) (h1 : n % 4 = 3)
    (hi : i.val = n / 4 / 2 * 256 + r.val) (hj : j.val = n / 4 % 2 * 512 + l.val) :
    (outsAt0 m c n h).1 (ix2 r l) = ∑ k : Fin 8192, argA m c (ix2 k i) * argB m c (ix2 k j) := by
  refine tile_value (nk := 4) (tk := 2048) (J := 2) (by decide) rfl
    (sc := fun n h r l => (outsAt0 m c n h).2 (ix2 r l)) (out := fun n h r l => (outsAt0 m c n h).1 (ix2 r l))
    (X := fun n h r k => iblk m c 0 ⟨n, h⟩ (ix2 k r)) (Y := fun n h l k => iblk m c 1 ⟨n, h⟩ (ix2 k l))
    (A := fun i k => argA m c (ix2 k i)) (B := fun j k => argB m c (ix2 k j))
    (fun n h r k i x => read_0 (argA m c) ⟨n, h⟩ r k i x) (fun n h l k j x => read_1 (argB m c) ⟨n, h⟩ l k j x)
    (fun n h r l h0 => ?_) (fun n h r l h0 => ?_) (fun n h r l h1 => ?_) n h r l i j h1 hi hj
  · show (outsAt0 m c n h).2 _ = _
    rw [outsAt0_A m c ⟨n, h⟩ h0 (by show ¬ n % 4 = 3; omega)]
    dsimp only
    rw [acc_first, pay_at, zero_at]
  · show (outsAt0 m c n h).2 _ = (outsAt0 m c (n - 1) _).2 _ + _
    by_cases h1 : n % 4 = 3
    · rw [outsAt0_C m c ⟨n, h⟩ h0 h1]
      dsimp only
      rw [acc_end, pay_at]
    · rw [outsAt0_B m c ⟨n, h⟩ h0 h1]
      dsimp only
      rw [acc_mid, pay_at]
  · show (outsAt0 m c n h).1 _ = (outsAt0 m c n h).2 _
    rw [outsAt0_C m c ⟨n, h⟩ (by show ¬ n % 4 = 0; omega) h1]
    dsimp only
    rw [acc_end, out_end]

/-! ## The array, the reference, the claim -/

/-- The product of the transposed first argument with the second. -/
def prod : Vec Ideal S2816x1024 .f32 := fun i =>
  (∑ k : Fin 8192, argA m c (ix2 k (i 0)) * argB m c (ix2 k (i 1)) : EReal)

theorem array_eq : Value.G2 m c = prod m c := by
  funext i
  obtain ⟨r, l, rfl⟩ : ∃ (r : Fin 2816) (l : Fin 1024), i = ix2 r l := ⟨i 0, i 1, ext2 rfl rfl⟩
  have hp : Value.pt2Of (ix2 r l) < cfg0.N := by
    rw [show cfg0.N = 88 from N_0]
    show 4 * (2 * (r.val / 256 - 0) + 1 * (l.val / 512 - 0)) + 3 < 88
    omega
  unfold Value.G2
  rw [dif_pos hp, ← Value.outsAt0_sweep m c _ hp, show Value.loc2Of (ix2 r l)
    = ix2 ⟨r.val % 256, Nat.mod_lt _ (by decide)⟩ ⟨l.val % 512, Nat.mod_lt _ (by decide)⟩ from ext2 rfl rfl]
  refine out_last m c _ hp _ _ r l ?_ ?_ ?_
  · show (4 * (2 * (r.val / 256 - 0) + 1 * (l.val / 512 - 0)) + 3) % 4 = 3
    omega
  · show r.val = (4 * (2 * (r.val / 256 - 0) + 1 * (l.val / 512 - 0)) + 3) / 4 / 2 * 256 + r.val % 256
    omega
  · show l.val = (4 * (2 * (r.val / 256 - 0) + 1 * (l.val / 512 - 0)) + 3) / 4 % 2 * 512 + l.val % 512
    omega

end Cert.Mm.DownW

namespace Cert.Mm.DownW.Ref

open Idealize.ShloMosaic Idealize.ShloMosaic.TcCoe Idealize.ShloMosaic.Tactic
open Cert.Reference6Ideal Cert.Reference6Ideal.Gen

/-- The reference's gradient of the weight. -/
def grad (a : Vec Ideal S8192x2816 .bf16) (b : Vec Ideal S8192x1024 .bf16) : Vec Ideal S2816x1024 .f32 :=
  transpose S2816x1024 [1, 0] (Host.dotGeneral (F := Ideal) dot_S8192x1024_S8192x2816_S1024x2816_0_0_1_1_n_n none
    (extf .f32 b bitsLt_bf16_f32) (extf .f32 a bitsLt_bf16_f32)) transposes_S1024x2816_S2816x1024_1_0

theorem grad_at (a : Vec Ideal S8192x2816 .bf16) (b : Vec Ideal S8192x1024 .bf16) (r : Fin 2816) (l : Fin 1024) :
    grad a b (ix2 r l) = ∑ k : Fin 8192, b (ix2 k l) * a (ix2 k r) := by
  pointwise [grad]

end Cert.Mm.DownW.Ref

namespace Cert.Mm.DownW

open Idealize.ShloMosaic Idealize.ShloMosaic.TcCoe Idealize.SL.Sem

/-- The tiled product is the gradient of the reference's product in its weight. -/
theorem algebraic : Cert.algebraic_Kernel6Ideal_Reference6Ideal (hKernel6Ideal := Cert.Kernel6Ideal.Gen.facts)
    (hReference6Ideal := Cert.Reference6Ideal.Gen.facts) := by
  intro m g m' g' _ he
  refine ⟨prod m, (θ_run Cert.Kernel6Ideal.defs _ _).mono (fun r h c => ?_) (Cert.Kernel6Ideal.Value.run (F := Ideal) m g),
    (θ_run Cert.Reference6Ideal.defs _ _).mono (fun r h c => ?_) (Cert.Reference6Ideal.Value.run (F := Ideal) m' g')⟩
  · exact ⟨(h c).1.trans (array_eq m c), (h c).2⟩
  · refine ⟨(h c).1.trans ?_, (h c).2⟩
    rw [(he c).1, (he c).2]
    show Ref.grad (argA m c) (argB m c) = prod m c
    funext i
    obtain ⟨r, l, rfl⟩ : ∃ (r : Fin 2816) (l : Fin 1024), i = ix2 r l := ⟨i 0, i 1, ext2 rfl rfl⟩
    rw [Ref.grad_at]
    exact Finset.sum_congr rfl fun k _ => mul_comm _ _

/-! ## The frames -/

theorem frame_kernel : Cert.quiescent_Kernel6 (hKernel6 := Cert.Kernel6.Gen.facts) := fun m ρ _ => Cert.Kernel6.Gen.frame m ρ

theorem frame_ideal : Cert.quiescent_Kernel6Ideal (hKernel6Ideal := Cert.Kernel6Ideal.Gen.facts) := fun m ρ _ =>
  Cert.Kernel6Ideal.Gen.frame m ρ

theorem frame_reference : Cert.quiescent_Reference6Ideal (hReference6Ideal := Cert.Reference6Ideal.Gen.facts) := fun m ρ _ =>
  (θ_run Cert.Reference6Ideal.defs _ _).mono
    (fun r h => ⟨fun c => (h c).2, sem_eq_zero_of_no_sems (by decide) r.2⟩) (Cert.Reference6Ideal.Value.run (F := Ideal) m ρ)

end Cert.Mm.DownW

end
-- ==== Proof.Mm.DownH.lean ====
/- The gradient of the feed-forward's gated rows: the tiled product, each tile computed at one point, is the reference's product, entry by entry. -/
module

public import proofs.«01_k».proof.Defs
public import proofs.«01_k».proof.Proof.Mm.Sum
public import proofs.«01_k».proof.Proof.Gen.Kernel7.Frame
public import proofs.«01_k».proof.Proof.Gen.Kernel7Ideal.Value
public import proofs.«01_k».proof.Proof.Gen.Reference7Ideal.Run
public import Idealize.ShloMosaic.Lib.Pointwise
public import Idealize.ShloMosaic.Adequacy
public import Idealize.ShloMosaic.Init
public import Idealize.ShloMosaic.Lib.Quiescent
public import Idealize.ShloMosaic.Lib.Pipeline.ValueKit

@[expose] public section

set_option maxRecDepth 16384

noncomputable section

namespace Cert.Mm.DownH

open Idealize.ShloMosaic Idealize.ShloMosaic.TcCoe Idealize.ShloMosaic.Tactic Idealize.SL.Sem
open Idealize.ShloMosaic.Pipeline (Dat Cfg Window)
open Cert.Kernel7Ideal Cert.Kernel7Ideal.Gen

/-! ## What the body leaves -/

section Cases

variable {F : FTy → Type} [FloatOps F]

theorem off_zero : (![0, 0] : Fin 2 → ℕ) = fun _ => 0 := by funext a; fin_cases a <;> rfl

variable (c : Dev nD) (i : grid0.Coords) (a3 : Memref sig .tc .vmem S1024x1024 .bf16) (h3 : a3.IsWhole)
  (a4 : Memref sig .tc .vmem S256x1024 .bf16) (h4 : a4.IsWhole) (a5 : Memref sig .tc .vmem S1024x256 .bf16) (h5 : a5.IsWhole)
  (a6 : Memref sig .tc .vmem S1024x256 .f32) (h6 : a6.IsWhole) (x : Vec F S1024x1024 .bf16) (y : Vec F S256x1024 .bf16)

/-- The block written out: the product of the two blocks, added to zero and rounded. -/
theorem out_one (p0 : cond0_0 i) (p1 : cond0_1 i) :
    out0_A_2 c i a3 h3 a4 h4 a5 h5 a6 h6 p0 p1 x y = k0_pay3 (k0_pay2 (k0_pay1 (F := F)) x y) := by
  unfold out0_A_2
  rw [View.read_writes_eq_canon _ _ _ (cover0_A_2 c i a3 h3 a4 h4 a5 h5 a6 h6 p0 p1 x y)]
  unfold kernelRun0_A
  dsimp only
  sl_unfold_words
  rw [View.canon_unit_zero off_zero, View.readCov_cons_toLoadRect, View.readCov_unit_zero (S := S1024x256) _ off_zero]
  simp only [View.readAt_eq_ld, h3.read_unread, h4.read_unread, View.ld_unit_zero (S := S1024x1024) off_zero,
    View.ld_unit_zero (S := S256x1024) off_zero]

end Cases

/-! ## The two blocks' product -/

/-- Over the extended reals the rounding changes nothing. -/
theorem pay_at (x : Vec Ideal S1024x1024 .bf16) (y : Vec Ideal S256x1024 .bf16) (r : Fin 1024) (l : Fin 256) :
    k0_pay3 (k0_pay2 (k0_pay1 (F := Ideal)) x y) (ix2 r l) = 0 + ∑ k : Fin 1024, x (ix2 r k) * y (ix2 l k) := by
  pointwise [k0_pay3, k0_pay2, k0_pay1]

/-! ## The blocks in their arrays -/

theorem idx_0 : ∀ t : Fin cfg0.N, win0_0.index t = ![t.val / 11, 0] :=
  (by decide +kernel : ∀ t : Fin grid0.N, win0_0.index t = ![t.val / 11, 0])

theorem idx_1 : ∀ t : Fin cfg0.N, win0_1.index t = ![t.val % 11, 0] :=
  (by decide +kernel : ∀ t : Fin grid0.N, win0_1.index t = ![t.val % 11, 0])

theorem idx_2 : ∀ t : Fin cfg0.N, win0_2.index t = ![t.val / 11, t.val % 11] :=
  (by decide +kernel : ∀ t : Fin grid0.N, win0_2.index t = ![t.val / 11, t.val % 11])

theorem flush_2 : ∀ t : Fin cfg0.N, (cfg0.win 2).flush t = true :=
  (by decide +kernel : ∀ t : Fin grid0.N, win0_2.flush t = true)

theorem row_lt (t : Fin cfg0.N) (r : Fin 1024) : t.val / 11 * 1024 + r.val < 8192 := by
  have := lt_of_lt_of_eq t.isLt N_0
  omega

theorem col_lt (t : Fin cfg0.N) (l : Fin 256) : t.val % 11 * 256 + l.val < 2816 := by
  omega

theorem emb_0 (t : Fin cfg0.N) (r k : Fin 1024) : ((cfg0.win 0).blk t).view.emb (ix2 r k) = ix2 ⟨t.val / 11 * 1024 + r.val, row_lt t r⟩ k := by
  refine ext2 ?_ ?_ <;> refine (Window.rect_emb_val (cfg0.win 0) t (ix2 r k) _ rfl).trans ?_ <;>
    rw [show (cfg0.win 0).index t = _ from idx_0 t]
  exacts [rfl, (congrArg (· + k.val) (Nat.zero_mul 1024)).trans (Nat.zero_add _)]

theorem emb_1 (t : Fin cfg0.N) (l : Fin 256) (k : Fin 1024) :
    ((cfg0.win 1).blk t).view.emb (ix2 l k) = ix2 ⟨t.val % 11 * 256 + l.val, col_lt t l⟩ k := by
  refine ext2 ?_ ?_ <;> refine (Window.rect_emb_val (cfg0.win 1) t (ix2 l k) _ rfl).trans ?_ <;>
    rw [show (cfg0.win 1).index t = _ from idx_1 t]
  exacts [rfl, (congrArg (· + k.val) (Nat.zero_mul 1024)).trans (Nat.zero_add _)]

theorem emb_2 (t : Fin cfg0.N) (r : Fin 1024) (l : Fin 256) :
    ((cfg0.win 2).blk t).view.emb (ix2 r l) = ix2 ⟨t.val / 11 * 1024 + r.val, row_lt t r⟩ ⟨t.val % 11 * 256 + l.val, col_lt t l⟩ := by
  refine ext2 ?_ ?_ <;> refine (Window.rect_emb_val (cfg0.win 2) t (ix2 r l) _ rfl).trans ?_ <;>
    rw [show (cfg0.win 2).index t = _ from idx_2 t] <;> rfl

variable (m : (ℓ : Loc nD τ sig) → Buf (Elt Ideal) ℓ) (c : Dev nD)

/-- The two arguments. -/
abbrev argA : Vec Ideal S8192x1024 .bf16 := m ((c.tc : Thread nD τ).loc main_arg0)
abbrev argB : Vec Ideal S2816x1024 .bf16 := m ((c.tc : Thread nD τ).loc main_arg1)

/-- The product of the first argument with the transposed second. -/
def prod : Vec Ideal S8192x2816 .bf16 := fun i =>
  (∑ k : Fin 1024, argA m c (ix2 (i 0) k) * argB m c (ix2 (i 1) k) : EReal)

/-- What a point writes out: entries of the whole product. -/
theorem out_at (t : Fin cfg0.N) (r : Fin 1024) (l : Fin 256) :
    outsAt0 m c t (ix2 r l) = prod m c (((cfg0.win 2).blk t).view.emb (ix2 r l)) := by
  rw [emb_2]
  unfold outsAt0
  rw [out_one, pay_at, zero_add]
  refine Finset.sum_congr rfl fun k _ => congrArg₂ (· * ·) ?_ ?_
  · exact congrArg (argA m c) (emb_0 t r k)
  · exact congrArg (argB m c) (emb_1 t l k)

attribute [local irreducible] outsAt0 prod in
theorem array_eq : (dats m 0 c).arrAt 2 cfg0.N = prod m c := by
  refine (dats m 0 c).arrAt_eq_of_emb 2 (prod m c) (fun t _ y => ?_) fun i => ?_
  · obtain ⟨r, l, rfl⟩ : ∃ (r : Fin 1024) (l : Fin 256), y = ix2 r l := ⟨y 0, y 1, ext2 rfl rfl⟩
    rw [after0_2]
    exact (congrArg (outsAt0 m c t) (ext2 rfl rfl : _ = ix2 r l)).trans (out_at m c t r l)
  · obtain ⟨r, l, rfl⟩ : ∃ (r : Fin 8192) (l : Fin 2816), i = ix2 r l := ⟨i 0, i 1, ext2 rfl rfl⟩
    have ht : 11 * (r.val / 1024) + l.val / 256 < cfg0.N := by
      rw [show cfg0.N = 88 from N_0]
      omega
    have hm := View.emb_mem_set ((cfg0.win 2).blk ⟨_, ht⟩).view
      (ix2 ⟨r.val % 1024, Nat.mod_lt _ (by decide)⟩ ⟨l.val % 256, Nat.mod_lt _ (by decide)⟩)
    refine ⟨⟨_, ht⟩, flush_2 _, ?_⟩
    rw [emb_2] at hm
    convert hm using 1
    refine ext2 ?_ ?_
    · show r.val = (11 * (r.val / 1024) + l.val / 256) / 11 * 1024 + r.val % 1024
      omega
    · show l.val = (11 * (r.val / 1024) + l.val / 256) % 11 * 256 + l.val % 256
      omega

end Cert.Mm.DownH

namespace Cert.Mm.DownH.Ref

open Idealize.ShloMosaic Idealize.ShloMosaic.TcCoe Idealize.ShloMosaic.Tactic
open Cert.Reference7Ideal Cert.Reference7Ideal.Gen

/-- The reference's gradient of the rows, rounded. -/
def grad (a : Vec Ideal S8192x1024 .bf16) (b : Vec Ideal S2816x1024 .bf16) : Vec Ideal S8192x2816 .bf16 :=
  truncf .bf16 (Host.dotGeneral (F := Ideal) dot_S8192x1024_S2816x1024_S8192x2816_1_1_0_0_n_n none (extf .f32 a bitsLt_bf16_f32)
    (extf .f32 b bitsLt_bf16_f32)) bitsLt_bf16_f32

theorem grad_at (a : Vec Ideal S8192x1024 .bf16) (b : Vec Ideal S2816x1024 .bf16) (r : Fin 8192) (l : Fin 2816) :
    grad a b (ix2 r l) = ∑ k : Fin 1024, a (ix2 r k) * b (ix2 l k) := by
  pointwise [grad]

end Cert.Mm.DownH.Ref

namespace Cert.Mm.DownH

open Idealize.ShloMosaic Idealize.ShloMosaic.TcCoe Idealize.SL.Sem

/-- The tiled product is the gradient of the reference's product in its rows. -/
theorem algebraic : Cert.algebraic_Kernel7Ideal_Reference7Ideal (hKernel7Ideal := Cert.Kernel7Ideal.Gen.facts)
    (hReference7Ideal := Cert.Reference7Ideal.Gen.facts) := by
  intro m g m' g' _ he
  refine ⟨prod m, (θ_run Cert.Kernel7Ideal.defs _ _).mono (fun r h c => ?_) (Cert.Kernel7Ideal.Value.run_blocks (F := Ideal) m g),
    (θ_run Cert.Reference7Ideal.defs _ _).mono (fun r h c => ?_) (Cert.Reference7Ideal.Value.run (F := Ideal) m' g')⟩
  · exact ⟨(h c).1.trans (array_eq m c), (h c).2⟩
  · refine ⟨(h c).1.trans ?_, (h c).2⟩
    rw [(he c).1, (he c).2]
    show Ref.grad (argA m c) (argB m c) = prod m c
    funext i
    obtain ⟨r, l, rfl⟩ : ∃ (r : Fin 8192) (l : Fin 2816), i = ix2 r l := ⟨i 0, i 1, ext2 rfl rfl⟩
    exact Ref.grad_at _ _ r l

/-! ## The frames -/

theorem frame_kernel : Cert.quiescent_Kernel7 (hKernel7 := Cert.Kernel7.Gen.facts) := fun m ρ _ => Cert.Kernel7.Gen.frame m ρ

theorem frame_ideal : Cert.quiescent_Kernel7Ideal (hKernel7Ideal := Cert.Kernel7Ideal.Gen.facts) := fun m ρ _ =>
  Cert.Kernel7Ideal.Gen.frame m ρ

theorem frame_reference : Cert.quiescent_Reference7Ideal (hReference7Ideal := Cert.Reference7Ideal.Gen.facts) := fun m ρ _ =>
  (θ_run Cert.Reference7Ideal.defs _ _).mono
    (fun r h => ⟨fun c => (h c).2, sem_eq_zero_of_no_sems (by decide) r.2⟩) (Cert.Reference7Ideal.Value.run (F := Ideal) m ρ)

end Cert.Mm.DownH

end
-- ==== Proof.Gate.lean ====
/- The gradient of the two gated branches, and of the gates: each block of rows the kernel writes holds the reference's values. -/
module

public import proofs.«01_k».proof.Defs
public import proofs.«01_k».proof.Proof.Mm.Sum
public import proofs.«01_k».proof.Proof.Gen.Kernel8.Frame
public import proofs.«01_k».proof.Proof.Gen.Kernel8Ideal.Value
public import proofs.«01_k».proof.Proof.Gen.Reference8Ideal.Run
public import Idealize.ShloMosaic.Lib.Pointwise
public import Idealize.ShloMosaic.Adequacy
public import Idealize.ShloMosaic.Init
public import Idealize.ShloMosaic.Lib.Quiescent
public import Idealize.ShloMosaic.Lib.Pipeline.ValueKit

@[expose] public section

set_option maxRecDepth 16384

noncomputable section

namespace Cert.Gate

open Idealize.ShloMosaic Idealize.ShloMosaic.TcCoe Idealize.ShloMosaic.Tactic Idealize.SL.Sem
open Cert.Mm (ext2)

/-! ## The values -/

/-- A branch's gradient: the gate times what comes in. -/
def branch (d z : EReal) : EReal := d * Ideal.logistic z

/-- A gate's gradient: what comes in, times the branch, times the gate's slope. -/
def slope (d z y : EReal) : EReal := d * y * Ideal.logistic z * (1 - Ideal.logistic z)

end Cert.Gate

namespace Cert.Gate

open Idealize.ShloMosaic Idealize.ShloMosaic.TcCoe Idealize.ShloMosaic.Tactic Idealize.SL.Sem
open Cert.Mm (ext2)
open Cert.Kernel8Ideal Cert.Kernel8Ideal.Gen

/-! ## What a point leaves -/

theorem off_zero : (![0, 0] : Fin 2 → ℕ) = fun _ => 0 := by funext a; fin_cases a <;> rfl

section Blocks

variable (d zp zf yp yf : Vec Ideal S256x1024 .f32) (r : Fin 256)

theorem out5_at (l : Fin 1024) : out0_5 d zp zf yp yf (ix2 r l) = branch (d (ix2 r l)) (zp (ix2 r l)) := by
  unfold out0_5
  rw [View.canon_unit_zero off_zero]
  simp only [View.ld_unit_zero (S := S256x1024) off_zero]
  pointwise [k0_pay3, k0_pay1, branch]

theorem out6_at (l : Fin 1024) : out0_6 d zp zf yp yf (ix2 r l) = branch (d (ix2 r l)) (zf (ix2 r l)) := by
  unfold out0_6
  rw [View.canon_unit_zero off_zero]
  simp only [View.ld_unit_zero (S := S256x1024) off_zero]
  pointwise [k0_pay4, k0_pay2, branch]

theorem pay5_at (l : Fin 1024) : k0_pay5 d zp yp (ix2 r l) = slope (d (ix2 r l)) (zp (ix2 r l)) (yp (ix2 r l)) := by
  pointwise [k0_pay5, k0_pay1, slope]

theorem pay6_at (l : Fin 1024) : k0_pay6 d zf yf (ix2 r l) = slope (d (ix2 r l)) (zf (ix2 r l)) (yf (ix2 r l)) := by
  pointwise [k0_pay6, k0_pay2, slope]

/-- The left half. -/
theorem out7_left (l : Fin 1024) : out0_7 d zp zf yp yf (ix2 r ⟨l.val, by omega⟩) = slope (d (ix2 r l)) (zp (ix2 r l)) (yp (ix2 r l)) := by
  unfold out0_7
  simp only [View.ld_unit_zero (S := S256x1024) off_zero]
  rw [View.canon_cons_of_not_mem]
  · refine (congrArg _ (?_ : _ = r0_1.emb (ix2 r l))).trans ((View.canon_cons_emb r0_1 _ _ _).trans (pay5_at d zp yp r l))
    refine ext2 ?_ ?_ <;> rw [Rect.emb_apply] <;> simp [r0_1]
  · intro h
    obtain ⟨x, hx⟩ := r0_2.exists_idx_of_mem h
    have := congrArg (fun i : S256x2048.Idx => (i 1).val) hx
    simp [r0_2] at this
    omega

/-- The right half. -/
theorem out7_right (l : Fin 1024) : out0_7 d zp zf yp yf (ix2 r ⟨1024 + l.val, by omega⟩) = slope (d (ix2 r l)) (zf (ix2 r l)) (yf (ix2 r l)) := by
  unfold out0_7
  simp only [View.ld_unit_zero (S := S256x1024) off_zero]
  refine (congrArg _ (?_ : _ = r0_2.emb (ix2 r l))).trans ((View.canon_cons_emb r0_2 _ _ _).trans (pay6_at d zf yf r l))
  refine ext2 ?_ ?_ <;> rw [Rect.emb_apply] <;> simp [r0_2]

end Blocks

/-! ## The arrays -/

theorem index_eq : ∀ t : Fin cfg0.N, win0_0.index t = ![t.val, 0] ∧ win0_1.index t = ![t.val, 0] ∧ win0_2.index t = ![t.val, 1] ∧
    win0_3.index t = ![t.val, 0] ∧ win0_4.index t = ![t.val, 0] ∧ win0_5.index t = ![t.val, 0] ∧ win0_6.index t = ![t.val, 0] ∧
    win0_7.index t = ![t.val, 0] :=
  (by decide +kernel : ∀ t : Fin grid0.N, win0_0.index t = ![t.val, 0] ∧ win0_1.index t = ![t.val, 0] ∧ win0_2.index t = ![t.val, 1] ∧
    win0_3.index t = ![t.val, 0] ∧ win0_4.index t = ![t.val, 0] ∧ win0_5.index t = ![t.val, 0] ∧ win0_6.index t = ![t.val, 0] ∧
    win0_7.index t = ![t.val, 0])

variable (m : (ℓ : Loc nD τ sig) → Buf (Elt Ideal) ℓ) (c : Dev nD)

/-- The four arguments: the merged rows' gradient, the gates before the sigmoid, the two branches. -/
abbrev argD : Vec Ideal S8192x1024 .f32 := m ((c.tc : Thread nD τ).loc main_arg0)
abbrev argZ : Vec Ideal S8192x3072 .f32 := m ((c.tc : Thread nD τ).loc main_arg1)
abbrev argP : Vec Ideal S8192x1024 .f32 := m ((c.tc : Thread nD τ).loc main_arg2)
abbrev argF : Vec Ideal S8192x1024 .f32 := m ((c.tc : Thread nD τ).loc main_arg3)

/-- Column `l` of a gate: the first gate's columns come first, then the second's. -/
abbrev colP (l : Fin 1024) : Fin 3072 := ⟨l.val, by omega⟩
abbrev colF (l : Fin 1024) : Fin 3072 := ⟨1024 + l.val, by omega⟩

/-- The two branches' gradients. -/
def gradP : Vec Ideal S8192x1024 .bf16 := fun i => branch (argD m c (ix2 (i 0) (i 1))) (argZ m c (ix2 (i 0) (colP (i 1))))
def gradF : Vec Ideal S8192x1024 .bf16 := fun i => branch (argD m c (ix2 (i 0) (i 1))) (argZ m c (ix2 (i 0) (colF (i 1))))

/-- The two gates' gradients, side by side. -/
def gradZ : Vec Ideal S8192x2048 .bf16 := fun i =>
  if h : (i 1).val < 1024 then
    slope (argD m c (ix2 (i 0) (⟨(i 1).val, h⟩ : Fin 1024))) (argZ m c (ix2 (i 0) (colP ⟨(i 1).val, h⟩))) (argP m c (ix2 (i 0) (⟨(i 1).val, h⟩ : Fin 1024)))
  else
    have h' : (i 1).val - 1024 < 1024 := by have : (i 1).val < 2048 := (i 1).isLt; omega
    slope (argD m c (ix2 (i 0) (⟨(i 1).val - 1024, h'⟩ : Fin 1024))) (argZ m c (ix2 (i 0) (colF ⟨(i 1).val - 1024, h'⟩)))
      (argF m c (ix2 (i 0) (⟨(i 1).val - 1024, h'⟩ : Fin 1024)))

theorem gradZ_left (r : Fin 8192) (l : Fin 1024) : gradZ m c (ix2 r (⟨l.val, by omega⟩ : Fin 2048)) =
    slope (argD m c (ix2 r l)) (argZ m c (ix2 r (colP l))) (argP m c (ix2 r l)) := dif_pos l.isLt

theorem gradZ_right (r : Fin 8192) (l : Fin 1024) : gradZ m c (ix2 r (⟨1024 + l.val, by omega⟩ : Fin 2048)) =
    slope (argD m c (ix2 r l)) (argZ m c (ix2 r (colF l))) (argF m c (ix2 r l)) := by
  refine (dif_neg (show ¬ 1024 + l.val < 1024 by omega)).trans ?_
  have h : (⟨1024 + l.val - 1024, by omega⟩ : Fin 1024) = l := Fin.ext (by show 1024 + l.val - 1024 = l.val; omega)
  show slope (argD m c (ix2 r (⟨1024 + l.val - 1024, _⟩ : Fin 1024))) (argZ m c (ix2 r (colF ⟨1024 + l.val - 1024, _⟩)))
    (argF m c (ix2 r (⟨1024 + l.val - 1024, _⟩ : Fin 1024))) = _
  rw [h]

/-- Row `r` of block `t`. -/
abbrev row (t : Fin cfg0.N) (r : Fin 256) : Fin 8192 := ⟨t.val * 256 + r.val, by have := lt_of_lt_of_eq t.isLt N_0; omega⟩

theorem blk_d (t : Fin cfg0.N) (r : Fin 256) (l : Fin 1024) : iblk m c 0 t (ix2 r l) = argD m c (ix2 (row t r) l) := by
  have e := (index_eq t).1
  blk_ext [iblk, e]

theorem blk_zp (t : Fin cfg0.N) (r : Fin 256) (l : Fin 1024) : iblk m c 1 t (ix2 r l) = argZ m c (ix2 (row t r) (colP l)) := by
  have e := (index_eq t).2.1
  blk_ext [iblk, e]

theorem blk_zf (t : Fin cfg0.N) (r : Fin 256) (l : Fin 1024) : iblk m c 2 t (ix2 r l) = argZ m c (ix2 (row t r) (colF l)) := by
  have e := (index_eq t).2.2.1
  blk_ext [iblk, e]

theorem blk_p (t : Fin cfg0.N) (r : Fin 256) (l : Fin 1024) : iblk m c 3 t (ix2 r l) = argP m c (ix2 (row t r) l) := by
  have e := (index_eq t).2.2.2.1
  blk_ext [iblk, e]

theorem blk_f (t : Fin cfg0.N) (r : Fin 256) (l : Fin 1024) : iblk m c 4 t (ix2 r l) = argF m c (ix2 (row t r) l) := by
  have e := (index_eq t).2.2.2.2.1
  blk_ext [iblk, e]

theorem emb_5 (t : Fin cfg0.N) (r : Fin 256) (l : Fin 1024) : ((cfg0.win 5).blk t).view.emb (ix2 r l) = ix2 (row t r) l := by
  have e := (index_eq t).2.2.2.2.2.1
  blk_ext [e]

theorem emb_6 (t : Fin cfg0.N) (r : Fin 256) (l : Fin 1024) : ((cfg0.win 6).blk t).view.emb (ix2 r l) = ix2 (row t r) l := by
  have e := (index_eq t).2.2.2.2.2.2.1
  blk_ext [e]

theorem emb_7 (t : Fin cfg0.N) (r : Fin 256) (l : Fin 2048) : ((cfg0.win 7).blk t).view.emb (ix2 r l) = ix2 (row t r) l := by
  have e := (index_eq t).2.2.2.2.2.2.2
  blk_ext [e]

theorem array_5 : (dats m 0 c).arrAt 5 cfg0.N = gradP m c := by
  refine (dats m 0 c).arrAt_eq_of_covers 5 (gradP m c) (by decide +kernel) fun t _ y => ?_
  blk_simp
  obtain ⟨r, l, rfl⟩ : ∃ (r : Fin 256) (l : Fin 1024), y = ix2 r l := ⟨y 0, y 1, ext2 rfl rfl⟩
  rw [after0_5]
  refine (out5_at _ _ _ _ _ r l).trans ?_
  rw [blk_d, blk_zp]
  exact (congrArg (gradP m c) (emb_5 t r l)).symm

theorem array_6 : (dats m 0 c).arrAt 6 cfg0.N = gradF m c := by
  refine (dats m 0 c).arrAt_eq_of_covers 6 (gradF m c) (by decide +kernel) fun t _ y => ?_
  blk_simp
  obtain ⟨r, l, rfl⟩ : ∃ (r : Fin 256) (l : Fin 1024), y = ix2 r l := ⟨y 0, y 1, ext2 rfl rfl⟩
  rw [after0_6]
  refine (out6_at _ _ _ _ _ r l).trans ?_
  rw [blk_d, blk_zf]
  exact (congrArg (gradF m c) (emb_6 t r l)).symm

theorem halves (l : Fin 2048) : (∃ k : Fin 1024, l = ⟨k.val, by omega⟩) ∨ ∃ k : Fin 1024, l = ⟨1024 + k.val, by omega⟩ := by
  by_cases h : l.val < 1024
  · exact .inl ⟨⟨l.val, h⟩, rfl⟩
  · exact .inr ⟨⟨l.val - 1024, by omega⟩, Fin.ext (by show l.val = 1024 + (l.val - 1024); omega)⟩

theorem array_7 : (dats m 0 c).arrAt 7 cfg0.N = gradZ m c := by
  refine (dats m 0 c).arrAt_eq_of_covers 7 (gradZ m c) (by decide +kernel) fun t _ y => ?_
  blk_simp
  obtain ⟨r, l, rfl⟩ : ∃ (r : Fin 256) (l : Fin 2048), y = ix2 r l := ⟨y 0, y 1, ext2 rfl rfl⟩
  rw [after0_7]
  rcases halves l with ⟨k, rfl⟩ | ⟨k, rfl⟩
  · refine (out7_left _ _ _ _ _ r k).trans ?_
    rw [blk_d, blk_zp, blk_p]
    exact ((congrArg (gradZ m c) (emb_7 t r _)).trans (gradZ_left m c _ k)).symm
  · refine (out7_right _ _ _ _ _ r k).trans ?_
    rw [blk_d, blk_zf, blk_f]
    exact ((congrArg (gradZ m c) (emb_7 t r _)).trans (gradZ_right m c _ k)).symm

end Cert.Gate

namespace Cert.Gate.Ref

open Idealize.ShloMosaic Idealize.ShloMosaic.TcCoe Idealize.ShloMosaic.Tactic
open Cert.Reference8Ideal Cert.Reference8Ideal.Gen

variable (d : FVec Ideal S8192x1024 .f32) (z : FVec Ideal S8192x3072 .f32) (p f : FVec Ideal S8192x1024 .f32)

/-- The number one, in every place. -/
def one : FVec Ideal S8192x1024 .f32 := broadcastInDim S8192x1024 ![] bcast_S_S8192x1024 (constant S_ .f32 0x3F800000#32)

/-- The sigmoid as the reference writes it out. -/
def gate (x : FVec Ideal S8192x1024 .f32) : FVec Ideal S8192x1024 .f32 := Host.divf one (addf one (Host.exp (Host.negf x)))

def same : FVec Ideal S8192x1024 .f32 := shapeCast _ d shapeCasts_S8192x1024_S8192x1024

def zP : FVec Ideal S8192x1024 .f32 := extractStridedSlice S8192x1024 ![0, 0] z slices_S8192x3072_S8192x1024_0_0
def zF : FVec Ideal S8192x1024 .f32 := extractStridedSlice S8192x1024 ![0, 1024] z slices_S8192x3072_S8192x1024_0_1024

def gradP : FVec Ideal S8192x1024 .bf16 := truncf .bf16 (mulf (gate (zP z)) (same d)) bitsLt_bf16_f32
def gradF : FVec Ideal S8192x1024 .bf16 := truncf .bf16 (mulf (gate (zF z)) (same d)) bitsLt_bf16_f32

def gateGrad (y g : FVec Ideal S8192x1024 .f32) : FVec Ideal S8192x1024 .f32 := mulf (mulf (same d) y) (mulf g (subf one g))

def gradZ : FVec Ideal S8192x2048 .bf16 :=
  truncf .bf16 (concatenate S8192x2048 1 [⟨S8192x1024, gateGrad d p (gate (zP z))⟩, ⟨S8192x1024, gateGrad d f (gate (zF z))⟩]
    concatenates_S8192x1024_S8192x1024_S8192x2048_d1) bitsLt_bf16_f32

theorem gate_at (x : FVec Ideal S8192x1024 .f32) (r : Fin 8192) (l : Fin 1024) : gate x (ix2 r l) = Ideal.logistic (x (ix2 r l)) := by
  pointwise [gate, one, Ideal.logistic]

theorem zP_at (r : Fin 8192) (l : Fin 1024) : zP z (ix2 r l) = z (ix2 r (⟨l.val, by omega⟩ : Fin 3072)) := by
  pointwise [zP]

theorem zF_at (r : Fin 8192) (l : Fin 1024) : zF z (ix2 r l) = z (ix2 r (⟨1024 + l.val, by omega⟩ : Fin 3072)) := by
  pointwise [zF]

theorem same_at (r : Fin 8192) (l : Fin 1024) : same d (ix2 r l) = d (ix2 r l) := by
  pointwise [same]

theorem gradP_at (r : Fin 8192) (l : Fin 1024) : gradP d z (ix2 r l) = branch (d (ix2 r l)) (z (ix2 r (⟨l.val, by omega⟩ : Fin 3072))) := by
  refine (show gradP d z (ix2 r l) = (gate (zP z) (ix2 r l) * same d (ix2 r l) : EReal) from rfl).trans ?_
  rw [gate_at, zP_at, same_at, mul_comm]
  rfl

theorem gradF_at (r : Fin 8192) (l : Fin 1024) : gradF d z (ix2 r l) = branch (d (ix2 r l)) (z (ix2 r (⟨1024 + l.val, by omega⟩ : Fin 3072))) := by
  refine (show gradF d z (ix2 r l) = (gate (zF z) (ix2 r l) * same d (ix2 r l) : EReal) from rfl).trans ?_
  rw [gate_at, zF_at, same_at, mul_comm]
  rfl

theorem gateGrad_at (y x : FVec Ideal S8192x1024 .f32) (r : Fin 8192) (l : Fin 1024) :
    gateGrad d y (gate x) (ix2 r l) = slope (d (ix2 r l)) (x (ix2 r l)) (y (ix2 r l)) := by
  have h : gateGrad d y (gate x) (ix2 r l) = (same d (ix2 r l) * y (ix2 r l) * (gate x (ix2 r l) * (1 - gate x (ix2 r l))) : EReal) := by
    pointwise [gateGrad, one]
  rw [h, gate_at, same_at, ← mul_assoc]
  rfl

theorem gradZ_left (r : Fin 8192) (l : Fin 1024) : gradZ d z p f (ix2 r (⟨l.val, by omega⟩ : Fin 2048)) =
    slope (d (ix2 r l)) (z (ix2 r (⟨l.val, by omega⟩ : Fin 3072))) (p (ix2 r l)) := by
  have h : gradZ d z p f (ix2 r (⟨l.val, by omega⟩ : Fin 2048)) = gateGrad d p (gate (zP z)) (ix2 r l) := by
    pointwise [gradZ]
  rw [h, gateGrad_at, zP_at]

theorem gradZ_right (r : Fin 8192) (l : Fin 1024) : gradZ d z p f (ix2 r (⟨1024 + l.val, by omega⟩ : Fin 2048)) =
    slope (d (ix2 r l)) (z (ix2 r (⟨1024 + l.val, by omega⟩ : Fin 3072))) (f (ix2 r l)) := by
  have h : gradZ d z p f (ix2 r (⟨1024 + l.val, by omega⟩ : Fin 2048)) = gateGrad d f (gate (zF z)) (ix2 r l) := by
    pointwise [gradZ]
  rw [h, gateGrad_at, zF_at]

end Cert.Gate.Ref

namespace Cert.Gate

open Idealize.ShloMosaic Idealize.ShloMosaic.TcCoe Idealize.SL.Sem
open Cert.Mm (ext2)

/-- The kernel's three arrays are the reference's gradients. -/
theorem algebraic : Cert.algebraic_Kernel8Ideal_Reference8Ideal (hKernel8Ideal := Cert.Kernel8Ideal.Gen.facts)
    (hReference8Ideal := Cert.Reference8Ideal.Gen.facts) := by
  intro m g m' g' _ he
  refine ⟨gradP m, gradF m, gradZ m,
    (θ_run Cert.Kernel8Ideal.defs _ _).mono (fun r h c => ?_) (Cert.Kernel8Ideal.Value.run_blocks (F := Ideal) m g),
    (θ_run Cert.Reference8Ideal.defs _ _).mono (fun r h c => ?_) (Cert.Reference8Ideal.Value.run (F := Ideal) m' g')⟩
  · exact ⟨(h c).1.trans (array_5 m c), (h c).2.1.trans (array_6 m c), (h c).2.2.1.trans (array_7 m c), (h c).2.2.2⟩
  · refine ⟨(h c).1.trans ?_, (h c).2.1.trans ?_, (h c).2.2.1.trans ?_, (h c).2.2.2⟩
    · rw [(he c).1, (he c).2.1]
      show Ref.gradP (argD m c) (argZ m c) = gradP m c
      funext i
      obtain ⟨r, l, rfl⟩ : ∃ (r : Fin 8192) (l : Fin 1024), i = ix2 r l := ⟨i 0, i 1, ext2 rfl rfl⟩
      exact Ref.gradP_at _ _ r l
    · rw [(he c).1, (he c).2.1]
      show Ref.gradF (argD m c) (argZ m c) = gradF m c
      funext i
      obtain ⟨r, l, rfl⟩ : ∃ (r : Fin 8192) (l : Fin 1024), i = ix2 r l := ⟨i 0, i 1, ext2 rfl rfl⟩
      exact Ref.gradF_at _ _ r l
    · rw [(he c).1, (he c).2.1, (he c).2.2.1, (he c).2.2.2]
      show Ref.gradZ (argD m c) (argZ m c) (argP m c) (argF m c) = gradZ m c
      funext i
      obtain ⟨r, l, rfl⟩ : ∃ (r : Fin 8192) (l : Fin 2048), i = ix2 r l := ⟨i 0, i 1, ext2 rfl rfl⟩
      rcases halves l with ⟨k, rfl⟩ | ⟨k, rfl⟩
      · exact (Ref.gradZ_left _ _ _ _ r k).trans (gradZ_left m c r k).symm
      · exact (Ref.gradZ_right _ _ _ _ r k).trans (gradZ_right m c r k).symm

/-! ## The frames -/

theorem frame_kernel : Cert.quiescent_Kernel8 (hKernel8 := Cert.Kernel8.Gen.facts) := fun m ρ _ => Cert.Kernel8.Gen.frame m ρ

theorem frame_ideal : Cert.quiescent_Kernel8Ideal (hKernel8Ideal := Cert.Kernel8Ideal.Gen.facts) := fun m ρ _ =>
  Cert.Kernel8Ideal.Gen.frame m ρ

theorem frame_reference : Cert.quiescent_Reference8Ideal (hReference8Ideal := Cert.Reference8Ideal.Gen.facts) := fun m ρ _ =>
  (θ_run Cert.Reference8Ideal.defs _ _).mono
    (fun r h => ⟨fun c => (h c).2.2.2, sem_eq_zero_of_no_sems (by decide) r.2⟩) (Cert.Reference8Ideal.Value.run (F := Ideal) m ρ)

end Cert.Gate

end
-- ==== Proof.Mm.Tile.lean ====
/- A product computed one tile to a point, whatever its shapes: the tile a body leaves, and the entry it stands for. -/
module

public import proofs.«01_k».proof.Proof.Mm.Sum
public import Idealize.ShloMosaic.Lib.Pointwise
public import Idealize.ShloMosaic.Adequacy
public import Idealize.ShloMosaic.Init
public import Idealize.ShloMosaic.Lib.Quiescent
public import Idealize.ShloMosaic.Lib.Pipeline.ValueKit

@[expose] public section

noncomputable section

namespace Cert.Mm

open Idealize.ShloMosaic Idealize.ShloMosaic.TcCoe Idealize.ShloMosaic.Tactic Idealize.SL.Sem

/-- Arrays of rank two. -/
abbrev Mat (M L : ℕ) : Type := (⟨2, ![M, L]⟩ : Shape).Idx → EReal

/-- The product of two arrays, and that of the first with the transposed second. -/
def nn {M K L : ℕ} (A : Mat M K) (B : Mat K L) : Mat M L := fun i => ∑ k : Fin K, A (ix2 (i 0) k) * B (ix2 k (i 1))
def nt {M K L : ℕ} (A : Mat M K) (B : Mat L K) : Mat M L := fun i => ∑ k : Fin K, A (ix2 (i 0) k) * B (ix2 (i 1) k)

/-- Two arrays that agree at all pairs of coordinates. -/
theorem mat_ext {M L : ℕ} {A B : Mat M L} (h : ∀ r l, A (ix2 r l) = B (ix2 r l)) : A = B := funext fun i => by
  obtain ⟨r, l, rfl⟩ : ∃ (r : Fin M) (l : Fin L), i = ix2 r l := ⟨i 0, i 1, ext2 rfl rfl⟩
  exact h r l

theorem off_zero : (![0, 0] : Fin 2 → ℕ) = fun _ => 0 := by funext a; fin_cases a <;> rfl

section Stores

variable {Val : EltTy → Type} [∀ e, Nonempty (Val e)] {sig : RefSig} {κ : Kind} {sp : Space} {a b : ℕ} {e : EltTy}

/-- A buffer filled by its last store reads what was stored, -/
theorem read_fill (v : View sig κ sp ⟨2, ![a, b]⟩ e) (f : v.ty.Contents Val)
    (inb : ∀ d, (![0, 0] : Fin 2 → ℕ) d + (⟨2, ![a, b]⟩ : Shape).size d ≤ (⟨2, ![a, b]⟩ : Shape).size d)
    (w : (⟨2, ![a, b]⟩ : Shape).Idx → Val e) (s : List (View.Piece Val ⟨2, ![a, b]⟩ e)) :
    v.read Val (v.writes Val f (⟨Rect.unit ![0, 0] (⟨2, ![a, b]⟩ : Shape).size inb, w⟩ :: s)) = w := by
  rw [View.read_writes_eq_canon, View.canon_cons_unit_zero off_zero]
  intro y
  refine ⟨_, List.mem_cons_self, ?_⟩
  show y ∈ (Rect.unit ![0, 0] (⟨2, ![a, b]⟩ : Shape).size inb).set
  have hu : Rect.unit ![0, 0] (⟨2, ![a, b]⟩ : Shape).size inb = Rect.whole ⟨2, ![a, b]⟩ := by
    unfold Rect.whole; congr 1; exact off_zero
  rw [hu, Rect.set_whole]
  exact Finset.mem_univ y

/-- and so does a load of all of it; -/
theorem readCov_fill (v : View sig κ sp ⟨2, ![a, b]⟩ e)
    (inb : ∀ d, (![0, 0] : Fin 2 → ℕ) d + (⟨2, ![a, b]⟩ : Shape).size d ≤ (⟨2, ![a, b]⟩ : Shape).size d)
    (w : (⟨2, ![a, b]⟩ : Shape).Idx → Val e) :
    v.readCov [⟨Rect.unit ![0, 0] (⟨2, ![a, b]⟩ : Shape).size inb, w⟩]
      (Rect.unit ![0, 0] (⟨2, ![a, b]⟩ : Shape).size inb).toLoadRect = w :=
  View.readCov_unit_zero v off_zero inb w

/-- a load of all of a block is the block. -/
theorem ld_fill (w : (⟨2, ![a, b]⟩ : Shape).Idx → Val e)
    (inb : ∀ d, (![0, 0] : Fin 2 → ℕ) d + (⟨2, ![a, b]⟩ : Shape).size d ≤ (⟨2, ![a, b]⟩ : Shape).size d) :
    View.ld w (Rect.unit ![0, 0] (⟨2, ![a, b]⟩ : Shape).size inb) = w :=
  View.ld_unit_zero off_zero inb w

end Stores

/-- A tile's entry from its row and column. The accumulator starts from zero; the row and the column are those of the whole
    arrays. -/
theorem nn_tile {M K L : ℕ} {A : Mat M K} {B : Mat K L} {x y : Fin K → EReal} {i : (⟨2, ![M, L]⟩ : Shape).Idx}
    (hx : ∀ k, x k = A (ix2 (i 0) k)) (hy : ∀ k, y k = B (ix2 k (i 1))) : 0 + ∑ k, x k * y k = nn A B i :=
  (zero_add _).trans (Finset.sum_congr rfl fun k _ => congrArg₂ (· * ·) (hx k) (hy k))

theorem nt_tile {M K L : ℕ} {A : Mat M K} {B : Mat L K} {x y : Fin K → EReal} {i : (⟨2, ![M, L]⟩ : Shape).Idx}
    (hx : ∀ k, x k = A (ix2 (i 0) k)) (hy : ∀ k, y k = B (ix2 (i 1) k)) : 0 + ∑ k, x k * y k = nt A B i :=
  (zero_add _).trans (Finset.sum_congr rfl fun k _ => congrArg₂ (· * ·) (hx k) (hy k))

/-- The product of the transposed first array with the second. -/
def tn {M K L : ℕ} (A : Mat K M) (B : Mat K L) : Mat M L := fun i => ∑ k : Fin K, A (ix2 k (i 0)) * B (ix2 k (i 1))

/-- `tile_value` for that product: the blocks' rows are pieces of the long sums. -/
theorem tn_tile {N nk tk tm tl J M L K : ℕ} (hnk : 0 < nk) (hK : K = nk * tk) {sc out : (n : ℕ) → n < N → Mat tm tl}
    {X : (n : ℕ) → n < N → Mat tk tm} {Y : (n : ℕ) → n < N → Mat tk tl} {A : Mat K M} {B : Mat K L}
    (hX : ∀ n h r k (i : Fin M) (x : Fin K), i.val = n / nk / J * tm + r.val → x.val = n % nk * tk + k.val →
      X n h (ix2 k r) = A (ix2 x i))
    (hY : ∀ n h l k (j : Fin L) (x : Fin K), j.val = n / nk % J * tl + l.val → x.val = n % nk * tk + k.val →
      Y n h (ix2 k l) = B (ix2 x j))
    (first : ∀ n h r l, n % nk = 0 → sc n h (ix2 r l) = 0 + ∑ k : Fin tk, X n h (ix2 k r) * Y n h (ix2 k l))
    (next : ∀ n h r l, n % nk ≠ 0 → sc n h (ix2 r l)
      = sc (n - 1) (lt_of_le_of_lt (Nat.sub_le _ _) h) (ix2 r l) + ∑ k : Fin tk, X n h (ix2 k r) * Y n h (ix2 k l))
    (last : ∀ n h r l, n % nk = nk - 1 → out n h (ix2 r l) = sc n h (ix2 r l))
    (n : ℕ) (h : n < N) (r : Fin tm) (l : Fin tl) (i : (⟨2, ![M, L]⟩ : Shape).Idx) (hl : n % nk = nk - 1)
    (hi : (i 0).val = n / nk / J * tm + r.val) (hj : (i 1).val = n / nk % J * tl + l.val) :
    out n h (ix2 r l) = tn A B i :=
  tile_value hnk hK (sc := fun n h r l => sc n h (ix2 r l)) (out := fun n h r l => out n h (ix2 r l))
    (X := fun n h r k => X n h (ix2 k r)) (Y := fun n h l k => Y n h (ix2 k l)) (A := fun i k => A (ix2 k i))
    (B := fun j k => B (ix2 k j)) hX hY first next last n h r l (i 0) (i 1) hl hi hj

end Cert.Mm

end
-- ==== Proof.Mm.UpF.lean ====
/- The feed-forward's first product: the tiled product, each tile computed at one point, is the reference's product. -/
module

public import proofs.«01_k».proof.Defs
public import proofs.«01_k».proof.Proof.Mm.Tile
public import proofs.«01_k».proof.Proof.Gen.Kernel9.Frame
public import proofs.«01_k».proof.Proof.Gen.Kernel9Ideal.Value
public import proofs.«01_k».proof.Proof.Gen.Reference9Ideal.Run

@[expose] public section

set_option maxRecDepth 16384

noncomputable section

namespace Cert.Mm.UpF

open Idealize.ShloMosaic Idealize.ShloMosaic.TcCoe Idealize.ShloMosaic.Tactic Idealize.SL.Sem
open Cert.Kernel9Ideal Cert.Kernel9Ideal.Gen

variable (m : (ℓ : Loc nD τ sig) → Buf (Elt Ideal) ℓ) (c : Dev nD)

/-- The tile written out at a point: its two blocks' product, added to zero and rounded. -/
theorem out_eq (t : Fin cfg0.N) :
    outsAt0 m c t = k0_pay3 (k0_pay2 (k0_pay1 (F := Ideal)) (iblk m c 0 t) (iblk m c 1 t)) := by
  unfold outsAt0 out0_A_2 kernelRun0_A
  dsimp only
  sl_unfold_words
  rw [read_fill, View.readCov_cons_toLoadRect, readCov_fill]
  simp only [View.readAt_eq_ld, (hs0_0 t).read_unread, (hs0_1 t).read_unread]
  rw [ld_fill, ld_fill]

/-- Over the extended reals the rounding changes nothing. -/
theorem pay_at (x : Vec Ideal S1024x1024 .bf16) (y : Vec Ideal S1024x512 .bf16) (r : Fin 1024) (l : Fin 512) :
    k0_pay3 (k0_pay2 (k0_pay1 (F := Ideal)) x y) (ix2 r l) = 0 + ∑ k : Fin 1024, x (ix2 r k) * y (ix2 k l) := by
  pointwise [k0_pay3, k0_pay2, k0_pay1]

theorem index_eq : ∀ t : Fin cfg0.N,
    win0_0.index t = ![t.val / 11, 0] ∧ win0_1.index t = ![0, t.val % 11] ∧ win0_2.index t = ![t.val / 11, t.val % 11] :=
  (by decide +kernel : ∀ t : Fin grid0.N,
    win0_0.index t = ![t.val / 11, 0] ∧ win0_1.index t = ![0, t.val % 11] ∧ win0_2.index t = ![t.val / 11, t.val % 11])

/-- The product of the two arguments. -/
abbrev prod : Mat 8192 5632 :=
  nn (M := 8192) (K := 1024) (L := 5632) (m ((c.tc : Thread nD τ).loc main_arg0)) (m ((c.tc : Thread nD τ).loc main_arg1))

theorem out_at (t : Fin cfg0.N) (r : Fin 1024) (l : Fin 512) :
    outsAt0 m c t (ix2 r l) = prod m c (((cfg0.win 2).blk t).view.emb (ix2 r l)) := by
  obtain ⟨e0, e1, e2⟩ := index_eq t
  rw [out_eq, pay_at]
  refine nn_tile (fun k => ?_) (fun k => ?_)
  · blk_ext [iblk, e0, e2]
  · blk_ext [iblk, e1, e2]

attribute [local irreducible] outsAt0 in
theorem array_eq : (dats m 0 c).arrAt 2 cfg0.N = prod m c := by
  refine (dats m 0 c).arrAt_eq_of_covers 2 (prod m c) (by decide +kernel) fun t _ y => ?_
  blk_simp
  rw [after0_2]
  obtain ⟨r, l, rfl⟩ : ∃ (r : Fin 1024) (l : Fin 512), y = ix2 r l := ⟨y 0, y 1, ext2 rfl rfl⟩
  exact out_at m c t r l

end Cert.Mm.UpF

namespace Cert.Mm.UpF

open Idealize.ShloMosaic Idealize.ShloMosaic.TcCoe Idealize.ShloMosaic.Tactic Idealize.SL.Sem

open Cert.Reference9Ideal Cert.Reference9Ideal.Gen in
/-- The reference's product, rounded. -/
theorem value_eq (a : Vec Ideal S8192x1024 .bf16) (b : Vec Ideal S1024x5632 .bf16) :
    (truncf .bf16 (Host.dotGeneral (F := Ideal) dot_S8192x1024_S1024x5632_S8192x5632_1_0_0_1_n_n none (extf .f32 a bitsLt_bf16_f32)
      (extf .f32 b bitsLt_bf16_f32)) bitsLt_bf16_f32 : FVec Ideal S8192x5632 .bf16) = nn (M := 8192) (K := 1024) (L := 5632) a b :=
  mat_ext fun r l => by pointwise [nn]

/-- The tiled product is the reference's product. -/
theorem algebraic : Cert.algebraic_Kernel9Ideal_Reference9Ideal (hKernel9Ideal := Cert.Kernel9Ideal.Gen.facts)
    (hReference9Ideal := Cert.Reference9Ideal.Gen.facts) := fun m g m' g' _ he =>
  ⟨prod m, (θ_run Cert.Kernel9Ideal.defs _ _).mono (fun _ h c => ⟨(h c).1.trans (array_eq m c), (h c).2⟩)
      (Cert.Kernel9Ideal.Value.run_blocks (F := Ideal) m g),
    (θ_run Cert.Reference9Ideal.defs _ _).mono
      (fun _ h c => ⟨(h c).1.trans ((value_eq _ _).trans (congrArg₂ nn (he c).1 (he c).2)), (h c).2⟩)
      (Cert.Reference9Ideal.Value.run (F := Ideal) m' g')⟩

theorem frame_kernel : Cert.quiescent_Kernel9 (hKernel9 := Cert.Kernel9.Gen.facts) := fun m ρ _ => Cert.Kernel9.Gen.frame m ρ

theorem frame_ideal : Cert.quiescent_Kernel9Ideal (hKernel9Ideal := Cert.Kernel9Ideal.Gen.facts) := fun m ρ _ =>
  Cert.Kernel9Ideal.Gen.frame m ρ

theorem frame_reference : Cert.quiescent_Reference9Ideal (hReference9Ideal := Cert.Reference9Ideal.Gen.facts) := fun m ρ _ =>
  (θ_run Cert.Reference9Ideal.defs _ _).mono
    (fun r h => ⟨fun c => (h c).2, sem_eq_zero_of_no_sems (by decide) r.2⟩) (Cert.Reference9Ideal.Value.run (F := Ideal) m ρ)

end Cert.Mm.UpF

end
-- ==== Proof.Mm.QkvF.lean ====
/- The projection to queries, keys and values: the tiled product, each tile computed at one point, is the reference's product. -/
module

public import proofs.«01_k».proof.Defs
public import proofs.«01_k».proof.Proof.Mm.Tile
public import proofs.«01_k».proof.Proof.Gen.Kernel10.Frame
public import proofs.«01_k».proof.Proof.Gen.Kernel10Ideal.Value
public import proofs.«01_k».proof.Proof.Gen.Reference10Ideal.Run

@[expose] public section

set_option maxRecDepth 16384

noncomputable section

namespace Cert.Mm.QkvF

open Idealize.ShloMosaic Idealize.ShloMosaic.TcCoe Idealize.ShloMosaic.Tactic Idealize.SL.Sem
open Cert.Kernel10Ideal Cert.Kernel10Ideal.Gen

variable (m : (ℓ : Loc nD τ sig) → Buf (Elt Ideal) ℓ) (c : Dev nD)

/-- The tile written out at a point: its two blocks' product, added to zero and rounded. -/
theorem out_eq (t : Fin cfg0.N) :
    outsAt0 m c t = k0_pay3 (k0_pay2 (k0_pay1 (F := Ideal)) (iblk m c 0 t) (iblk m c 1 t)) := by
  unfold outsAt0 out0_A_2 kernelRun0_A
  dsimp only
  sl_unfold_words
  rw [read_fill, View.readCov_cons_toLoadRect, readCov_fill]
  simp only [View.readAt_eq_ld, (hs0_0 t).read_unread, (hs0_1 t).read_unread]
  rw [ld_fill, ld_fill]

/-- Over the extended reals the rounding changes nothing. -/
theorem pay_at (x : Vec Ideal S1024x1024 .bf16) (y : Vec Ideal S1024x512 .bf16) (r : Fin 1024) (l : Fin 512) :
    k0_pay3 (k0_pay2 (k0_pay1 (F := Ideal)) x y) (ix2 r l) = 0 + ∑ k : Fin 1024, x (ix2 r k) * y (ix2 k l) := by
  pointwise [k0_pay3, k0_pay2, k0_pay1]

theorem index_eq : ∀ t : Fin cfg0.N,
    win0_0.index t = ![t.val / 3, 0] ∧ win0_1.index t = ![0, t.val % 3] ∧ win0_2.index t = ![t.val / 3, t.val % 3] :=
  (by decide +kernel : ∀ t : Fin grid0.N,
    win0_0.index t = ![t.val / 3, 0] ∧ win0_1.index t = ![0, t.val % 3] ∧ win0_2.index t = ![t.val / 3, t.val % 3])

/-- The product of the two arguments. -/
abbrev prod : Mat 8192 1536 :=
  nn (M := 8192) (K := 1024) (L := 1536) (m ((c.tc : Thread nD τ).loc main_arg0)) (m ((c.tc : Thread nD τ).loc main_arg1))

theorem out_at (t : Fin cfg0.N) (r : Fin 1024) (l : Fin 512) :
    outsAt0 m c t (ix2 r l) = prod m c (((cfg0.win 2).blk t).view.emb (ix2 r l)) := by
  obtain ⟨e0, e1, e2⟩ := index_eq t
  rw [out_eq, pay_at]
  refine nn_tile (fun k => ?_) (fun k => ?_)
  · blk_ext [iblk, e0, e2]
  · blk_ext [iblk, e1, e2]

attribute [local irreducible] outsAt0 in
theorem array_eq : (dats m 0 c).arrAt 2 cfg0.N = prod m c := by
  refine (dats m 0 c).arrAt_eq_of_covers 2 (prod m c) (by decide +kernel) fun t _ y => ?_
  blk_simp
  rw [after0_2]
  obtain ⟨r, l, rfl⟩ : ∃ (r : Fin 1024) (l : Fin 512), y = ix2 r l := ⟨y 0, y 1, ext2 rfl rfl⟩
  exact out_at m c t r l

end Cert.Mm.QkvF

namespace Cert.Mm.QkvF

open Idealize.ShloMosaic Idealize.ShloMosaic.TcCoe Idealize.ShloMosaic.Tactic Idealize.SL.Sem

open Cert.Reference10Ideal Cert.Reference10Ideal.Gen in
/-- The reference's product, rounded. -/
theorem value_eq (a : Vec Ideal S8192x1024 .bf16) (b : Vec Ideal S1024x1536 .bf16) :
    (truncf .bf16 (Host.dotGeneral (F := Ideal) dot_S8192x1024_S1024x1536_S8192x1536_1_0_0_1_n_n none (extf .f32 a bitsLt_bf16_f32)
      (extf .f32 b bitsLt_bf16_f32)) bitsLt_bf16_f32 : FVec Ideal S8192x1536 .bf16) = nn (M := 8192) (K := 1024) (L := 1536) a b :=
  mat_ext fun r l => by pointwise [nn]

/-- The tiled product is the reference's product. -/
theorem algebraic : Cert.algebraic_Kernel10Ideal_Reference10Ideal (hKernel10Ideal := Cert.Kernel10Ideal.Gen.facts)
    (hReference10Ideal := Cert.Reference10Ideal.Gen.facts) := fun m g m' g' _ he =>
  ⟨prod m, (θ_run Cert.Kernel10Ideal.defs _ _).mono (fun _ h c => ⟨(h c).1.trans (array_eq m c), (h c).2⟩)
      (Cert.Kernel10Ideal.Value.run_blocks (F := Ideal) m g),
    (θ_run Cert.Reference10Ideal.defs _ _).mono
      (fun _ h c => ⟨(h c).1.trans ((value_eq _ _).trans (congrArg₂ nn (he c).1 (he c).2)), (h c).2⟩)
      (Cert.Reference10Ideal.Value.run (F := Ideal) m' g')⟩

theorem frame_kernel : Cert.quiescent_Kernel10 (hKernel10 := Cert.Kernel10.Gen.facts) := fun m ρ _ => Cert.Kernel10.Gen.frame m ρ

theorem frame_ideal : Cert.quiescent_Kernel10Ideal (hKernel10Ideal := Cert.Kernel10Ideal.Gen.facts) := fun m ρ _ =>
  Cert.Kernel10Ideal.Gen.frame m ρ

theorem frame_reference : Cert.quiescent_Reference10Ideal (hReference10Ideal := Cert.Reference10Ideal.Gen.facts) := fun m ρ _ =>
  (θ_run Cert.Reference10Ideal.defs _ _).mono
    (fun r h => ⟨fun c => (h c).2, sem_eq_zero_of_no_sems (by decide) r.2⟩) (Cert.Reference10Ideal.Value.run (F := Ideal) m ρ)

end Cert.Mm.QkvF

end
-- ==== Proof.Mm.GateF.lean ====
/- The projection to the gates: the tiled product, each tile computed at one point, is the reference's product. -/
module

public import proofs.«01_k».proof.Defs
public import proofs.«01_k».proof.Proof.Mm.Tile
public import proofs.«01_k».proof.Proof.Gen.Kernel11.Frame
public import proofs.«01_k».proof.Proof.Gen.Kernel11Ideal.Value
public import proofs.«01_k».proof.Proof.Gen.Reference11Ideal.Run

@[expose] public section

set_option maxRecDepth 16384

noncomputable section

namespace Cert.Mm.GateF

open Idealize.ShloMosaic Idealize.ShloMosaic.TcCoe Idealize.ShloMosaic.Tactic Idealize.SL.Sem
open Cert.Kernel11Ideal Cert.Kernel11Ideal.Gen

variable (m : (ℓ : Loc nD τ sig) → Buf (Elt Ideal) ℓ) (c : Dev nD)

/-- The tile written out at a point: its two blocks' product, added to zero. -/
theorem out_eq (t : Fin cfg0.N) : outsAt0 m c t = k0_pay2 (k0_pay1 (F := Ideal)) (iblk m c 0 t) (iblk m c 1 t) := by
  unfold outsAt0 out0_A_2 kernelRun0_A
  dsimp only
  sl_unfold_words
  rw [read_fill, View.readCov_cons_toLoadRect, readCov_fill]
  simp only [View.readAt_eq_ld, (hs0_0 t).read_unread, (hs0_1 t).read_unread]
  rw [ld_fill, ld_fill]

theorem pay_at (x : Vec Ideal S1024x1024 .bf16) (y : Vec Ideal S1024x512 .bf16) (r : Fin 1024) (l : Fin 512) :
    k0_pay2 (k0_pay1 (F := Ideal)) x y (ix2 r l) = 0 + ∑ k : Fin 1024, x (ix2 r k) * y (ix2 k l) := by
  pointwise [k0_pay2, k0_pay1]

theorem index_eq : ∀ t : Fin cfg0.N,
    win0_0.index t = ![t.val / 6, 0] ∧ win0_1.index t = ![0, t.val % 6] ∧ win0_2.index t = ![t.val / 6, t.val % 6] :=
  (by decide +kernel : ∀ t : Fin grid0.N,
    win0_0.index t = ![t.val / 6, 0] ∧ win0_1.index t = ![0, t.val % 6] ∧ win0_2.index t = ![t.val / 6, t.val % 6])

/-- The product of the two arguments. -/
abbrev prod : Mat 8192 3072 :=
  nn (M := 8192) (K := 1024) (L := 3072) (m ((c.tc : Thread nD τ).loc main_arg0)) (m ((c.tc : Thread nD τ).loc main_arg1))

theorem out_at (t : Fin cfg0.N) (r : Fin 1024) (l : Fin 512) :
    outsAt0 m c t (ix2 r l) = prod m c (((cfg0.win 2).blk t).view.emb (ix2 r l)) := by
  obtain ⟨e0, e1, e2⟩ := index_eq t
  rw [out_eq, pay_at]
  refine nn_tile (fun k => ?_) (fun k => ?_)
  · blk_ext [iblk, e0, e2]
  · blk_ext [iblk, e1, e2]

attribute [local irreducible] outsAt0 in
theorem array_eq : (dats m 0 c).arrAt 2 cfg0.N = prod m c := by
  refine (dats m 0 c).arrAt_eq_of_covers 2 (prod m c) (by decide +kernel) fun t _ y => ?_
  blk_simp
  rw [after0_2]
  obtain ⟨r, l, rfl⟩ : ∃ (r : Fin 1024) (l : Fin 512), y = ix2 r l := ⟨y 0, y 1, ext2 rfl rfl⟩
  exact out_at m c t r l

end Cert.Mm.GateF

namespace Cert.Mm.GateF

open Idealize.ShloMosaic Idealize.ShloMosaic.TcCoe Idealize.ShloMosaic.Tactic Idealize.SL.Sem

open Cert.Reference11Ideal Cert.Reference11Ideal.Gen in
/-- The reference's product. -/
theorem value_eq (a : Vec Ideal S8192x1024 .bf16) (b : Vec Ideal S1024x3072 .bf16) :
    (Host.dotGeneral (F := Ideal) dot_S8192x1024_S1024x3072_S8192x3072_1_0_0_1_n_n none (extf .f32 a bitsLt_bf16_f32)
      (extf .f32 b bitsLt_bf16_f32) : FVec Ideal S8192x3072 .f32) = nn (M := 8192) (K := 1024) (L := 3072) a b :=
  mat_ext fun r l => by pointwise [nn]

/-- The tiled product is the reference's product. -/
theorem algebraic : Cert.algebraic_Kernel11Ideal_Reference11Ideal (hKernel11Ideal := Cert.Kernel11Ideal.Gen.facts)
    (hReference11Ideal := Cert.Reference11Ideal.Gen.facts) := fun m g m' g' _ he =>
  ⟨prod m, (θ_run Cert.Kernel11Ideal.defs _ _).mono (fun _ h c => ⟨(h c).1.trans (array_eq m c), (h c).2⟩)
      (Cert.Kernel11Ideal.Value.run_blocks (F := Ideal) m g),
    (θ_run Cert.Reference11Ideal.defs _ _).mono
      (fun _ h c => ⟨(h c).1.trans ((value_eq _ _).trans (congrArg₂ nn (he c).1 (he c).2)), (h c).2⟩)
      (Cert.Reference11Ideal.Value.run (F := Ideal) m' g')⟩

theorem frame_kernel : Cert.quiescent_Kernel11 (hKernel11 := Cert.Kernel11.Gen.facts) := fun m ρ _ => Cert.Kernel11.Gen.frame m ρ

theorem frame_ideal : Cert.quiescent_Kernel11Ideal (hKernel11Ideal := Cert.Kernel11Ideal.Gen.facts) := fun m ρ _ =>
  Cert.Kernel11Ideal.Gen.frame m ρ

theorem frame_reference : Cert.quiescent_Reference11Ideal (hReference11Ideal := Cert.Reference11Ideal.Gen.facts) := fun m ρ _ =>
  (θ_run Cert.Reference11Ideal.defs _ _).mono
    (fun r h => ⟨fun c => (h c).2, sem_eq_zero_of_no_sems (by decide) r.2⟩) (Cert.Reference11Ideal.Value.run (F := Ideal) m ρ)

end Cert.Mm.GateF

end
-- ==== Proof.Mm.DownF.lean ====
/- The second product of the feed-forward: the tiled product, each tile computed at one point, is the reference's product. -/
module

public import proofs.«01_k».proof.Defs
public import proofs.«01_k».proof.Proof.Mm.Tile
public import proofs.«01_k».proof.Proof.Gen.Kernel12.Frame
public import proofs.«01_k».proof.Proof.Gen.Kernel12Ideal.Value
public import proofs.«01_k».proof.Proof.Gen.Reference12Ideal.Run

@[expose] public section

set_option maxRecDepth 16384

noncomputable section

namespace Cert.Mm.DownF

open Idealize.ShloMosaic Idealize.ShloMosaic.TcCoe Idealize.ShloMosaic.Tactic Idealize.SL.Sem
open Cert.Kernel12Ideal Cert.Kernel12Ideal.Gen

variable (m : (ℓ : Loc nD τ sig) → Buf (Elt Ideal) ℓ) (c : Dev nD)

/-- The tile written out at a point: its two blocks' product, added to zero. -/
theorem out_eq (t : Fin cfg0.N) : outsAt0 m c t = k0_pay2 (k0_pay1 (F := Ideal)) (iblk m c 0 t) (iblk m c 1 t) := by
  unfold outsAt0 out0_A_2 kernelRun0_A
  dsimp only
  sl_unfold_words
  rw [read_fill, View.readCov_cons_toLoadRect, readCov_fill]
  simp only [View.readAt_eq_ld, (hs0_0 t).read_unread, (hs0_1 t).read_unread]
  rw [ld_fill, ld_fill]

theorem pay_at (x : Vec Ideal S1024x2816 .bf16) (y : Vec Ideal S2816x512 .bf16) (r : Fin 1024) (l : Fin 512) :
    k0_pay2 (k0_pay1 (F := Ideal)) x y (ix2 r l) = 0 + ∑ k : Fin 2816, x (ix2 r k) * y (ix2 k l) := by
  pointwise [k0_pay2, k0_pay1]

theorem index_eq : ∀ t : Fin cfg0.N,
    win0_0.index t = ![t.val / 2, 0] ∧ win0_1.index t = ![0, t.val % 2] ∧ win0_2.index t = ![t.val / 2, t.val % 2] :=
  (by decide +kernel : ∀ t : Fin grid0.N,
    win0_0.index t = ![t.val / 2, 0] ∧ win0_1.index t = ![0, t.val % 2] ∧ win0_2.index t = ![t.val / 2, t.val % 2])

/-- The product of the two arguments. -/
abbrev prod : Mat 8192 1024 :=
  nn (M := 8192) (K := 2816) (L := 1024) (m ((c.tc : Thread nD τ).loc main_arg0)) (m ((c.tc : Thread nD τ).loc main_arg1))

theorem out_at (t : Fin cfg0.N) (r : Fin 1024) (l : Fin 512) :
    outsAt0 m c t (ix2 r l) = prod m c (((cfg0.win 2).blk t).view.emb (ix2 r l)) := by
  obtain ⟨e0, e1, e2⟩ := index_eq t
  rw [out_eq, pay_at]
  refine nn_tile (fun k => ?_) (fun k => ?_)
  · blk_ext [iblk, e0, e2]
  · blk_ext [iblk, e1, e2]

attribute [local irreducible] outsAt0 in
theorem array_eq : (dats m 0 c).arrAt 2 cfg0.N = prod m c := by
  refine (dats m 0 c).arrAt_eq_of_covers 2 (prod m c) (by decide +kernel) fun t _ y => ?_
  blk_simp
  rw [after0_2]
  obtain ⟨r, l, rfl⟩ : ∃ (r : Fin 1024) (l : Fin 512), y = ix2 r l := ⟨y 0, y 1, ext2 rfl rfl⟩
  exact out_at m c t r l

end Cert.Mm.DownF

namespace Cert.Mm.DownF

open Idealize.ShloMosaic Idealize.ShloMosaic.TcCoe Idealize.ShloMosaic.Tactic Idealize.SL.Sem

open Cert.Reference12Ideal Cert.Reference12Ideal.Gen in
/-- The reference's product. -/
theorem value_eq (a : Vec Ideal S8192x2816 .bf16) (b : Vec Ideal S2816x1024 .bf16) :
    (Host.dotGeneral (F := Ideal) dot_S8192x2816_S2816x1024_S8192x1024_1_0_0_1_n_n none (extf .f32 a bitsLt_bf16_f32)
      (extf .f32 b bitsLt_bf16_f32) : FVec Ideal S8192x1024 .f32) = nn (M := 8192) (K := 2816) (L := 1024) a b :=
  mat_ext fun r l => by pointwise [nn]

/-- The tiled product is the reference's product. -/
theorem algebraic : Cert.algebraic_Kernel12Ideal_Reference12Ideal (hKernel12Ideal := Cert.Kernel12Ideal.Gen.facts)
    (hReference12Ideal := Cert.Reference12Ideal.Gen.facts) := fun m g m' g' _ he =>
  ⟨prod m, (θ_run Cert.Kernel12Ideal.defs _ _).mono (fun _ h c => ⟨(h c).1.trans (array_eq m c), (h c).2⟩)
      (Cert.Kernel12Ideal.Value.run_blocks (F := Ideal) m g),
    (θ_run Cert.Reference12Ideal.defs _ _).mono
      (fun _ h c => ⟨(h c).1.trans ((value_eq _ _).trans (congrArg₂ nn (he c).1 (he c).2)), (h c).2⟩)
      (Cert.Reference12Ideal.Value.run (F := Ideal) m' g')⟩

theorem frame_kernel : Cert.quiescent_Kernel12 (hKernel12 := Cert.Kernel12.Gen.facts) := fun m ρ _ => Cert.Kernel12.Gen.frame m ρ

theorem frame_ideal : Cert.quiescent_Kernel12Ideal (hKernel12Ideal := Cert.Kernel12Ideal.Gen.facts) := fun m ρ _ =>
  Cert.Kernel12Ideal.Gen.frame m ρ

theorem frame_reference : Cert.quiescent_Reference12Ideal (hReference12Ideal := Cert.Reference12Ideal.Gen.facts) := fun m ρ _ =>
  (θ_run Cert.Reference12Ideal.defs _ _).mono
    (fun r h => ⟨fun c => (h c).2, sem_eq_zero_of_no_sems (by decide) r.2⟩) (Cert.Reference12Ideal.Value.run (F := Ideal) m ρ)

end Cert.Mm.DownF

end
-- ==== Proof.Mm.FoxW.lean ====
/- The gradient of a branch's weight: the tiled product is the gradient of the reference's product, entry by entry. -/
module

public import proofs.«01_k».proof.Defs
public import proofs.«01_k».proof.Proof.Mm.Tile
public import proofs.«01_k».proof.Proof.Gen.Kernel13.Frame
public import proofs.«01_k».proof.Proof.Gen.Kernel13Ideal.Value
public import proofs.«01_k».proof.Proof.Gen.Reference13Ideal.Run

@[expose] public section

set_option maxRecDepth 16384

noncomputable section

namespace Cert.Mm.FoxW

open Idealize.ShloMosaic Idealize.ShloMosaic.TcCoe Idealize.ShloMosaic.Tactic Idealize.SL.Sem
open Cert.Kernel13Ideal Cert.Kernel13Ideal.Gen

variable (m : (ℓ : Loc nD τ sig) → Buf (Elt Ideal) ℓ) (c : Dev nD)

/-- The accumulator after a run's first point, -/
theorem acc_first (t : Fin cfg0.N) (h0 : t.val % 4 = 0) :
    (outsAt0 m c t.val t.isLt).2 = k0_pay2 (k0_pay1 (F := Ideal)) (iblk m c 0 t) (iblk m c 1 t) := by
  rw [outsAt0_A m c t h0 (by omega)]
  unfold sout0_A_0 kernelRun0_A
  dsimp only
  sl_unfold_words
  rw [read_fill, readCov_fill]
  simp only [View.readAt_eq_ld, (hs0_0 t).read_unread, (hs0_1 t).read_unread]
  rw [ld_fill, ld_fill]

/-- and after a later one. -/
theorem acc_next (t : Fin cfg0.N) (h0 : ¬t.val % 4 = 0) : (outsAt0 m c t.val t.isLt).2
    = k0_pay2 (outsAt0 m c (t.val - 1) (lt_of_le_of_lt (Nat.sub_le _ _) t.isLt)).2 (iblk m c 0 t) (iblk m c 1 t) := by
  by_cases h1 : t.val % 4 = 3
  · rw [outsAt0_C m c t h0 h1]
    unfold sout0_C_0 kernelRun0_C
    dsimp only
    sl_unfold_words
    rw [read_fill]
    simp only [View.readAt_eq_ld, (hs0_0 t).read_unread, (hs0_1 t).read_unread, (Memref.isWhole_whole _).read_unread]
    rw [ld_fill, ld_fill, ld_fill]
  · rw [outsAt0_B m c t h0 h1]
    unfold sout0_B_0 kernelRun0_B
    dsimp only
    sl_unfold_words
    rw [read_fill]
    simp only [View.readAt_eq_ld, (hs0_0 t).read_unread, (hs0_1 t).read_unread, (Memref.isWhole_whole _).read_unread]
    rw [ld_fill, ld_fill, ld_fill]

/-- A run's last point writes the accumulator out. -/
theorem out_eq (t : Fin cfg0.N) (h1 : t.val % 4 = 3) : (outsAt0 m c t.val t.isLt).1 = (outsAt0 m c t.val t.isLt).2 := by
  rw [outsAt0_C m c t (by omega) h1]
  unfold out0_C_2 sout0_C_0 kernelRun0_C
  dsimp only
  sl_unfold_words
  rw [read_fill, read_fill, readCov_fill]

theorem pay_at (s : Vec Ideal S512x512 .f32) (x y : Vec Ideal S2048x512 .bf16) (r l : Fin 512) :
    k0_pay2 s x y (ix2 r l) = s (ix2 r l) + ∑ k : Fin 2048, x (ix2 k r) * y (ix2 k l) := by
  pointwise [k0_pay2]

theorem zero_at (r l : Fin 512) : k0_pay1 (F := Ideal) (ix2 r l) = 0 := by
  pointwise [k0_pay1]

theorem index_eq : ∀ t : Fin cfg0.N, win0_0.index t = ![t.val % 4, t.val / 4 / 2] ∧ win0_1.index t = ![t.val % 4, t.val / 4 % 2]
      ∧ win0_2.index t = ![t.val / 4 / 2, t.val / 4 % 2] ∧ ((cfg0.win 2).flush t = true → t.val % 4 = 3) :=
  (by decide +kernel : ∀ t : Fin grid0.N, win0_0.index t = ![t.val % 4, t.val / 4 / 2]
      ∧ win0_1.index t = ![t.val % 4, t.val / 4 % 2]
      ∧ win0_2.index t = ![t.val / 4 / 2, t.val / 4 % 2] ∧ ((cfg0.win 2).flush t = true → t.val % 4 = 3))

/-- The product of the transposed first argument with the second. -/
abbrev prod : Mat 512 1024 :=
  tn (M := 512) (K := 8192) (L := 1024) (m ((c.tc : Thread nD τ).loc main_arg0)) (m ((c.tc : Thread nD τ).loc main_arg1))

theorem out_at (t : Fin cfg0.N) (h1 : t.val % 4 = 3) (r l : Fin 512) :
    (outsAt0 m c t.val t.isLt).1 (ix2 r l) = prod m c (((cfg0.win 2).blk t).view.emb (ix2 r l)) := by
  refine tn_tile (nk := 4) (tk := 2048) (J := 2) (by decide) rfl
    (sc := fun n h => (outsAt0 m c n h).2) (out := fun n h => (outsAt0 m c n h).1)
    (X := fun n h => iblk m c 0 ⟨n, h⟩) (Y := fun n h => iblk m c 1 ⟨n, h⟩)
    (fun n h r k i x hi hx => ?_) (fun n h l k j x hj hx => ?_) (fun n h r l h0 => ?_) (fun n h r l h0 => ?_)
    (fun n h r l h1 => congrFun (out_eq m c ⟨n, h⟩ h1) _) t.val t.isLt r l _ h1 ?_ ?_
  · have e0 := (index_eq ⟨n, h⟩).1
    blk_ext [iblk, e0, hi, hx]
  · have e1 := (index_eq ⟨n, h⟩).2.1
    blk_ext [iblk, e1, hj, hx]
  · exact (congrFun (acc_first m c ⟨n, h⟩ h0) _).trans ((pay_at _ _ _ r l).trans (by rw [zero_at]))
  · exact (congrFun (acc_next m c ⟨n, h⟩ h0) _).trans (pay_at _ _ _ r l)
  · have e2 := (index_eq t).2.2.1
    blk_simp [e2]
  · have e2 := (index_eq t).2.2.1
    blk_simp [e2]

attribute [local irreducible] outsAt0 in
theorem array_eq : (dats m 0 c).arrAt 2 cfg0.N = prod m c := by
  refine (dats m 0 c).arrAt_eq_of_covers 2 (prod m c) (by decide +kernel) fun t hf y => ?_
  blk_simp
  rw [after0_2]
  obtain ⟨r, l, rfl⟩ : ∃ (r : Fin 512) (l : Fin 512), y = ix2 r l := ⟨y 0, y 1, ext2 rfl rfl⟩
  exact out_at m c t ((index_eq t).2.2.2 hf) r l

end Cert.Mm.FoxW

namespace Cert.Mm.FoxW

open Idealize.ShloMosaic Idealize.ShloMosaic.TcCoe Idealize.ShloMosaic.Tactic Idealize.SL.Sem

open Cert.Reference13Ideal Cert.Reference13Ideal.Gen in
/-- The reference's gradient of the weight. -/
theorem grad_eq (a : Vec Ideal S8192x512 .bf16) (b : Vec Ideal S8192x1024 .bf16) :
    (transpose S512x1024 [1, 0] (Host.dotGeneral (F := Ideal) dot_S8192x1024_S8192x512_S1024x512_0_0_1_1_n_n none
      (extf .f32 b bitsLt_bf16_f32) (extf .f32 a bitsLt_bf16_f32)) transposes_S1024x512_S512x1024_1_0 : FVec Ideal S512x1024 .f32)
      = tn (M := 512) (K := 8192) (L := 1024) a b :=
  mat_ext fun r l => by
    pointwise [tn]
    exact Finset.sum_congr rfl fun k _ => mul_comm _ _

/-- The tiled product is the gradient of the reference's product in its weight. -/
theorem algebraic : Cert.algebraic_Kernel13Ideal_Reference13Ideal (hKernel13Ideal := Cert.Kernel13Ideal.Gen.facts)
    (hReference13Ideal := Cert.Reference13Ideal.Gen.facts) := fun m g m' g' _ he =>
  ⟨prod m, (θ_run Cert.Kernel13Ideal.defs _ _).mono (fun _ h c => ⟨(h c).1.trans (array_eq m c), (h c).2⟩)
      (Cert.Kernel13Ideal.Value.run_blocks (F := Ideal) m g),
    (θ_run Cert.Reference13Ideal.defs _ _).mono
      (fun _ h c => ⟨(h c).1.trans ((grad_eq _ _).trans (congrArg₂ tn (he c).1 (he c).2)), (h c).2⟩)
      (Cert.Reference13Ideal.Value.run (F := Ideal) m' g')⟩

theorem frame_kernel : Cert.quiescent_Kernel13 (hKernel13 := Cert.Kernel13.Gen.facts) := fun m ρ _ => Cert.Kernel13.Gen.frame m ρ

theorem frame_ideal : Cert.quiescent_Kernel13Ideal (hKernel13Ideal := Cert.Kernel13Ideal.Gen.facts) := fun m ρ _ =>
  Cert.Kernel13Ideal.Gen.frame m ρ

theorem frame_reference : Cert.quiescent_Reference13Ideal (hReference13Ideal := Cert.Reference13Ideal.Gen.facts) := fun m ρ _ =>
  (θ_run Cert.Reference13Ideal.defs _ _).mono
    (fun r h => ⟨fun c => (h c).2, sem_eq_zero_of_no_sems (by decide) r.2⟩) (Cert.Reference13Ideal.Value.run (F := Ideal) m ρ)

end Cert.Mm.FoxW

end
-- ==== Proof.Mm.MixW.lean ====
/- The gradient of the weight of the token mixer's last product: the tiled product is the gradient of the reference's product,
   entry by entry. -/
module

public import proofs.«01_k».proof.Defs
public import proofs.«01_k».proof.Proof.Mm.Tile
public import proofs.«01_k».proof.Proof.Gen.Kernel14.Frame
public import proofs.«01_k».proof.Proof.Gen.Kernel14Ideal.Value
public import proofs.«01_k».proof.Proof.Gen.Reference14Ideal.Run

@[expose] public section

set_option maxRecDepth 16384

noncomputable section

namespace Cert.Mm.MixW

open Idealize.ShloMosaic Idealize.ShloMosaic.TcCoe Idealize.ShloMosaic.Tactic Idealize.SL.Sem
open Cert.Kernel14Ideal Cert.Kernel14Ideal.Gen

variable (m : (ℓ : Loc nD τ sig) → Buf (Elt Ideal) ℓ) (c : Dev nD)

/-- The accumulator after a run's first point, -/
theorem acc_first (t : Fin cfg0.N) (h0 : t.val % 4 = 0) :
    (outsAt0 m c t.val t.isLt).2 = k0_pay2 (k0_pay1 (F := Ideal)) (iblk m c 0 t) (iblk m c 1 t) := by
  rw [outsAt0_A m c t h0 (by omega)]
  unfold sout0_A_0 kernelRun0_A
  dsimp only
  sl_unfold_words
  rw [read_fill, readCov_fill]
  simp only [View.readAt_eq_ld, (hs0_0 t).read_unread, (hs0_1 t).read_unread]
  rw [ld_fill, ld_fill]

/-- and after a later one. -/
theorem acc_next (t : Fin cfg0.N) (h0 : ¬t.val % 4 = 0) : (outsAt0 m c t.val t.isLt).2
    = k0_pay2 (outsAt0 m c (t.val - 1) (lt_of_le_of_lt (Nat.sub_le _ _) t.isLt)).2 (iblk m c 0 t) (iblk m c 1 t) := by
  by_cases h1 : t.val % 4 = 3
  · rw [outsAt0_C m c t h0 h1]
    unfold sout0_C_0 kernelRun0_C
    dsimp only
    sl_unfold_words
    rw [read_fill]
    simp only [View.readAt_eq_ld, (hs0_0 t).read_unread, (hs0_1 t).read_unread, (Memref.isWhole_whole _).read_unread]
    rw [ld_fill, ld_fill, ld_fill]
  · rw [outsAt0_B m c t h0 h1]
    unfold sout0_B_0 kernelRun0_B
    dsimp only
    sl_unfold_words
    rw [read_fill]
    simp only [View.readAt_eq_ld, (hs0_0 t).read_unread, (hs0_1 t).read_unread, (Memref.isWhole_whole _).read_unread]
    rw [ld_fill, ld_fill, ld_fill]

/-- A run's last point writes the accumulator out. -/
theorem out_eq (t : Fin cfg0.N) (h1 : t.val % 4 = 3) : (outsAt0 m c t.val t.isLt).1 = (outsAt0 m c t.val t.isLt).2 := by
  rw [outsAt0_C m c t (by omega) h1]
  unfold out0_C_2 sout0_C_0 kernelRun0_C
  dsimp only
  sl_unfold_words
  rw [read_fill, read_fill, readCov_fill]

theorem pay_at (s : Vec Ideal S1024x512 .f32) (x : Vec Ideal S2048x1024 .bf16) (y : Vec Ideal S2048x512 .bf16) (r : Fin 1024)
    (l : Fin 512) : k0_pay2 s x y (ix2 r l) = s (ix2 r l) + ∑ k : Fin 2048, x (ix2 k r) * y (ix2 k l) := by
  pointwise [k0_pay2]

theorem zero_at (r : Fin 1024) (l : Fin 512) : k0_pay1 (F := Ideal) (ix2 r l) = 0 := by
  pointwise [k0_pay1]

theorem index_eq : ∀ t : Fin cfg0.N, win0_0.index t = ![t.val % 4, t.val / 4 / 2] ∧ win0_1.index t = ![t.val % 4, t.val / 4 % 2]
      ∧ win0_2.index t = ![t.val / 4 / 2, t.val / 4 % 2] ∧ ((cfg0.win 2).flush t = true → t.val % 4 = 3) :=
  (by decide +kernel : ∀ t : Fin grid0.N, win0_0.index t = ![t.val % 4, t.val / 4 / 2]
      ∧ win0_1.index t = ![t.val % 4, t.val / 4 % 2]
      ∧ win0_2.index t = ![t.val / 4 / 2, t.val / 4 % 2] ∧ ((cfg0.win 2).flush t = true → t.val % 4 = 3))

/-- The product of the transposed first argument with the second. -/
abbrev prod : Mat 1024 1024 :=
  tn (M := 1024) (K := 8192) (L := 1024) (m ((c.tc : Thread nD τ).loc main_arg0)) (m ((c.tc : Thread nD τ).loc main_arg1))

theorem out_at (t : Fin cfg0.N) (h1 : t.val % 4 = 3) (r : Fin 1024) (l : Fin 512) :
    (outsAt0 m c t.val t.isLt).1 (ix2 r l) = prod m c (((cfg0.win 2).blk t).view.emb (ix2 r l)) := by
  refine tn_tile (nk := 4) (tk := 2048) (J := 2) (by decide) rfl
    (sc := fun n h => (outsAt0 m c n h).2) (out := fun n h => (outsAt0 m c n h).1)
    (X := fun n h => iblk m c 0 ⟨n, h⟩) (Y := fun n h => iblk m c 1 ⟨n, h⟩)
    (fun n h r k i x hi hx => ?_) (fun n h l k j x hj hx => ?_) (fun n h r l h0 => ?_) (fun n h r l h0 => ?_)
    (fun n h r l h1 => congrFun (out_eq m c ⟨n, h⟩ h1) _) t.val t.isLt r l _ h1 ?_ ?_
  · have e0 := (index_eq ⟨n, h⟩).1
    blk_ext [iblk, e0, hi, hx]
  · have e1 := (index_eq ⟨n, h⟩).2.1
    blk_ext [iblk, e1, hj, hx]
  · exact (congrFun (acc_first m c ⟨n, h⟩ h0) _).trans ((pay_at _ _ _ r l).trans (by rw [zero_at]))
  · exact (congrFun (acc_next m c ⟨n, h⟩ h0) _).trans (pay_at _ _ _ r l)
  · have e2 := (index_eq t).2.2.1
    blk_simp [e2]
  · have e2 := (index_eq t).2.2.1
    blk_simp [e2]

attribute [local irreducible] outsAt0 in
theorem array_eq : (dats m 0 c).arrAt 2 cfg0.N = prod m c := by
  refine (dats m 0 c).arrAt_eq_of_covers 2 (prod m c) (by decide +kernel) fun t hf y => ?_
  blk_simp
  rw [after0_2]
  obtain ⟨r, l, rfl⟩ : ∃ (r : Fin 1024) (l : Fin 512), y = ix2 r l := ⟨y 0, y 1, ext2 rfl rfl⟩
  exact out_at m c t ((index_eq t).2.2.2 hf) r l

end Cert.Mm.MixW

namespace Cert.Mm.MixW

open Idealize.ShloMosaic Idealize.ShloMosaic.TcCoe Idealize.ShloMosaic.Tactic Idealize.SL.Sem

open Cert.Reference14Ideal Cert.Reference14Ideal.Gen in
/-- The reference's gradient of the weight. -/
theorem grad_eq (a : Vec Ideal S8192x1024 .bf16) (b : Vec Ideal S8192x1024 .bf16) :
    (transpose S1024x1024 [1, 0] (Host.dotGeneral (F := Ideal) dot_S8192x1024_S8192x1024_S1024x1024_0_0_1_1_n_n none
      (extf .f32 b bitsLt_bf16_f32) (extf .f32 a bitsLt_bf16_f32)) transposes_S1024x1024_S1024x1024_1_0 : FVec Ideal S1024x1024 .f32)
      = tn (M := 1024) (K := 8192) (L := 1024) a b :=
  mat_ext fun r l => by
    pointwise [tn]
    exact Finset.sum_congr rfl fun k _ => mul_comm _ _

/-- The tiled product is the gradient of the reference's product in its weight. -/
theorem algebraic : Cert.algebraic_Kernel14Ideal_Reference14Ideal (hKernel14Ideal := Cert.Kernel14Ideal.Gen.facts)
    (hReference14Ideal := Cert.Reference14Ideal.Gen.facts) := fun m g m' g' _ he =>
  ⟨prod m, (θ_run Cert.Kernel14Ideal.defs _ _).mono (fun _ h c => ⟨(h c).1.trans (array_eq m c), (h c).2⟩)
      (Cert.Kernel14Ideal.Value.run_blocks (F := Ideal) m g),
    (θ_run Cert.Reference14Ideal.defs _ _).mono
      (fun _ h c => ⟨(h c).1.trans ((grad_eq _ _).trans (congrArg₂ tn (he c).1 (he c).2)), (h c).2⟩)
      (Cert.Reference14Ideal.Value.run (F := Ideal) m' g')⟩

theorem frame_kernel : Cert.quiescent_Kernel14 (hKernel14 := Cert.Kernel14.Gen.facts) := fun m ρ _ => Cert.Kernel14.Gen.frame m ρ

theorem frame_ideal : Cert.quiescent_Kernel14Ideal (hKernel14Ideal := Cert.Kernel14Ideal.Gen.facts) := fun m ρ _ =>
  Cert.Kernel14Ideal.Gen.frame m ρ

theorem frame_reference : Cert.quiescent_Reference14Ideal (hReference14Ideal := Cert.Reference14Ideal.Gen.facts) := fun m ρ _ =>
  (θ_run Cert.Reference14Ideal.defs _ _).mono
    (fun r h => ⟨fun c => (h c).2, sem_eq_zero_of_no_sems (by decide) r.2⟩) (Cert.Reference14Ideal.Value.run (F := Ideal) m ρ)

end Cert.Mm.MixW

end
-- ==== Proof.Mm.XqW.lean ====
/- The gradient of the weight of the cross-attention's queries: the product, taken in four pieces, is the gradient of the
   reference's product, entry by entry. -/
module

public import proofs.«01_k».proof.Defs
public import proofs.«01_k».proof.Proof.Mm.Tile
public import proofs.«01_k».proof.Proof.Gen.Kernel15.Frame
public import proofs.«01_k».proof.Proof.Gen.Kernel15Ideal.Value
public import proofs.«01_k».proof.Proof.Gen.Reference15Ideal.Run

@[expose] public section

set_option maxRecDepth 16384

noncomputable section

namespace Cert.Mm.XqW

open Idealize.ShloMosaic Idealize.ShloMosaic.TcCoe Idealize.ShloMosaic.Tactic Idealize.SL.Sem
open Cert.Kernel15Ideal Cert.Kernel15Ideal.Gen

variable (m : (ℓ : Loc nD τ sig) → Buf (Elt Ideal) ℓ) (c : Dev nD)

/-- The accumulator after the first point, -/
theorem acc_first (t : Fin cfg0.N) (h0 : t.val % 4 = 0) :
    (outsAt0 m c t.val t.isLt).2 = k0_pay2 (k0_pay1 (F := Ideal)) (iblk m c 0 t) (iblk m c 1 t) := by
  rw [outsAt0_A m c t h0 (by omega)]
  unfold sout0_A_0 kernelRun0_A
  dsimp only
  sl_unfold_words
  rw [read_fill, readCov_fill]
  simp only [View.readAt_eq_ld, (hs0_0 t).read_unread, (hs0_1 t).read_unread]
  rw [ld_fill, ld_fill]

/-- and after a later one. -/
theorem acc_next (t : Fin cfg0.N) (h0 : ¬t.val % 4 = 0) : (outsAt0 m c t.val t.isLt).2
    = k0_pay2 (outsAt0 m c (t.val - 1) (lt_of_le_of_lt (Nat.sub_le _ _) t.isLt)).2 (iblk m c 0 t) (iblk m c 1 t) := by
  by_cases h1 : t.val % 4 = 3
  · rw [outsAt0_C m c t h0 h1]
    unfold sout0_C_0 kernelRun0_C
    dsimp only
    sl_unfold_words
    rw [read_fill]
    simp only [View.readAt_eq_ld, (hs0_0 t).read_unread, (hs0_1 t).read_unread, (Memref.isWhole_whole _).read_unread]
    rw [ld_fill, ld_fill, ld_fill]
  · rw [outsAt0_B m c t h0 h1]
    unfold sout0_B_0 kernelRun0_B
    dsimp only
    sl_unfold_words
    rw [read_fill]
    simp only [View.readAt_eq_ld, (hs0_0 t).read_unread, (hs0_1 t).read_unread, (Memref.isWhole_whole _).read_unread]
    rw [ld_fill, ld_fill, ld_fill]

/-- The last point writes the accumulator out. -/
theorem out_eq (t : Fin cfg0.N) (h1 : t.val % 4 = 3) : (outsAt0 m c t.val t.isLt).1 = (outsAt0 m c t.val t.isLt).2 := by
  rw [outsAt0_C m c t (by omega) h1]
  unfold out0_C_2 sout0_C_0 kernelRun0_C
  dsimp only
  sl_unfold_words
  rw [read_fill, read_fill, readCov_fill]

theorem pay_at (s : Vec Ideal S1024x512 .f32) (x : Vec Ideal S2048x1024 .bf16) (y : Vec Ideal S2048x512 .bf16) (r : Fin 1024)
    (l : Fin 512) : k0_pay2 s x y (ix2 r l) = s (ix2 r l) + ∑ k : Fin 2048, x (ix2 k r) * y (ix2 k l) := by
  pointwise [k0_pay2]

theorem zero_at (r : Fin 1024) (l : Fin 512) : k0_pay1 (F := Ideal) (ix2 r l) = 0 := by
  pointwise [k0_pay1]

/-- There is one tile: the points of the grid are its one run. -/
theorem index_eq : ∀ t : Fin cfg0.N, win0_0.index t = ![t.val % 4, t.val / 4 / 1] ∧ win0_1.index t = ![t.val % 4, t.val / 4 % 1]
      ∧ win0_2.index t = ![t.val / 4 / 1, t.val / 4 % 1] ∧ ((cfg0.win 2).flush t = true → t.val % 4 = 3) :=
  (by decide +kernel : ∀ t : Fin grid0.N, win0_0.index t = ![t.val % 4, t.val / 4 / 1]
      ∧ win0_1.index t = ![t.val % 4, t.val / 4 % 1]
      ∧ win0_2.index t = ![t.val / 4 / 1, t.val / 4 % 1] ∧ ((cfg0.win 2).flush t = true → t.val % 4 = 3))

/-- The product of the transposed first argument with the second. -/
abbrev prod : Mat 1024 512 :=
  tn (M := 1024) (K := 8192) (L := 512) (m ((c.tc : Thread nD τ).loc main_arg0)) (m ((c.tc : Thread nD τ).loc main_arg1))

theorem out_at (t : Fin cfg0.N) (h1 : t.val % 4 = 3) (r : Fin 1024) (l : Fin 512) :
    (outsAt0 m c t.val t.isLt).1 (ix2 r l) = prod m c (((cfg0.win 2).blk t).view.emb (ix2 r l)) := by
  refine tn_tile (nk := 4) (tk := 2048) (J := 1) (by decide) rfl
    (sc := fun n h => (outsAt0 m c n h).2) (out := fun n h => (outsAt0 m c n h).1)
    (X := fun n h => iblk m c 0 ⟨n, h⟩) (Y := fun n h => iblk m c 1 ⟨n, h⟩)
    (fun n h r k i x hi hx => ?_) (fun n h l k j x hj hx => ?_) (fun n h r l h0 => ?_) (fun n h r l h0 => ?_)
    (fun n h r l h1 => congrFun (out_eq m c ⟨n, h⟩ h1) _) t.val t.isLt r l _ h1 ?_ ?_
  · have e0 := (index_eq ⟨n, h⟩).1
    blk_ext [iblk, e0, hi, hx]
  · have e1 := (index_eq ⟨n, h⟩).2.1
    blk_ext [iblk, e1, hj, hx]
  · exact (congrFun (acc_first m c ⟨n, h⟩ h0) _).trans ((pay_at _ _ _ r l).trans (by rw [zero_at]))
  · exact (congrFun (acc_next m c ⟨n, h⟩ h0) _).trans (pay_at _ _ _ r l)
  · have e2 := (index_eq t).2.2.1
    blk_simp [e2]
  · have e2 := (index_eq t).2.2.1
    blk_simp [e2]

attribute [local irreducible] outsAt0 in
theorem array_eq : (dats m 0 c).arrAt 2 cfg0.N = prod m c := by
  refine (dats m 0 c).arrAt_eq_of_covers 2 (prod m c) (by decide +kernel) fun t hf y => ?_
  blk_simp
  rw [after0_2]
  obtain ⟨r, l, rfl⟩ : ∃ (r : Fin 1024) (l : Fin 512), y = ix2 r l := ⟨y 0, y 1, ext2 rfl rfl⟩
  exact out_at m c t ((index_eq t).2.2.2 hf) r l

end Cert.Mm.XqW

namespace Cert.Mm.XqW

open Idealize.ShloMosaic Idealize.ShloMosaic.TcCoe Idealize.ShloMosaic.Tactic Idealize.SL.Sem

open Cert.Reference15Ideal Cert.Reference15Ideal.Gen in
/-- The reference's gradient of the weight. -/
theorem grad_eq (a : Vec Ideal S8192x1024 .bf16) (b : Vec Ideal S8192x512 .bf16) :
    (transpose S1024x512 [1, 0] (Host.dotGeneral (F := Ideal) dot_S8192x512_S8192x1024_S512x1024_0_0_1_1_n_n none
      (extf .f32 b bitsLt_bf16_f32) (extf .f32 a bitsLt_bf16_f32)) transposes_S512x1024_S1024x512_1_0 : FVec Ideal S1024x512 .f32)
      = tn (M := 1024) (K := 8192) (L := 512) a b :=
  mat_ext fun r l => by
    pointwise [tn]
    exact Finset.sum_congr rfl fun k _ => mul_comm _ _

/-- The product in pieces is the gradient of the reference's product in its weight. -/
theorem algebraic : Cert.algebraic_Kernel15Ideal_Reference15Ideal (hKernel15Ideal := Cert.Kernel15Ideal.Gen.facts)
    (hReference15Ideal := Cert.Reference15Ideal.Gen.facts) := fun m g m' g' _ he =>
  ⟨prod m, (θ_run Cert.Kernel15Ideal.defs _ _).mono (fun _ h c => ⟨(h c).1.trans (array_eq m c), (h c).2⟩)
      (Cert.Kernel15Ideal.Value.run_blocks (F := Ideal) m g),
    (θ_run Cert.Reference15Ideal.defs _ _).mono
      (fun _ h c => ⟨(h c).1.trans ((grad_eq _ _).trans (congrArg₂ tn (he c).1 (he c).2)), (h c).2⟩)
      (Cert.Reference15Ideal.Value.run (F := Ideal) m' g')⟩

theorem frame_kernel : Cert.quiescent_Kernel15 (hKernel15 := Cert.Kernel15.Gen.facts) := fun m ρ _ => Cert.Kernel15.Gen.frame m ρ

theorem frame_ideal : Cert.quiescent_Kernel15Ideal (hKernel15Ideal := Cert.Kernel15Ideal.Gen.facts) := fun m ρ _ =>
  Cert.Kernel15Ideal.Gen.frame m ρ

theorem frame_reference : Cert.quiescent_Reference15Ideal (hReference15Ideal := Cert.Reference15Ideal.Gen.facts) := fun m ρ _ =>
  (θ_run Cert.Reference15Ideal.defs _ _).mono
    (fun r h => ⟨fun c => (h c).2, sem_eq_zero_of_no_sems (by decide) r.2⟩) (Cert.Reference15Ideal.Value.run (F := Ideal) m ρ)

end Cert.Mm.XqW

end
-- ==== Proof.Mm.FoxH.lean ====
/- The gradient of the attention's rows: the tiled product, each tile computed at one point, is the gradient of the reference's
   product, entry by entry. -/
module

public import proofs.«01_k».proof.Defs
public import proofs.«01_k».proof.Proof.Mm.Tile
public import proofs.«01_k».proof.Proof.Gen.Kernel16.Frame
public import proofs.«01_k».proof.Proof.Gen.Kernel16Ideal.Value
public import proofs.«01_k».proof.Proof.Gen.Reference16Ideal.Run

@[expose] public section

set_option maxRecDepth 16384

noncomputable section

namespace Cert.Mm.FoxH

open Idealize.ShloMosaic Idealize.ShloMosaic.TcCoe Idealize.ShloMosaic.Tactic Idealize.SL.Sem
open Cert.Kernel16Ideal Cert.Kernel16Ideal.Gen

variable (m : (ℓ : Loc nD τ sig) → Buf (Elt Ideal) ℓ) (c : Dev nD)

/-- The tile written out at a point: its two blocks' product, added to zero and rounded. -/
theorem out_eq (t : Fin cfg0.N) :
    outsAt0 m c t = k0_pay3 (k0_pay2 (k0_pay1 (F := Ideal)) (iblk m c 0 t) (iblk m c 1 t)) := by
  unfold outsAt0 out0_A_2 kernelRun0_A
  dsimp only
  sl_unfold_words
  rw [read_fill, View.readCov_cons_toLoadRect, readCov_fill]
  simp only [View.readAt_eq_ld, (hs0_0 t).read_unread, (hs0_1 t).read_unread]
  rw [ld_fill, ld_fill]

theorem index_eq : ∀ t : Fin cfg0.N,
    win0_0.index t = ![t.val, 0] ∧ win0_1.index t = ![0, 0] ∧ win0_2.index t = ![t.val, 0] :=
  (by decide +kernel : ∀ t : Fin grid0.N,
    win0_0.index t = ![t.val, 0] ∧ win0_1.index t = ![0, 0] ∧ win0_2.index t = ![t.val, 0])

/-- The product of the first argument with the transposed second. -/
abbrev prod : Mat 8192 512 :=
  nt (M := 8192) (K := 1024) (L := 512) (m ((c.tc : Thread nD τ).loc main_arg0)) (m ((c.tc : Thread nD τ).loc main_arg1))

/-- The entries of a tile. Over the extended reals the rounding changes nothing. -/
theorem pay_at (x : Vec Ideal S1024x1024 .bf16) (y : Vec Ideal S512x1024 .bf16) (r : Fin 1024) (l : Fin 512) :
    k0_pay3 (k0_pay2 (k0_pay1 (F := Ideal)) x y) (ix2 r l) = 0 + ∑ k : Fin 1024, x (ix2 r k) * y (ix2 l k) := by
  pointwise [k0_pay3, k0_pay2, k0_pay1]

theorem out_at (t : Fin cfg0.N) (r : Fin 1024) (l : Fin 512) :
    outsAt0 m c t (ix2 r l) = prod m c (((cfg0.win 2).blk t).view.emb (ix2 r l)) := by
  obtain ⟨e0, e1, e2⟩ := index_eq t
  rw [out_eq, pay_at]
  refine nt_tile (fun k => ?_) (fun k => ?_)
  · blk_ext [iblk, e0, e2]
  · blk_ext [iblk, e1, e2]

attribute [local irreducible] outsAt0 in
theorem array_eq : (dats m 0 c).arrAt 2 cfg0.N = prod m c := by
  refine (dats m 0 c).arrAt_eq_of_covers 2 (prod m c) (by decide +kernel) fun t _ y => ?_
  blk_simp
  rw [after0_2]
  obtain ⟨r, l, rfl⟩ : ∃ (r : Fin 1024) (l : Fin 512), y = ix2 r l := ⟨y 0, y 1, ext2 rfl rfl⟩
  exact out_at m c t r l

end Cert.Mm.FoxH

namespace Cert.Mm.FoxH

open Idealize.ShloMosaic Idealize.ShloMosaic.TcCoe Idealize.ShloMosaic.Tactic Idealize.SL.Sem

open Cert.Reference16Ideal Cert.Reference16Ideal.Gen in
/-- The reference's gradient of the rows, rounded. -/
theorem grad_eq (a : Vec Ideal S8192x1024 .bf16) (b : Vec Ideal S512x1024 .bf16) :
    (truncf .bf16 (Host.dotGeneral (F := Ideal) dot_S8192x1024_S512x1024_S8192x512_1_1_0_0_n_n none (extf .f32 a bitsLt_bf16_f32)
      (extf .f32 b bitsLt_bf16_f32)) bitsLt_bf16_f32 : FVec Ideal S8192x512 .bf16) = nt (M := 8192) (K := 1024) (L := 512) a b :=
  mat_ext fun r l => by pointwise [nt]

/-- The tiled product is the gradient of the reference's product in its rows. -/
theorem algebraic : Cert.algebraic_Kernel16Ideal_Reference16Ideal (hKernel16Ideal := Cert.Kernel16Ideal.Gen.facts)
    (hReference16Ideal := Cert.Reference16Ideal.Gen.facts) := fun m g m' g' _ he =>
  ⟨prod m, (θ_run Cert.Kernel16Ideal.defs _ _).mono (fun _ h c => ⟨(h c).1.trans (array_eq m c), (h c).2⟩)
      (Cert.Kernel16Ideal.Value.run_blocks (F := Ideal) m g),
    (θ_run Cert.Reference16Ideal.defs _ _).mono
      (fun _ h c => ⟨(h c).1.trans ((grad_eq _ _).trans (congrArg₂ nt (he c).1 (he c).2)), (h c).2⟩)
      (Cert.Reference16Ideal.Value.run (F := Ideal) m' g')⟩

theorem frame_kernel : Cert.quiescent_Kernel16 (hKernel16 := Cert.Kernel16.Gen.facts) := fun m ρ _ => Cert.Kernel16.Gen.frame m ρ

theorem frame_ideal : Cert.quiescent_Kernel16Ideal (hKernel16Ideal := Cert.Kernel16Ideal.Gen.facts) := fun m ρ _ =>
  Cert.Kernel16Ideal.Gen.frame m ρ

theorem frame_reference : Cert.quiescent_Reference16Ideal (hReference16Ideal := Cert.Reference16Ideal.Gen.facts) := fun m ρ _ =>
  (θ_run Cert.Reference16Ideal.defs _ _).mono
    (fun r h => ⟨fun c => (h c).2, sem_eq_zero_of_no_sems (by decide) r.2⟩) (Cert.Reference16Ideal.Value.run (F := Ideal) m ρ)

end Cert.Mm.FoxH

end
-- ==== Proof.Mm.PoolH.lean ====
/- The gradient of the pooled rows: the tiled product, each tile computed at one point, is the gradient of the reference's
   product in its rows. -/
module

public import proofs.«01_k».proof.Defs
public import proofs.«01_k».proof.Proof.Mm.Tile
public import proofs.«01_k».proof.Proof.Gen.Kernel17.Frame
public import proofs.«01_k».proof.Proof.Gen.Kernel17Ideal.Value
public import proofs.«01_k».proof.Proof.Gen.Reference17Ideal.Run

@[expose] public section

set_option maxRecDepth 16384

noncomputable section

namespace Cert.Mm.PoolH

open Idealize.ShloMosaic Idealize.ShloMosaic.TcCoe Idealize.ShloMosaic.Tactic Idealize.SL.Sem
open Cert.Kernel17Ideal Cert.Kernel17Ideal.Gen

variable (m : (ℓ : Loc nD τ sig) → Buf (Elt Ideal) ℓ) (c : Dev nD)

/-- The tile written out at a point: its two blocks' product, added to zero. -/
theorem out_eq (t : Fin cfg0.N) : outsAt0 m c t = k0_pay2 (k0_pay1 (F := Ideal)) (iblk m c 0 t) (iblk m c 1 t) := by
  unfold outsAt0 out0_A_2 kernelRun0_A
  dsimp only
  sl_unfold_words
  rw [read_fill, View.readCov_cons_toLoadRect, readCov_fill]
  simp only [View.readAt_eq_ld, (hs0_0 t).read_unread, (hs0_1 t).read_unread]
  rw [ld_fill, ld_fill]

theorem pay_at (x : Vec Ideal S1024x1024 .bf16) (y : Vec Ideal S512x1024 .bf16) (r : Fin 1024) (l : Fin 512) :
    k0_pay2 (k0_pay1 (F := Ideal)) x y (ix2 r l) = 0 + ∑ k : Fin 1024, x (ix2 r k) * y (ix2 l k) := by
  pointwise [k0_pay2, k0_pay1]

theorem index_eq : ∀ t : Fin cfg0.N,
    win0_0.index t = ![t.val, 0] ∧ win0_1.index t = ![0, 0] ∧ win0_2.index t = ![t.val, 0] :=
  (by decide +kernel : ∀ t : Fin grid0.N,
    win0_0.index t = ![t.val, 0] ∧ win0_1.index t = ![0, 0] ∧ win0_2.index t = ![t.val, 0])

/-- The product of the first argument with the transposed second. -/
abbrev prod : Mat 8192 512 :=
  nt (M := 8192) (K := 1024) (L := 512) (m ((c.tc : Thread nD τ).loc main_arg0)) (m ((c.tc : Thread nD τ).loc main_arg1))

theorem out_at (t : Fin cfg0.N) (r : Fin 1024) (l : Fin 512) :
    outsAt0 m c t (ix2 r l) = prod m c (((cfg0.win 2).blk t).view.emb (ix2 r l)) := by
  obtain ⟨e0, e1, e2⟩ := index_eq t
  rw [out_eq, pay_at]
  refine nt_tile (fun k => ?_) (fun k => ?_)
  · blk_ext [iblk, e0, e2]
  · blk_ext [iblk, e1, e2]

attribute [local irreducible] outsAt0 in
theorem array_eq : (dats m 0 c).arrAt 2 cfg0.N = prod m c := by
  refine (dats m 0 c).arrAt_eq_of_covers 2 (prod m c) (by decide +kernel) fun t _ y => ?_
  blk_simp
  rw [after0_2]
  obtain ⟨r, l, rfl⟩ : ∃ (r : Fin 1024) (l : Fin 512), y = ix2 r l := ⟨y 0, y 1, ext2 rfl rfl⟩
  exact out_at m c t r l

end Cert.Mm.PoolH

namespace Cert.Mm.PoolH

open Idealize.ShloMosaic Idealize.ShloMosaic.TcCoe Idealize.ShloMosaic.Tactic Idealize.SL.Sem

open Cert.Reference17Ideal Cert.Reference17Ideal.Gen in
/-- The reference's gradient of the rows. -/
theorem grad_eq (a : Vec Ideal S8192x1024 .bf16) (b : Vec Ideal S512x1024 .bf16) :
    (Host.dotGeneral (F := Ideal) dot_S8192x1024_S512x1024_S8192x512_1_1_0_0_n_n none (extf .f32 a bitsLt_bf16_f32)
      (extf .f32 b bitsLt_bf16_f32) : FVec Ideal S8192x512 .f32) = nt (M := 8192) (K := 1024) (L := 512) a b :=
  mat_ext fun r l => by pointwise [nt]

/-- The tiled product is the gradient of the reference's product in its rows. -/
theorem algebraic : Cert.algebraic_Kernel17Ideal_Reference17Ideal (hKernel17Ideal := Cert.Kernel17Ideal.Gen.facts)
    (hReference17Ideal := Cert.Reference17Ideal.Gen.facts) := fun m g m' g' _ he =>
  ⟨prod m, (θ_run Cert.Kernel17Ideal.defs _ _).mono (fun _ h c => ⟨(h c).1.trans (array_eq m c), (h c).2⟩)
      (Cert.Kernel17Ideal.Value.run_blocks (F := Ideal) m g),
    (θ_run Cert.Reference17Ideal.defs _ _).mono
      (fun _ h c => ⟨(h c).1.trans ((grad_eq _ _).trans (congrArg₂ nt (he c).1 (he c).2)), (h c).2⟩)
      (Cert.Reference17Ideal.Value.run (F := Ideal) m' g')⟩

theorem frame_kernel : Cert.quiescent_Kernel17 (hKernel17 := Cert.Kernel17.Gen.facts) := fun m ρ _ => Cert.Kernel17.Gen.frame m ρ

theorem frame_ideal : Cert.quiescent_Kernel17Ideal (hKernel17Ideal := Cert.Kernel17Ideal.Gen.facts) := fun m ρ _ =>
  Cert.Kernel17Ideal.Gen.frame m ρ

theorem frame_reference : Cert.quiescent_Reference17Ideal (hReference17Ideal := Cert.Reference17Ideal.Gen.facts) := fun m ρ _ =>
  (θ_run Cert.Reference17Ideal.defs _ _).mono
    (fun r h => ⟨fun c => (h c).2, sem_eq_zero_of_no_sems (by decide) r.2⟩) (Cert.Reference17Ideal.Value.run (F := Ideal) m ρ)

end Cert.Mm.PoolH

end
-- ==== Proof.Mm.MixH.lean ====
/- The gradient of the merged branches: the tiled product, each tile computed at one point, is the gradient of the reference's
   product in its rows. -/
module

public import proofs.«01_k».proof.Defs
public import proofs.«01_k».proof.Proof.Mm.Tile
public import proofs.«01_k».proof.Proof.Gen.Kernel18.Frame
public import proofs.«01_k».proof.Proof.Gen.Kernel18Ideal.Value
public import proofs.«01_k».proof.Proof.Gen.Reference18Ideal.Run

@[expose] public section

set_option maxRecDepth 16384

noncomputable section

namespace Cert.Mm.MixH

open Idealize.ShloMosaic Idealize.ShloMosaic.TcCoe Idealize.ShloMosaic.Tactic Idealize.SL.Sem
open Cert.Kernel18Ideal Cert.Kernel18Ideal.Gen

variable (m : (ℓ : Loc nD τ sig) → Buf (Elt Ideal) ℓ) (c : Dev nD)

/-- The tile written out at a point: its two blocks' product, added to zero. -/
theorem out_eq (t : Fin cfg0.N) : outsAt0 m c t = k0_pay2 (k0_pay1 (F := Ideal)) (iblk m c 0 t) (iblk m c 1 t) := by
  unfold outsAt0 out0_A_2 kernelRun0_A
  dsimp only
  sl_unfold_words
  rw [read_fill, View.readCov_cons_toLoadRect, readCov_fill]
  simp only [View.readAt_eq_ld, (hs0_0 t).read_unread, (hs0_1 t).read_unread]
  rw [ld_fill, ld_fill]

theorem pay_at (x : Vec Ideal S1024x1024 .bf16) (y : Vec Ideal S512x1024 .bf16) (r : Fin 1024) (l : Fin 512) :
    k0_pay2 (k0_pay1 (F := Ideal)) x y (ix2 r l) = 0 + ∑ k : Fin 1024, x (ix2 r k) * y (ix2 l k) := by
  pointwise [k0_pay2, k0_pay1]

theorem index_eq : ∀ t : Fin cfg0.N,
    win0_0.index t = ![t.val / 2, 0] ∧ win0_1.index t = ![t.val % 2, 0] ∧ win0_2.index t = ![t.val / 2, t.val % 2] :=
  (by decide +kernel : ∀ t : Fin grid0.N,
    win0_0.index t = ![t.val / 2, 0] ∧ win0_1.index t = ![t.val % 2, 0] ∧ win0_2.index t = ![t.val / 2, t.val % 2])

/-- The product of the first argument with the transposed second. -/
abbrev prod : Mat 8192 1024 :=
  nt (M := 8192) (K := 1024) (L := 1024) (m ((c.tc : Thread nD τ).loc main_arg0)) (m ((c.tc : Thread nD τ).loc main_arg1))

theorem out_at (t : Fin cfg0.N) (r : Fin 1024) (l : Fin 512) :
    outsAt0 m c t (ix2 r l) = prod m c (((cfg0.win 2).blk t).view.emb (ix2 r l)) := by
  obtain ⟨e0, e1, e2⟩ := index_eq t
  rw [out_eq, pay_at]
  refine nt_tile (fun k => ?_) (fun k => ?_)
  · blk_ext [iblk, e0, e2]
  · blk_ext [iblk, e1, e2]

attribute [local irreducible] outsAt0 in
theorem array_eq : (dats m 0 c).arrAt 2 cfg0.N = prod m c := by
  refine (dats m 0 c).arrAt_eq_of_covers 2 (prod m c) (by decide +kernel) fun t _ y => ?_
  blk_simp
  rw [after0_2]
  obtain ⟨r, l, rfl⟩ : ∃ (r : Fin 1024) (l : Fin 512), y = ix2 r l := ⟨y 0, y 1, ext2 rfl rfl⟩
  exact out_at m c t r l

end Cert.Mm.MixH

namespace Cert.Mm.MixH

open Idealize.ShloMosaic Idealize.ShloMosaic.TcCoe Idealize.ShloMosaic.Tactic Idealize.SL.Sem

open Cert.Reference18Ideal Cert.Reference18Ideal.Gen in
/-- The reference's gradient of the rows. -/
theorem grad_eq (a : Vec Ideal S8192x1024 .bf16) (b : Vec Ideal S1024x1024 .bf16) :
    (Host.dotGeneral (F := Ideal) dot_S8192x1024_S1024x1024_S8192x1024_1_1_0_0_n_n none (extf .f32 a bitsLt_bf16_f32)
      (extf .f32 b bitsLt_bf16_f32) : FVec Ideal S8192x1024 .f32) = nt (M := 8192) (K := 1024) (L := 1024) a b :=
  mat_ext fun r l => by pointwise [nt]

/-- The tiled product is the gradient of the reference's product in its rows. -/
theorem algebraic : Cert.algebraic_Kernel18Ideal_Reference18Ideal (hKernel18Ideal := Cert.Kernel18Ideal.Gen.facts)
    (hReference18Ideal := Cert.Reference18Ideal.Gen.facts) := fun m g m' g' _ he =>
  ⟨prod m, (θ_run Cert.Kernel18Ideal.defs _ _).mono (fun _ h c => ⟨(h c).1.trans (array_eq m c), (h c).2⟩)
      (Cert.Kernel18Ideal.Value.run_blocks (F := Ideal) m g),
    (θ_run Cert.Reference18Ideal.defs _ _).mono
      (fun _ h c => ⟨(h c).1.trans ((grad_eq _ _).trans (congrArg₂ nt (he c).1 (he c).2)), (h c).2⟩)
      (Cert.Reference18Ideal.Value.run (F := Ideal) m' g')⟩

theorem frame_kernel : Cert.quiescent_Kernel18 (hKernel18 := Cert.Kernel18.Gen.facts) := fun m ρ _ => Cert.Kernel18.Gen.frame m ρ

theorem frame_ideal : Cert.quiescent_Kernel18Ideal (hKernel18Ideal := Cert.Kernel18Ideal.Gen.facts) := fun m ρ _ =>
  Cert.Kernel18Ideal.Gen.frame m ρ

theorem frame_reference : Cert.quiescent_Reference18Ideal (hReference18Ideal := Cert.Reference18Ideal.Gen.facts) := fun m ρ _ =>
  (θ_run Cert.Reference18Ideal.defs _ _).mono
    (fun r h => ⟨fun c => (h c).2, sem_eq_zero_of_no_sems (by decide) r.2⟩) (Cert.Reference18Ideal.Value.run (F := Ideal) m ρ)

end Cert.Mm.MixH

end
-- ==== Proof.Mm.XqH.lean ====
/- The gradient of the rows that the cross-attention takes in: the tiled product, each tile computed at one point, is the gradient
   of the reference's product in its rows. -/
module

public import proofs.«01_k».proof.Defs
public import proofs.«01_k».proof.Proof.Mm.Tile
public import proofs.«01_k».proof.Proof.Gen.Kernel19.Frame
public import proofs.«01_k».proof.Proof.Gen.Kernel19Ideal.Value
public import proofs.«01_k».proof.Proof.Gen.Reference19Ideal.Run

@[expose] public section

set_option maxRecDepth 16384

noncomputable section

namespace Cert.Mm.XqH

open Idealize.ShloMosaic Idealize.ShloMosaic.TcCoe Idealize.ShloMosaic.Tactic Idealize.SL.Sem
open Cert.Kernel19Ideal Cert.Kernel19Ideal.Gen

variable (m : (ℓ : Loc nD τ sig) → Buf (Elt Ideal) ℓ) (c : Dev nD)

/-- The tile written out at a point: its two blocks' product, added to zero. -/
theorem out_eq (t : Fin cfg0.N) : outsAt0 m c t = k0_pay2 (k0_pay1 (F := Ideal)) (iblk m c 0 t) (iblk m c 1 t) := by
  unfold outsAt0 out0_A_2 kernelRun0_A
  dsimp only
  sl_unfold_words
  rw [read_fill, View.readCov_cons_toLoadRect, readCov_fill]
  simp only [View.readAt_eq_ld, (hs0_0 t).read_unread, (hs0_1 t).read_unread]
  rw [ld_fill, ld_fill]

theorem pay_at (x : Vec Ideal S1024x512 .bf16) (y : Vec Ideal S512x512 .bf16) (r : Fin 1024) (l : Fin 512) :
    k0_pay2 (k0_pay1 (F := Ideal)) x y (ix2 r l) = 0 + ∑ k : Fin 512, x (ix2 r k) * y (ix2 l k) := by
  pointwise [k0_pay2, k0_pay1]

theorem index_eq : ∀ t : Fin cfg0.N,
    win0_0.index t = ![t.val / 2, 0] ∧ win0_1.index t = ![t.val % 2, 0] ∧ win0_2.index t = ![t.val / 2, t.val % 2] :=
  (by decide +kernel : ∀ t : Fin grid0.N,
    win0_0.index t = ![t.val / 2, 0] ∧ win0_1.index t = ![t.val % 2, 0] ∧ win0_2.index t = ![t.val / 2, t.val % 2])

/-- The product of the first argument with the transposed second. -/
abbrev prod : Mat 8192 1024 :=
  nt (M := 8192) (K := 512) (L := 1024) (m ((c.tc : Thread nD τ).loc main_arg0)) (m ((c.tc : Thread nD τ).loc main_arg1))

theorem out_at (t : Fin cfg0.N) (r : Fin 1024) (l : Fin 512) :
    outsAt0 m c t (ix2 r l) = prod m c (((cfg0.win 2).blk t).view.emb (ix2 r l)) := by
  obtain ⟨e0, e1, e2⟩ := index_eq t
  rw [out_eq, pay_at]
  refine nt_tile (fun k => ?_) (fun k => ?_)
  · blk_ext [iblk, e0, e2]
  · blk_ext [iblk, e1, e2]

attribute [local irreducible] outsAt0 in
theorem array_eq : (dats m 0 c).arrAt 2 cfg0.N = prod m c := by
  refine (dats m 0 c).arrAt_eq_of_covers 2 (prod m c) (by decide +kernel) fun t _ y => ?_
  blk_simp
  rw [after0_2]
  obtain ⟨r, l, rfl⟩ : ∃ (r : Fin 1024) (l : Fin 512), y = ix2 r l := ⟨y 0, y 1, ext2 rfl rfl⟩
  exact out_at m c t r l

end Cert.Mm.XqH

namespace Cert.Mm.XqH

open Idealize.ShloMosaic Idealize.ShloMosaic.TcCoe Idealize.ShloMosaic.Tactic Idealize.SL.Sem

open Cert.Reference19Ideal Cert.Reference19Ideal.Gen in
/-- The reference's gradient of the rows. -/
theorem grad_eq (a : Vec Ideal S8192x512 .bf16) (b : Vec Ideal S1024x512 .bf16) :
    (Host.dotGeneral (F := Ideal) dot_S8192x512_S1024x512_S8192x1024_1_1_0_0_n_n none (extf .f32 a bitsLt_bf16_f32)
      (extf .f32 b bitsLt_bf16_f32) : FVec Ideal S8192x1024 .f32) = nt (M := 8192) (K := 512) (L := 1024) a b :=
  mat_ext fun r l => by pointwise [nt]

/-- The tiled product is the gradient of the reference's product in its rows. -/
theorem algebraic : Cert.algebraic_Kernel19Ideal_Reference19Ideal (hKernel19Ideal := Cert.Kernel19Ideal.Gen.facts)
    (hReference19Ideal := Cert.Reference19Ideal.Gen.facts) := fun m g m' g' _ he =>
  ⟨prod m, (θ_run Cert.Kernel19Ideal.defs _ _).mono (fun _ h c => ⟨(h c).1.trans (array_eq m c), (h c).2⟩)
      (Cert.Kernel19Ideal.Value.run_blocks (F := Ideal) m g),
    (θ_run Cert.Reference19Ideal.defs _ _).mono
      (fun _ h c => ⟨(h c).1.trans ((grad_eq _ _).trans (congrArg₂ nt (he c).1 (he c).2)), (h c).2⟩)
      (Cert.Reference19Ideal.Value.run (F := Ideal) m' g')⟩

theorem frame_kernel : Cert.quiescent_Kernel19 (hKernel19 := Cert.Kernel19.Gen.facts) := fun m ρ _ => Cert.Kernel19.Gen.frame m ρ

theorem frame_ideal : Cert.quiescent_Kernel19Ideal (hKernel19Ideal := Cert.Kernel19Ideal.Gen.facts) := fun m ρ _ =>
  Cert.Kernel19Ideal.Gen.frame m ρ

theorem frame_reference : Cert.quiescent_Reference19Ideal (hReference19Ideal := Cert.Reference19Ideal.Gen.facts) := fun m ρ _ =>
  (θ_run Cert.Reference19Ideal.defs _ _).mono
    (fun r h => ⟨fun c => (h c).2, sem_eq_zero_of_no_sems (by decide) r.2⟩) (Cert.Reference19Ideal.Value.run (F := Ideal) m ρ)

end Cert.Mm.XqH

end
-- ==== Proof.Mm.BranchF.lean ====
/- A branch of the token mixer brought to the width of the rows: the tiled product, each tile computed at one point, is the
   reference's product. -/
module

public import proofs.«01_k».proof.Defs
public import proofs.«01_k».proof.Proof.Mm.Tile
public import proofs.«01_k».proof.Proof.Gen.Kernel20.Frame
public import proofs.«01_k».proof.Proof.Gen.Kernel20Ideal.Value
public import proofs.«01_k».proof.Proof.Gen.Reference20Ideal.Run

@[expose] public section

set_option maxRecDepth 16384

noncomputable section

namespace Cert.Mm.BranchF

open Idealize.ShloMosaic Idealize.ShloMosaic.TcCoe Idealize.ShloMosaic.Tactic Idealize.SL.Sem
open Cert.Kernel20Ideal Cert.Kernel20Ideal.Gen

variable (m : (ℓ : Loc nD τ sig) → Buf (Elt Ideal) ℓ) (c : Dev nD)

/-- The tile written out at a point: its two blocks' product, added to zero. -/
theorem out_eq (t : Fin cfg0.N) : outsAt0 m c t = k0_pay2 (k0_pay1 (F := Ideal)) (iblk m c 0 t) (iblk m c 1 t) := by
  unfold outsAt0 out0_A_2 kernelRun0_A
  dsimp only
  sl_unfold_words
  rw [read_fill, View.readCov_cons_toLoadRect, readCov_fill]
  simp only [View.readAt_eq_ld, (hs0_0 t).read_unread, (hs0_1 t).read_unread]
  rw [ld_fill, ld_fill]

theorem pay_at (x : Vec Ideal S1024x512 .bf16) (y : Vec Ideal S512x512 .bf16) (r : Fin 1024) (l : Fin 512) :
    k0_pay2 (k0_pay1 (F := Ideal)) x y (ix2 r l) = 0 + ∑ k : Fin 512, x (ix2 r k) * y (ix2 k l) := by
  pointwise [k0_pay2, k0_pay1]

theorem index_eq : ∀ t : Fin cfg0.N,
    win0_0.index t = ![t.val / 2, 0] ∧ win0_1.index t = ![0, t.val % 2] ∧ win0_2.index t = ![t.val / 2, t.val % 2] :=
  (by decide +kernel : ∀ t : Fin grid0.N,
    win0_0.index t = ![t.val / 2, 0] ∧ win0_1.index t = ![0, t.val % 2] ∧ win0_2.index t = ![t.val / 2, t.val % 2])

/-- The product of the two arguments. -/
abbrev prod : Mat 8192 1024 :=
  nn (M := 8192) (K := 512) (L := 1024) (m ((c.tc : Thread nD τ).loc main_arg0)) (m ((c.tc : Thread nD τ).loc main_arg1))

theorem out_at (t : Fin cfg0.N) (r : Fin 1024) (l : Fin 512) :
    outsAt0 m c t (ix2 r l) = prod m c (((cfg0.win 2).blk t).view.emb (ix2 r l)) := by
  obtain ⟨e0, e1, e2⟩ := index_eq t
  rw [out_eq, pay_at]
  refine nn_tile (fun k => ?_) (fun k => ?_)
  · blk_ext [iblk, e0, e2]
  · blk_ext [iblk, e1, e2]

attribute [local irreducible] outsAt0 in
theorem array_eq : (dats m 0 c).arrAt 2 cfg0.N = prod m c := by
  refine (dats m 0 c).arrAt_eq_of_covers 2 (prod m c) (by decide +kernel) fun t _ y => ?_
  blk_simp
  rw [after0_2]
  obtain ⟨r, l, rfl⟩ : ∃ (r : Fin 1024) (l : Fin 512), y = ix2 r l := ⟨y 0, y 1, ext2 rfl rfl⟩
  exact out_at m c t r l

end Cert.Mm.BranchF

namespace Cert.Mm.BranchF

open Idealize.ShloMosaic Idealize.ShloMosaic.TcCoe Idealize.ShloMosaic.Tactic Idealize.SL.Sem

open Cert.Reference20Ideal Cert.Reference20Ideal.Gen in
/-- The reference's product. -/
theorem value_eq (a : Vec Ideal S8192x512 .bf16) (b : Vec Ideal S512x1024 .bf16) :
    (Host.dotGeneral (F := Ideal) dot_S8192x512_S512x1024_S8192x1024_1_0_0_1_n_n none (extf .f32 a bitsLt_bf16_f32)
      (extf .f32 b bitsLt_bf16_f32) : FVec Ideal S8192x1024 .f32) = nn (M := 8192) (K := 512) (L := 1024) a b :=
  mat_ext fun r l => by pointwise [nn]

/-- The tiled product is the reference's product. -/
theorem algebraic : Cert.algebraic_Kernel20Ideal_Reference20Ideal (hKernel20Ideal := Cert.Kernel20Ideal.Gen.facts)
    (hReference20Ideal := Cert.Reference20Ideal.Gen.facts) := fun m g m' g' _ he =>
  ⟨prod m, (θ_run Cert.Kernel20Ideal.defs _ _).mono (fun _ h c => ⟨(h c).1.trans (array_eq m c), (h c).2⟩)
      (Cert.Kernel20Ideal.Value.run_blocks (F := Ideal) m g),
    (θ_run Cert.Reference20Ideal.defs _ _).mono
      (fun _ h c => ⟨(h c).1.trans ((value_eq _ _).trans (congrArg₂ nn (he c).1 (he c).2)), (h c).2⟩)
      (Cert.Reference20Ideal.Value.run (F := Ideal) m' g')⟩

theorem frame_kernel : Cert.quiescent_Kernel20 (hKernel20 := Cert.Kernel20.Gen.facts) := fun m ρ _ => Cert.Kernel20.Gen.frame m ρ

theorem frame_ideal : Cert.quiescent_Kernel20Ideal (hKernel20Ideal := Cert.Kernel20Ideal.Gen.facts) := fun m ρ _ =>
  Cert.Kernel20Ideal.Gen.frame m ρ

theorem frame_reference : Cert.quiescent_Reference20Ideal (hReference20Ideal := Cert.Reference20Ideal.Gen.facts) := fun m ρ _ =>
  (θ_run Cert.Reference20Ideal.defs _ _).mono
    (fun r h => ⟨fun c => (h c).2, sem_eq_zero_of_no_sems (by decide) r.2⟩) (Cert.Reference20Ideal.Value.run (F := Ideal) m ρ)

end Cert.Mm.BranchF

end
-- ==== Proof.Mm.MixF.lean ====
/- The token mixer's last product: the tiled product, each tile computed at one point, is the reference's product. -/
module

public import proofs.«01_k».proof.Defs
public import proofs.«01_k».proof.Proof.Mm.Tile
public import proofs.«01_k».proof.Proof.Gen.Kernel21.Frame
public import proofs.«01_k».proof.Proof.Gen.Kernel21Ideal.Value
public import proofs.«01_k».proof.Proof.Gen.Reference21Ideal.Run

@[expose] public section

set_option maxRecDepth 16384

noncomputable section

namespace Cert.Mm.MixF

open Idealize.ShloMosaic Idealize.ShloMosaic.TcCoe Idealize.ShloMosaic.Tactic Idealize.SL.Sem
open Cert.Kernel21Ideal Cert.Kernel21Ideal.Gen

variable (m : (ℓ : Loc nD τ sig) → Buf (Elt Ideal) ℓ) (c : Dev nD)

/-- The tile written out at a point: its two blocks' product, added to zero. -/
theorem out_eq (t : Fin cfg0.N) : outsAt0 m c t = k0_pay2 (k0_pay1 (F := Ideal)) (iblk m c 0 t) (iblk m c 1 t) := by
  unfold outsAt0 out0_A_2 kernelRun0_A
  dsimp only
  sl_unfold_words
  rw [read_fill, View.readCov_cons_toLoadRect, readCov_fill]
  simp only [View.readAt_eq_ld, (hs0_0 t).read_unread, (hs0_1 t).read_unread]
  rw [ld_fill, ld_fill]

theorem pay_at (x : Vec Ideal S1024x1024 .bf16) (y : Vec Ideal S1024x512 .bf16) (r : Fin 1024) (l : Fin 512) :
    k0_pay2 (k0_pay1 (F := Ideal)) x y (ix2 r l) = 0 + ∑ k : Fin 1024, x (ix2 r k) * y (ix2 k l) := by
  pointwise [k0_pay2, k0_pay1]

theorem index_eq : ∀ t : Fin cfg0.N,
    win0_0.index t = ![t.val / 2, 0] ∧ win0_1.index t = ![0, t.val % 2] ∧ win0_2.index t = ![t.val / 2, t.val % 2] :=
  (by decide +kernel : ∀ t : Fin grid0.N,
    win0_0.index t = ![t.val / 2, 0] ∧ win0_1.index t = ![0, t.val % 2] ∧ win0_2.index t = ![t.val / 2, t.val % 2])

/-- The product of the two arguments. -/
abbrev prod : Mat 8192 1024 :=
  nn (M := 8192) (K := 1024) (L := 1024) (m ((c.tc : Thread nD τ).loc main_arg0)) (m ((c.tc : Thread nD τ).loc main_arg1))

theorem out_at (t : Fin cfg0.N) (r : Fin 1024) (l : Fin 512) :
    outsAt0 m c t (ix2 r l) = prod m c (((cfg0.win 2).blk t).view.emb (ix2 r l)) := by
  obtain ⟨e0, e1, e2⟩ := index_eq t
  rw [out_eq, pay_at]
  refine nn_tile (fun k => ?_) (fun k => ?_)
  · blk_ext [iblk, e0, e2]
  · blk_ext [iblk, e1, e2]

attribute [local irreducible] outsAt0 in
theorem array_eq : (dats m 0 c).arrAt 2 cfg0.N = prod m c := by
  refine (dats m 0 c).arrAt_eq_of_covers 2 (prod m c) (by decide +kernel) fun t _ y => ?_
  blk_simp
  rw [after0_2]
  obtain ⟨r, l, rfl⟩ : ∃ (r : Fin 1024) (l : Fin 512), y = ix2 r l := ⟨y 0, y 1, ext2 rfl rfl⟩
  exact out_at m c t r l

end Cert.Mm.MixF

namespace Cert.Mm.MixF

open Idealize.ShloMosaic Idealize.ShloMosaic.TcCoe Idealize.ShloMosaic.Tactic Idealize.SL.Sem

open Cert.Reference21Ideal Cert.Reference21Ideal.Gen in
/-- The reference's product. -/
theorem value_eq (a : Vec Ideal S8192x1024 .bf16) (b : Vec Ideal S1024x1024 .bf16) :
    (Host.dotGeneral (F := Ideal) dot_S8192x1024_S1024x1024_S8192x1024_1_0_0_1_n_n none (extf .f32 a bitsLt_bf16_f32)
      (extf .f32 b bitsLt_bf16_f32) : FVec Ideal S8192x1024 .f32) = nn (M := 8192) (K := 1024) (L := 1024) a b :=
  mat_ext fun r l => by pointwise [nn]

/-- The tiled product is the reference's product. -/
theorem algebraic : Cert.algebraic_Kernel21Ideal_Reference21Ideal (hKernel21Ideal := Cert.Kernel21Ideal.Gen.facts)
    (hReference21Ideal := Cert.Reference21Ideal.Gen.facts) := fun m g m' g' _ he =>
  ⟨prod m, (θ_run Cert.Kernel21Ideal.defs _ _).mono (fun _ h c => ⟨(h c).1.trans (array_eq m c), (h c).2⟩)
      (Cert.Kernel21Ideal.Value.run_blocks (F := Ideal) m g),
    (θ_run Cert.Reference21Ideal.defs _ _).mono
      (fun _ h c => ⟨(h c).1.trans ((value_eq _ _).trans (congrArg₂ nn (he c).1 (he c).2)), (h c).2⟩)
      (Cert.Reference21Ideal.Value.run (F := Ideal) m' g')⟩

theorem frame_kernel : Cert.quiescent_Kernel21 (hKernel21 := Cert.Kernel21.Gen.facts) := fun m ρ _ => Cert.Kernel21.Gen.frame m ρ

theorem frame_ideal : Cert.quiescent_Kernel21Ideal (hKernel21Ideal := Cert.Kernel21Ideal.Gen.facts) := fun m ρ _ =>
  Cert.Kernel21Ideal.Gen.frame m ρ

theorem frame_reference : Cert.quiescent_Reference21Ideal (hReference21Ideal := Cert.Reference21Ideal.Gen.facts) := fun m ρ _ =>
  (θ_run Cert.Reference21Ideal.defs _ _).mono
    (fun r h => ⟨fun c => (h c).2, sem_eq_zero_of_no_sems (by decide) r.2⟩) (Cert.Reference21Ideal.Value.run (F := Ideal) m ρ)

end Cert.Mm.MixF

end
-- ==== Proof.Mm.XqF.lean ====
/- The queries of the cross-attention: the tiled product, each tile computed at one point, is the reference's product. -/
module

public import proofs.«01_k».proof.Defs
public import proofs.«01_k».proof.Proof.Mm.Tile
public import proofs.«01_k».proof.Proof.Gen.Kernel22.Frame
public import proofs.«01_k».proof.Proof.Gen.Kernel22Ideal.Value
public import proofs.«01_k».proof.Proof.Gen.Reference22Ideal.Run

@[expose] public section

set_option maxRecDepth 16384

noncomputable section

namespace Cert.Mm.XqF

open Idealize.ShloMosaic Idealize.ShloMosaic.TcCoe Idealize.ShloMosaic.Tactic Idealize.SL.Sem
open Cert.Kernel22Ideal Cert.Kernel22Ideal.Gen

variable (m : (ℓ : Loc nD τ sig) → Buf (Elt Ideal) ℓ) (c : Dev nD)

/-- The tile written out at a point: its two blocks' product, added to zero and rounded. -/
theorem out_eq (t : Fin cfg0.N) :
    outsAt0 m c t = k0_pay3 (k0_pay2 (k0_pay1 (F := Ideal)) (iblk m c 0 t) (iblk m c 1 t)) := by
  unfold outsAt0 out0_A_2 kernelRun0_A
  dsimp only
  sl_unfold_words
  rw [read_fill, View.readCov_cons_toLoadRect, readCov_fill]
  simp only [View.readAt_eq_ld, (hs0_0 t).read_unread, (hs0_1 t).read_unread]
  rw [ld_fill, ld_fill]

/-- Over the extended reals the rounding changes nothing. -/
theorem pay_at (x : Vec Ideal S1024x1024 .bf16) (y : Vec Ideal S1024x512 .bf16) (r : Fin 1024) (l : Fin 512) :
    k0_pay3 (k0_pay2 (k0_pay1 (F := Ideal)) x y) (ix2 r l) = 0 + ∑ k : Fin 1024, x (ix2 r k) * y (ix2 k l) := by
  pointwise [k0_pay3, k0_pay2, k0_pay1]

theorem index_eq : ∀ t : Fin cfg0.N,
    win0_0.index t = ![t.val, 0] ∧ win0_1.index t = ![0, 0] ∧ win0_2.index t = ![t.val, 0] :=
  (by decide +kernel : ∀ t : Fin grid0.N,
    win0_0.index t = ![t.val, 0] ∧ win0_1.index t = ![0, 0] ∧ win0_2.index t = ![t.val, 0])

/-- The product of the two arguments. -/
abbrev prod : Mat 8192 512 :=
  nn (M := 8192) (K := 1024) (L := 512) (m ((c.tc : Thread nD τ).loc main_arg0)) (m ((c.tc : Thread nD τ).loc main_arg1))

theorem out_at (t : Fin cfg0.N) (r : Fin 1024) (l : Fin 512) :
    outsAt0 m c t (ix2 r l) = prod m c (((cfg0.win 2).blk t).view.emb (ix2 r l)) := by
  obtain ⟨e0, e1, e2⟩ := index_eq t
  rw [out_eq, pay_at]
  refine nn_tile (fun k => ?_) (fun k => ?_)
  · blk_ext [iblk, e0, e2]
  · blk_ext [iblk, e1, e2]

attribute [local irreducible] outsAt0 in
theorem array_eq : (dats m 0 c).arrAt 2 cfg0.N = prod m c := by
  refine (dats m 0 c).arrAt_eq_of_covers 2 (prod m c) (by decide +kernel) fun t _ y => ?_
  blk_simp
  rw [after0_2]
  obtain ⟨r, l, rfl⟩ : ∃ (r : Fin 1024) (l : Fin 512), y = ix2 r l := ⟨y 0, y 1, ext2 rfl rfl⟩
  exact out_at m c t r l

end Cert.Mm.XqF

namespace Cert.Mm.XqF

open Idealize.ShloMosaic Idealize.ShloMosaic.TcCoe Idealize.ShloMosaic.Tactic Idealize.SL.Sem

open Cert.Reference22Ideal Cert.Reference22Ideal.Gen in
/-- The reference's product, rounded. -/
theorem value_eq (a : Vec Ideal S8192x1024 .bf16) (b : Vec Ideal S1024x512 .bf16) :
    (truncf .bf16 (Host.dotGeneral (F := Ideal) dot_S8192x1024_S1024x512_S8192x512_1_0_0_1_n_n none (extf .f32 a bitsLt_bf16_f32)
      (extf .f32 b bitsLt_bf16_f32)) bitsLt_bf16_f32 : FVec Ideal S8192x512 .bf16) = nn (M := 8192) (K := 1024) (L := 512) a b :=
  mat_ext fun r l => by pointwise [nn]

/-- The tiled product is the reference's product. -/
theorem algebraic : Cert.algebraic_Kernel22Ideal_Reference22Ideal (hKernel22Ideal := Cert.Kernel22Ideal.Gen.facts)
    (hReference22Ideal := Cert.Reference22Ideal.Gen.facts) := fun m g m' g' _ he =>
  ⟨prod m, (θ_run Cert.Kernel22Ideal.defs _ _).mono (fun _ h c => ⟨(h c).1.trans (array_eq m c), (h c).2⟩)
      (Cert.Kernel22Ideal.Value.run_blocks (F := Ideal) m g),
    (θ_run Cert.Reference22Ideal.defs _ _).mono
      (fun _ h c => ⟨(h c).1.trans ((value_eq _ _).trans (congrArg₂ nn (he c).1 (he c).2)), (h c).2⟩)
      (Cert.Reference22Ideal.Value.run (F := Ideal) m' g')⟩

theorem frame_kernel : Cert.quiescent_Kernel22 (hKernel22 := Cert.Kernel22.Gen.facts) := fun m ρ _ => Cert.Kernel22.Gen.frame m ρ

theorem frame_ideal : Cert.quiescent_Kernel22Ideal (hKernel22Ideal := Cert.Kernel22Ideal.Gen.facts) := fun m ρ _ =>
  Cert.Kernel22Ideal.Gen.frame m ρ

theorem frame_reference : Cert.quiescent_Reference22Ideal (hReference22Ideal := Cert.Reference22Ideal.Gen.facts) := fun m ρ _ =>
  (θ_run Cert.Reference22Ideal.defs _ _).mono
    (fun r h => ⟨fun c => (h c).2, sem_eq_zero_of_no_sems (by decide) r.2⟩) (Cert.Reference22Ideal.Value.run (F := Ideal) m ρ)

end Cert.Mm.XqF

end
-- ==== Proof.lean ====
/- The certificate of the forgetting attention's backward call (Proof/Fox), of the gates' backward call (Proof/Gate) and of
   the products of the backward and the forward pass (Proof/Mm): the runs and frames of the calls and of their references, and what the calls compute. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Value
public import proofs.«01_k».proof.Proof.Gen.Reference22Ideal
public import proofs.«01_k».proof.Proof.Gen.Reference22Ideal.Run
public import proofs.«01_k».proof.Proof.Fox.Frame
public import proofs.«01_k».proof.Proof.Fox.Same
public import proofs.«01_k».proof.Proof.Fox.Value
public import proofs.«01_k».proof.Proof.Mm.UpW
public import proofs.«01_k».proof.Proof.Mm.UpH
public import proofs.«01_k».proof.Proof.Mm.InW
public import proofs.«01_k».proof.Proof.Mm.InH
public import proofs.«01_k».proof.Proof.Mm.DownW
public import proofs.«01_k».proof.Proof.Mm.DownH
public import proofs.«01_k».proof.Proof.Gate
public import proofs.«01_k».proof.Proof.Mm.UpF
public import proofs.«01_k».proof.Proof.Mm.QkvF
public import proofs.«01_k».proof.Proof.Mm.GateF
public import proofs.«01_k».proof.Proof.Mm.DownF
public import proofs.«01_k».proof.Proof.Mm.FoxW
public import proofs.«01_k».proof.Proof.Mm.MixW
public import proofs.«01_k».proof.Proof.Mm.XqW
public import proofs.«01_k».proof.Proof.Mm.FoxH
public import proofs.«01_k».proof.Proof.Mm.PoolH
public import proofs.«01_k».proof.Proof.Mm.MixH
public import proofs.«01_k».proof.Proof.Mm.XqH
public import proofs.«01_k».proof.Proof.Mm.BranchF
public import proofs.«01_k».proof.Proof.Mm.MixF
public import proofs.«01_k».proof.Proof.Mm.XqF
public import Idealize.ShloMosaic.Adequacy
public import Idealize.ShloMosaic.Init
public import Idealize.ShloMosaic.Lib.Quiescent

@[expose] public section

noncomputable section

namespace Cert.Proof

open Idealize.ShloMosaic Idealize.SL.Sem

/-- The kernel read over the extended reals runs to its end and leaves its arguments as it found them. -/
theorem frame_ideal [Cert.KernelIdeal.Facts] : Cert.quiescent_KernelIdeal := fun m ρ _ => Cert.Fox.frame (F := Ideal) m ρ

/-- The reference runs to its end and leaves its arguments as it found them; it has no semaphore. -/
theorem frame_reference [Cert.ReferenceIdeal.Facts] : Cert.quiescent_ReferenceIdeal := fun m ρ _ =>
  (θ_run Cert.ReferenceIdeal.defs _ _).mono
    (fun r h => ⟨fun c => (h c).2.2.2.2, sem_eq_zero_of_no_sems (by decide) r.2⟩) (Cert.ReferenceIdeal.Value.run (F := Ideal) m ρ)

/-- Both run to their ends where the precondition holds, as they do everywhere. -/
theorem frame_ideal_pre [Cert.KernelIdeal.Facts] [Cert.Pre_finite.Facts] : Cert.quiescent_KernelIdeal_pre_finite :=
  fun m ρ _ => frame_ideal m ρ trivial

theorem frame_reference_pre [Cert.ReferenceIdeal.Facts] [Cert.Pre_finite.Facts] : Cert.quiescent_ReferenceIdeal_pre_finite :=
  fun m ρ _ => frame_reference m ρ trivial

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Fox.pre_facts,
  Cert.Fox.frame_kernel, frame_ideal, @frame_ideal_pre _ Cert.Fox.pre_facts, frame_reference, @frame_reference_pre _ Cert.Fox.pre_facts,
  Cert.Mm.UpW.frame_kernel, Cert.Mm.UpW.frame_ideal, Cert.Mm.UpW.frame_reference,
  Cert.Mm.UpH.frame_kernel, Cert.Mm.UpH.frame_ideal, Cert.Mm.UpH.frame_reference,
  Cert.Mm.InW.frame_kernel, Cert.Mm.InW.frame_ideal, Cert.Mm.InW.frame_reference,
  Cert.Mm.InH.frame_kernel, Cert.Mm.InH.frame_ideal, Cert.Mm.InH.frame_reference,
  Cert.Mm.DownW.frame_kernel, Cert.Mm.DownW.frame_ideal, Cert.Mm.DownW.frame_reference,
  Cert.Mm.DownH.frame_kernel, Cert.Mm.DownH.frame_ideal, Cert.Mm.DownH.frame_reference,
  Cert.Gate.frame_kernel, Cert.Gate.frame_ideal, Cert.Gate.frame_reference,
  Cert.Mm.UpF.frame_kernel, Cert.Mm.UpF.frame_ideal, Cert.Mm.UpF.frame_reference,
  Cert.Mm.QkvF.frame_kernel, Cert.Mm.QkvF.frame_ideal, Cert.Mm.QkvF.frame_reference,
  Cert.Mm.GateF.frame_kernel, Cert.Mm.GateF.frame_ideal, Cert.Mm.GateF.frame_reference,
  Cert.Mm.DownF.frame_kernel, Cert.Mm.DownF.frame_ideal, Cert.Mm.DownF.frame_reference,
  Cert.Mm.FoxW.frame_kernel, Cert.Mm.FoxW.frame_ideal, Cert.Mm.FoxW.frame_reference,
  Cert.Mm.MixW.frame_kernel, Cert.Mm.MixW.frame_ideal, Cert.Mm.MixW.frame_reference,
  Cert.Mm.XqW.frame_kernel, Cert.Mm.XqW.frame_ideal, Cert.Mm.XqW.frame_reference,
  Cert.Mm.FoxH.frame_kernel, Cert.Mm.FoxH.frame_ideal, Cert.Mm.FoxH.frame_reference,
  Cert.Mm.PoolH.frame_kernel, Cert.Mm.PoolH.frame_ideal, Cert.Mm.PoolH.frame_reference,
  Cert.Mm.MixH.frame_kernel, Cert.Mm.MixH.frame_ideal, Cert.Mm.MixH.frame_reference,
  Cert.Mm.XqH.frame_kernel, Cert.Mm.XqH.frame_ideal, Cert.Mm.XqH.frame_reference,
  Cert.Mm.BranchF.frame_kernel, Cert.Mm.BranchF.frame_ideal, Cert.Mm.BranchF.frame_reference,
  Cert.Mm.MixF.frame_kernel, Cert.Mm.MixF.frame_ideal, Cert.Mm.MixF.frame_reference,
  Cert.Mm.XqF.frame_kernel, Cert.Mm.XqF.frame_ideal, Cert.Mm.XqF.frame_reference,
  trivial, @Cert.Fox.algebraic Cert.Fox.pre_facts,
  trivial, Cert.Mm.UpW.algebraic,
  trivial, Cert.Mm.UpH.algebraic,
  trivial, Cert.Mm.InW.algebraic,
  trivial, Cert.Mm.InH.algebraic,
  trivial, Cert.Mm.DownW.algebraic,
  trivial, Cert.Mm.DownH.algebraic,
  trivial, Cert.Gate.algebraic,
  trivial, Cert.Mm.UpF.algebraic,
  trivial, Cert.Mm.QkvF.algebraic,
  trivial, Cert.Mm.GateF.algebraic,
  trivial, Cert.Mm.DownF.algebraic,
  trivial, Cert.Mm.FoxW.algebraic,
  trivial, Cert.Mm.MixW.algebraic,
  trivial, Cert.Mm.XqW.algebraic,
  trivial, Cert.Mm.FoxH.algebraic,
  trivial, Cert.Mm.PoolH.algebraic,
  trivial, Cert.Mm.MixH.algebraic,
  trivial, Cert.Mm.XqH.algebraic,
  trivial, Cert.Mm.BranchF.algebraic,
  trivial, Cert.Mm.MixF.algebraic,
  trivial, Cert.Mm.XqF.algebraic⟩

end Cert.Proof

end
